-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_dispatched [hPre_dispatched : Cert.Pre_dispatched.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_dispatched.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_dispatched [hPre_dispatched : Cert.Pre_dispatched.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_dispatched.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_gate [hPre_finite_gate : Cert.Pre_finite_gate.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_gate.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_gate [hPre_finite_gate : Cert.Pre_finite_gate.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_gate.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_dispatched [hKernel2Ideal : Cert.Kernel2Ideal.Facts] [hPre_dispatched : Cert.Pre_dispatched.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_dispatched m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_dispatched [hReference2Ideal : Cert.Reference2Ideal.Facts] [hPre_dispatched : Cert.Pre_dispatched.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_dispatched m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_gate [hKernel3Ideal : Cert.Kernel3Ideal.Facts] [hPre_finite_gate : Cert.Pre_finite_gate.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_gate m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_gate [hReference3Ideal : Cert.Reference3Ideal.Facts] [hPre_finite_gate : Cert.Pre_finite_gate.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_gate m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_dispatched [hKernel2Ideal : Cert.Kernel2Ideal.Facts] [hReference2Ideal : Cert.Reference2Ideal.Facts] [hPre_dispatched : Cert.Pre_dispatched.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_dispatched m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v43)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v43) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v140) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_gate [hKernel3Ideal : Cert.Kernel3Ideal.Facts] [hReference3Ideal : Cert.Reference3Ideal.Facts] [hPre_finite_gate : Cert.Pre_finite_gate.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_gate m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_dispatched : Cert.Pre_dispatched.Facts) (hPre_finite_gate : Cert.Pre_finite_gate.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_dispatched (hKernel2Ideal := hKernel2Ideal) (hPre_dispatched := hPre_dispatched)
    ∧ quiescent_Reference2Ideal (hReference2Ideal := hReference2Ideal)
    ∧ quiescent_Reference2Ideal_pre_dispatched (hReference2Ideal := hReference2Ideal) (hPre_dispatched := hPre_dispatched)
    ∧ quiescent_Kernel3 (hKernel3 := hKernel3)
    ∧ quiescent_Kernel3Ideal (hKernel3Ideal := hKernel3Ideal)
    ∧ quiescent_Kernel3Ideal_pre_finite_gate (hKernel3Ideal := hKernel3Ideal) (hPre_finite_gate := hPre_finite_gate)
    ∧ quiescent_Reference3Ideal (hReference3Ideal := hReference3Ideal)
    ∧ quiescent_Reference3Ideal_pre_finite_gate (hReference3Ideal := hReference3Ideal) (hPre_finite_gate := hPre_finite_gate)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_dispatched (hKernel2Ideal := hKernel2Ideal) (hReference2Ideal := hReference2Ideal) (hPre_dispatched := hPre_dispatched)
    ∧ preserves_Kernel3_Kernel3Ideal
    ∧ algebraic_Kernel3Ideal_Reference3Ideal_pre_finite_gate (hKernel3Ideal := hKernel3Ideal) (hReference3Ideal := hReference3Ideal) (hPre_finite_gate := hPre_finite_gate)
-- ==== Pre_dispatched.lean ====
abbrev S40960x1024 : Shape := ⟨2, ![40960, 1024]⟩
abbrev S8 : Shape := ⟨1, ![8]⟩
abbrev S2x8x1024x3584 : Shape := ⟨4, ![2, 8, 1024, 3584]⟩
abbrev S2x8x3584x1024 : Shape := ⟨4, ![2, 8, 3584, 1024]⟩
abbrev S_ : Shape := ⟨0, ![]⟩
abbrev S1x8x1024x3584 : Shape := ⟨4, ![1, 8, 1024, 3584]⟩
abbrev S40960 : Shape := ⟨1, ![40960]⟩
abbrev S40960x1 : Shape := ⟨2, ![40960, 1]⟩
abbrev S1x8 : Shape := ⟨2, ![1, 8]⟩
abbrev S40960x8 : Shape := ⟨2, ![40960, 8]⟩

class Facts : Prop where
  bcast_S_S8 : S_.BroadcastsInDim S8 (![] : Fin 0 → Fin S8.rank)
  reducesTo_S8_S_d0 : S8.ReducesTo [0] S_
  h_S_ : 0 < S_.numel
  slices_S2x8x1024x3584_S1x8x1024x3584_0_0_0_0 : S2x8x1024x3584.Slices ![0, 0, 0, 0] S1x8x1024x3584
  bcast_S_S1x8x1024x3584 : S_.BroadcastsInDim S1x8x1024x3584 (![] : Fin 0 → Fin S1x8x1024x3584.rank)
  reducesTo_S1x8x1024x3584_S_d0_1_2_3 : S1x8x1024x3584.ReducesTo [0, 1, 2, 3] S_
  bcast_S_S_ : S_.BroadcastsInDim S_ (![] : Fin 0 → Fin S_.rank)
  reduceWindows_S8_S8_w8s1p7_0 : S8.ReduceWindows (![8] : Fin 1 → Nat) ![1] ![7] ![0] S8
  bcast_S40960_S40960x1_0 : S40960.BroadcastsInDim S40960x1 (![0] : Fin 1 → Fin S40960x1.rank)
  bcast_S8_S1x8_1 : S8.BroadcastsInDim S1x8 (![1] : Fin 1 → Fin S1x8.rank)
  bcast_S40960x1_S40960x8_0_1 : S40960x1.BroadcastsInDim S40960x8 (![0, 1] : Fin 2 → Fin S40960x8.rank)
  bcast_S1x8_S40960x8_0_1 : S1x8.BroadcastsInDim S40960x8 (![0, 1] : Fin 2 → Fin S40960x8.rank)
  natLt_1_32 : 1 < 32
  reducesTo_S40960x8_S40960_d1 : S40960x8.ReducesTo [1] S40960
  bcast_S_S40960 : S_.BroadcastsInDim S40960 (![] : Fin 0 → Fin S40960.rank)
  bcast_S_S40960x1024 : S_.BroadcastsInDim S40960x1024 (![] : Fin 0 → Fin S40960x1024.rank)
  bcast_S40960x1_S40960x1024_0_1 : S40960x1.BroadcastsInDim S40960x1024 (![0, 1] : Fin 2 → Fin S40960x1024.rank)

variable [Facts]

def fn_where {F : FTy → Type} [FloatOps F] (arg0 : IVec S8 1) (arg1 : IVec S8 32) (arg2 : IVec S8 32) : IVec S8 32 :=
  let v0 : IVec S8 32 := select arg0 arg1 arg2
  v0

def fn_floor_divide {F : FTy → Type} [FloatOps F] (arg0 : IVec S8 32) (arg1 : IVec S_ 32) : IVec S8 32 :=
  let v0 : IVec S_ 32 := id arg1
  let v1 : IVec S8 32 := broadcastInDim S8 ![] bcast_S_S8 v0
  let v2 : IVec S8 32 := Host.divsi arg0 v1
  let v3 : IVec S8 32 := signi arg0
  let v4 : IVec S_ 32 := signi v0
  let v5 : IVec S8 32 := broadcastInDim S8 ![] bcast_S_S8 v4
  let v6 : IVec S8 1 := cmpi .ne v3 v5
  let v7 : IVec S8 32 := broadcastInDim S8 ![] bcast_S_S8 v0
  let v8 : IVec S8 32 := Host.remsi arg0 v7
  let c : IVec S_ 32 := constantI S_ 32 0#32
  let v9 : IVec S8 32 := broadcastInDim S8 ![] bcast_S_S8 c
  let v10 : IVec S8 1 := cmpi .ne v8 v9
  let v11 : IVec S8 1 := andi v6 v10
  let c_0 : IVec S_ 32 := constantI S_ 32 1#32
  let v12 : IVec S8 32 := broadcastInDim S8 ![] bcast_S_S8 c_0
  let v13 : IVec S8 32 := subi v2 v12
  let v14 : IVec S8 32 := fn_where (F := F) v11 v13 v2
  v14

def fn_cumsum_0 {F : FTy → Type} [FloatOps F] (arg0 : IVec S8 32) : IVec S8 32 :=
  let c : IVec S_ 32 := constantI S_ 32 0#32
  let v0 : IVec S_ 32 := broadcastInDim S_ ![] bcast_S_S_ c
  let v1 : IVec S8 32 := (fun x v => Host.reduceWindow IntOp.addi ![8] ![1] ![7] ![0] x v reduceWindows_S8_S8_w8s1p7_0 h_S_) arg0 v0
  v1

def fn_cumsum {F : FTy → Type} [FloatOps F] (arg0 : IVec S8 32) : IVec S8 32 :=
  let v0 : IVec S8 32 := fn_cumsum_0 (F := F) arg0
  v0

def fn_part2 {F : FTy → Type} [FloatOps F] (main_arg0 : FVec F S40960x1024 .f32) (main_v15 : IVec S_ 1) (main_v35 : IVec S40960x8 32) (main_c_9 : IVec S_ 32) : IVec S40960x1024 1 :=
  let main_v36 : IVec S40960 32 := (fun x v => Host.reduce IntOp.addi x v reducesTo_S40960x8_S40960_d1 h_S_) main_v35 main_c_9
  let main_c_10 : IVec S_ 32 := constantI S_ 32 0#32
  let main_v37 : IVec S40960 32 := broadcastInDim S40960 ![] bcast_S_S40960 main_c_10
  let main_v38 : IVec S40960 1 := cmpi .sgt main_v36 main_v37
  let main_v39 : FVec F S40960x1024 .f32 := Host.absf main_arg0
  let main_cst_11 : FVec F S_ .f32 := constant S_ .f32 0x7F800000#32
  let main_v40 : FVec F S40960x1024 .f32 := broadcastInDim S40960x1024 ![] bcast_S_S40960x1024 main_cst_11
  let main_v41 : IVec S40960x1024 1 := cmpf .olt main_v39 main_v40
  let main_v42 : IVec S40960x1 1 := broadcastInDim S40960x1 ![0] bcast_S40960_S40960x1_0 main_v38
  let main_cst_12 : FVec F S_ .f32 := constant S_ .f32 0x00000000#32
  let main_v43 : FVec F S40960x1024 .f32 := broadcastInDim S40960x1024 ![] bcast_S_S40960x1024 main_cst_12
  let main_v44 : IVec S40960x1024 1 := cmpf .oeq main_arg0 main_v43
  let main_v45 : IVec S40960x1024 1 := broadcastInDim S40960x1024 ![0, 1] bcast_S40960x1_S40960x1024_0_1 main_v42
  let main_v46 : IVec S40960x1024 1 := ori main_v45 main_v44
  let main_v47 : IVec S40960x1024 1 := andi main_v41 main_v46
  let main_v48 : IVec S40960x1024 1 := broadcastInDim S40960x1024 ![] bcast_S_S40960x1024 main_v15
  let main_v49 : IVec S40960x1024 1 := andi main_v47 main_v48
  main_v49

def fn_part1 {F : FTy → Type} [FloatOps F] (main_arg0 : FVec F S40960x1024 .f32) (main_arg1 : IVec S8 32) (main_v15 : IVec S_ 1) : IVec S40960x1024 1 :=
  let main_c_6 : IVec S_ 32 := constantI S_ 32 1023#32
  let main_v16 : IVec S8 32 := broadcastInDim S8 ![] bcast_S_S8 main_c_6
  let main_v17 : IVec S8 32 := addi main_arg1 main_v16
  let main_c_7 : IVec S_ 32 := constantI S_ 32 1024#32
  let main_v18 : IVec S8 32 := fn_floor_divide (F := F) main_v17 main_c_7
  let main_c_8 : IVec S_ 32 := constantI S_ 32 1024#32
  let main_v19 : IVec S8 32 := broadcastInDim S8 ![] bcast_S_S8 main_c_8
  let main_v20 : IVec S8 32 := muli main_v18 main_v19
  let main_v21 : IVec S8 32 := fn_cumsum (F := F) main_v20
  let main_v22 : IVec S8 32 := subi main_v21 main_v20
  let main_v23 : IVec S40960 32 := iotaInDim S40960 32 0
  let main_v24 : IVec S40960x1 32 := broadcastInDim S40960x1 ![0] bcast_S40960_S40960x1_0 main_v23
  let main_v25 : IVec S1x8 32 := broadcastInDim S1x8 ![1] bcast_S8_S1x8_1 main_v22
  let main_v26 : IVec S40960x8 32 := broadcastInDim S40960x8 ![0, 1] bcast_S40960x1_S40960x8_0_1 main_v24
  let main_v27 : IVec S40960x8 32 := broadcastInDim S40960x8 ![0, 1] bcast_S1x8_S40960x8_0_1 main_v25
  let main_v28 : IVec S40960x8 1 := cmpi .sge main_v26 main_v27
  let main_v29 : IVec S8 32 := addi main_v22 main_arg1
  let main_v30 : IVec S1x8 32 := broadcastInDim S1x8 ![1] bcast_S8_S1x8_1 main_v29
  let main_v31 : IVec S40960x8 32 := broadcastInDim S40960x8 ![0, 1] bcast_S40960x1_S40960x8_0_1 main_v24
  let main_v32 : IVec S40960x8 32 := broadcastInDim S40960x8 ![0, 1] bcast_S1x8_S40960x8_0_1 main_v30
  let main_v33 : IVec S40960x8 1 := cmpi .slt main_v31 main_v32
  let main_v34 : IVec S40960x8 1 := andi main_v28 main_v33
  let main_v35 : IVec S40960x8 32 := (extui 32 · natLt_1_32) main_v34
  let main_c_9 : IVec S_ 32 := constantI S_ 32 0#32
  fn_part2 (F := F) main_arg0 main_v15 main_v35 main_c_9

def fn {F : FTy → Type} [FloatOps F] (main_arg0 : FVec F S40960x1024 .f32) (main_arg1 : IVec S8 32) (main_arg2 : FVec F S2x8x1024x3584 .f32) (main_arg3 : FVec F S2x8x1024x3584 .f32) (main_arg4 : FVec F S2x8x3584x1024 .f32) : IVec S40960x1024 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 1 := constantI S_ 1 1#1
  let main_v2 : IVec S_ 1 := (fun x v => Host.reduce IntOp.andi x v reducesTo_S8_S_d0 h_S_) main_v1 main_c_0
  let main_c_1 : IVec S_ 32 := constantI S_ 32 32768#32
  let main_v3 : IVec S8 32 := broadcastInDim S8 ![] bcast_S_S8 main_c_1
  let main_v4 : IVec S8 1 := cmpi .sle main_arg1 main_v3
  let main_c_2 : IVec S_ 1 := constantI S_ 1 1#1
  let main_v5 : IVec S_ 1 := (fun x v => Host.reduce IntOp.andi x v reducesTo_S8_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S8_S_d0 h_S_) main_arg1 main_c_3
  let main_c_4 : IVec S_ 32 := constantI S_ 32 32768#32
  let main_v8 : IVec S_ 1 := cmpi .sle main_v7 main_c_4
  let main_v9 : IVec S_ 1 := andi main_v6 main_v8
  let main_v10 : FVec F S1x8x1024x3584 .f32 := (extractStridedSlice S1x8x1024x3584 ![0, 0, 0, 0] · slices_S2x8x1024x3584_S1x8x1024x3584_0_0_0_0) main_arg2
  let main_v11 : FVec F S1x8x1024x3584 .f32 := Host.absf main_v10
  let main_cst : FVec F S_ .f32 := constant S_ .f32 0x7F800000#32
  let main_v12 : FVec F S1x8x1024x3584 .f32 := broadcastInDim S1x8x1024x3584 ![] bcast_S_S1x8x1024x3584 main_cst
  let main_v13 : IVec S1x8x1024x3584 1 := cmpf .olt main_v11 main_v12
  let main_c_5 : IVec S_ 1 := constantI S_ 1 1#1
  let main_v14 : IVec S_ 1 := (fun x v => Host.reduce IntOp.andi x v reducesTo_S1x8x1024x3584_S_d0_1_2_3 h_S_) main_v13 main_c_5
  let main_v15 : IVec S_ 1 := andi main_v9 main_v14
  fn_part1 (F := F) main_arg0 main_arg1 main_v15
-- ==== Pre_finite_gate.lean ====
abbrev S2x8192x1024 : Shape := ⟨3, ![2, 8192, 1024]⟩
abbrev S1024x2816 : Shape := ⟨2, ![1024, 2816]⟩
abbrev S2816x1024 : Shape := ⟨2, ![2816, 1024]⟩
abbrev S2x1024 : Shape := ⟨2, ![2, 1024]⟩
abbrev S_ : Shape := ⟨0, ![]⟩

class Facts : Prop where
  bcast_S_S1024x2816 : S_.BroadcastsInDim S1024x2816 (![] : Fin 0 → Fin S1024x2816.rank)

variable [Facts]

def fn {F : FTy → Type} [FloatOps F] (main_arg0 : FVec F S2x8192x1024 .f32) (main_arg1 : FVec F S1024x2816 .f32) (main_arg2 : FVec F S1024x2816 .f32) (main_arg3 : FVec F S2816x1024 .f32) (main_arg4 : FVec F S2x1024 .f32) (main_arg5 : FVec F S2x1024 .f32) : IVec S1024x2816 1 :=
  let main_v0 : FVec F S1024x2816 .f32 := Host.absf main_arg1
  let main_cst : FVec F S_ .f32 := constant S_ .f32 0x7F800000#32
  let main_v1 : FVec F S1024x2816 .f32 := broadcastInDim S1024x2816 ![] bcast_S_S1024x2816 main_cst
  let main_v2 : IVec S1024x2816 1 := cmpf .olt main_v0 main_v1
  main_v2
-- ==== Pre_finite_scores.lean ====
abbrev S2x8192x2824 : Shape := ⟨3, ![2, 8192, 2824]⟩
abbrev S8 : Shape := ⟨1, ![8]⟩
abbrev S2x8192x640 : Shape := ⟨3, ![2, 8192, 640]⟩
abbrev S_ : Shape := ⟨0, ![]⟩
abbrev S2x8192x640x1 : Shape := ⟨4, ![2, 8192, 640, 1]⟩
abbrev S1x1x1x8 : Shape := ⟨4, ![1, 1, 1, 8]⟩
abbrev S2x8192x640x8 : Shape := ⟨4, ![2, 8192, 640, 8]⟩

class Facts : Prop where
  slices_S2x8192x2824_S2x8192x640_0_0_0 : S2x8192x2824.Slices ![0, 0, 0] S2x8192x640
  bcast_S_S2x8192x640 : S_.BroadcastsInDim S2x8192x640 (![] : Fin 0 → Fin S2x8192x640.rank)
  bcast_S2x8192x640_S2x8192x640x1_0_1_2 : S2x8192x640.BroadcastsInDim S2x8192x640x1 (![0, 1, 2] : Fin 3 → Fin S2x8192x640x1.rank)
  bcast_S_S8 : S_.BroadcastsInDim S8 (![] : Fin 0 → Fin S8.rank)
  bcast_S8_S1x1x1x8_3 : S8.BroadcastsInDim S1x1x1x8 (![3] : Fin 1 → Fin S1x1x1x8.rank)
  bcast_S2x8192x640x1_S2x8192x640x8_0_1_2_3 : S2x8192x640x1.BroadcastsInDim S2x8192x640x8 (![0, 1, 2, 3] : Fin 4 → Fin S2x8192x640x8.rank)
  bcast_S1x1x1x8_S2x8192x640x8_0_1_2_3 : S1x1x1x8.BroadcastsInDim S2x8192x640x8 (![0, 1, 2, 3] : Fin 4 → Fin S2x8192x640x8.rank)

variable [Facts]

def fn {F : FTy → Type} [FloatOps F] (main_arg0 : FVec F S2x8192x2824 .f32) (main_arg1 : FVec F S8 .f32) : IVec S2x8192x640x8 1 :=
  let main_v0 : FVec F S2x8192x640 .f32 := (extractStridedSlice S2x8192x640 ![0, 0, 0] · slices_S2x8192x2824_S2x8192x640_0_0_0) main_arg0
  let main_v1 : FVec F S2x8192x640 .f32 := Host.absf main_v0
  let main_cst : FVec F S_ .f32 := constant S_ .f32 0x7F800000#32
  let main_v2 : FVec F S2x8192x640 .f32 := broadcastInDim S2x8192x640 ![] bcast_S_S2x8192x640 main_cst
  let main_v3 : IVec S2x8192x640 1 := cmpf .olt main_v1 main_v2
  let main_v4 : IVec S2x8192x640x1 1 := broadcastInDim S2x8192x640x1 ![0, 1, 2] bcast_S2x8192x640_S2x8192x640x1_0_1_2 main_v3
  let main_v5 : FVec F S8 .f32 := Host.absf main_arg1
  let main_cst_0 : FVec F S_ .f32 := constant S_ .f32 0x7F800000#32
  let main_v6 : FVec F S8 .f32 := broadcastInDim S8 ![] bcast_S_S8 main_cst_0
  let main_v7 : IVec S8 1 := cmpf .olt main_v5 main_v6
  let main_v8 : IVec S1x1x1x8 1 := broadcastInDim S1x1x1x8 ![3] bcast_S8_S1x1x1x8_3 main_v7
  let main_v9 : IVec S2x8192x640x8 1 := broadcastInDim S2x8192x640x8 ![0, 1, 2, 3] bcast_S2x8192x640x1_S2x8192x640x8_0_1_2_3 main_v4
  let main_v10 : IVec S2x8192x640x8 1 := broadcastInDim S2x8192x640x8 ![0, 1, 2, 3] bcast_S1x1x1x8_S2x8192x640x8_0_1_2_3 main_v8
  let main_v11 : IVec S2x8192x640x8 1 := andi main_v9 main_v10
  main_v11
-- ==== Kernel.lean ====
abbrev S2x8192x2824 : Shape := ⟨3, ![2, 8192, 2824]⟩
abbrev S8 : Shape := ⟨1, ![8]⟩
abbrev S2x8192x512 : Shape := ⟨3, ![2, 8192, 512]⟩
abbrev S2x8192x128 : Shape := ⟨3, ![2, 8192, 128]⟩
abbrev S2x8192x2816 : Shape := ⟨3, ![2, 8192, 2816]⟩
abbrev S16384x2816 : Shape := ⟨2, ![16384, 2816]⟩
abbrev S8192 : Shape := ⟨1, ![8192]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8192x128 : Shape := ⟨2, ![8192, 128]⟩
abbrev S16384x512 : Shape := ⟨2, ![16384, 512]⟩
abbrev S1024x512 : Shape := ⟨2, ![1024, 512]⟩
abbrev S1024x128 : Shape := ⟨2, ![1024, 128]⟩
abbrev S128x128 : Shape := ⟨2, ![128, 128]⟩
abbrev S128x64 : Shape := ⟨2, ![128, 64]⟩
abbrev S1x128x128 : Shape := ⟨3, ![1, 128, 128]⟩
abbrev S64x128x128 : Shape := ⟨3, ![64, 128, 128]⟩
abbrev S1 : Shape := ⟨1, ![1]⟩
abbrev S1x1 : Shape := ⟨2, ![1, 1]⟩
abbrev S1x1x1 : Shape := ⟨3, ![1, 1, 1]⟩
abbrev S64x1x1 : Shape := ⟨3, ![64, 1, 1]⟩
abbrev S8x128x128 : Shape := ⟨3, ![8, 128, 128]⟩
abbrev S56x128x128 : Shape := ⟨3, ![56, 128, 128]⟩
abbrev S64x128 : Shape := ⟨2, ![64, 128]⟩
abbrev S64x128x1 : Shape := ⟨3, ![64, 128, 1]⟩

abbrev nBuf : Space → Nat
  | .hbm => 43
  | .vmem => 16
  | .smem => 1
  | _ => 0

abbrev bufTy : (tb : Table) → Fin (tcTables nBuf tb) → BufTy
  | .hbm, ⟨0, _⟩ => ⟨S2x8192x2824, .f32⟩
  | .hbm, ⟨1, _⟩ => ⟨S8, .f32⟩
  | .hbm, ⟨2, _⟩ => ⟨S2x8192x512, .f32⟩
  | .hbm, ⟨3, _⟩ => ⟨S2x8192x512, .f32⟩
  | .hbm, ⟨4, _⟩ => ⟨S2x8192x512, .f32⟩
  | .hbm, ⟨5, _⟩ => ⟨S2x8192x512, .f32⟩
  | .hbm, ⟨6, _⟩ => ⟨S2x8192x512, .f32⟩
  | .hbm, ⟨7, _⟩ => ⟨S2x8192x128, .f32⟩
  | .hbm, ⟨8, _⟩ => ⟨S2x8192x128, .f32⟩
  | .hbm, ⟨9, _⟩ => ⟨S2x8192x2816, .f32⟩
  | .hbm, ⟨10, _⟩ => ⟨S16384x2816, .f32⟩
  | .hbm, ⟨11, _⟩ => ⟨S16384x2816, .bf16⟩
  | .hbm, ⟨12, _⟩ => ⟨S8192, .i32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S8192, .f32⟩
  | .hbm, ⟨22, _⟩ => ⟨S8192x1, .f32⟩
  | .hbm, ⟨23, _⟩ => ⟨S1x8, .f32⟩
  | .hbm, ⟨24, _⟩ => ⟨S8192x8, .f32⟩
  | .hbm, ⟨25, _⟩ => ⟨S8192x8, .f32⟩
  | .hbm, ⟨26, _⟩ => ⟨S8192x8, .f32⟩
  | .hbm, ⟨27, _⟩ => ⟨S8192x8, .f32⟩
  | .hbm, ⟨28, _⟩ => ⟨S8192x8, .f32⟩
  | .hbm, ⟨29, _⟩ => ⟨S_, .f32⟩
  | .hbm, ⟨30, _⟩ => ⟨S8192x48, .f32⟩
  | .hbm, ⟨31, _⟩ => ⟨S_, .f32⟩
  | .hbm, ⟨32, _⟩ => ⟨S8192x48, .f32⟩
  | .hbm, ⟨33, _⟩ => ⟨S_, .f32⟩
  | .hbm, ⟨34, _⟩ => ⟨S8192x8, .f32⟩
  | .hbm, ⟨35, _⟩ => ⟨S8192x64, .f32⟩
  | .hbm, ⟨36, _⟩ => ⟨S8192x8, .f32⟩
  | .hbm, ⟨37, _⟩ => ⟨S8192x64, .f32⟩
  | .hbm, ⟨38, _⟩ => ⟨S8192x64, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S16384x512, .bf16⟩
  | .local _ .vmem, ⟨0, _⟩ => ⟨S1024x512, .bf16⟩
  | .local _ .vmem, ⟨1, _⟩ => ⟨S1024x512, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x512, .bf16⟩
  | .local _ .vmem, ⟨13, _⟩ => ⟨S1024x512, .bf16⟩
  | .local _ .vmem, ⟨14, _⟩ => ⟨S128x128, .bf16⟩
  | .local _ .vmem, ⟨15, _⟩ => ⟨S128x128, .bf16⟩
  | .local _ .smem, ⟨0, _⟩ => ⟨S8, .f32⟩
  | _, _ => ⟨S2x8192x2824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_1 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_cst_3 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c20_i32 : BitVec 32 := 20#32
  let c0_i32 : BitVec 32 := 0#32
  ![v1.toNat, c20_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c21_i32 : BitVec 32 := 21#32
  let c0_i32 : BitVec 32 := 0#32
  ![v1.toNat, c21_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S2x8192x2824 : Shape := ⟨3, ![2, 8192, 2824]⟩
abbrev S8 : Shape := ⟨1, ![8]⟩
abbrev S8192 : Shape := ⟨1, ![8192]⟩
abbrev S2x8192x512 : Shape := ⟨3, ![2, 8192, 512]⟩
abbrev S2x8192x128 : Shape := ⟨3, ![2, 8192, 128]⟩
abbrev S2x8192x8x64 : Shape := ⟨4, ![2, 8192, 8, 64]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S1x8192x1x8 : Shape := ⟨4, ![1, 8192, 1, 8]⟩
abbrev S2x8192x8x8 : Shape := ⟨4, ![2, 8192, 8, 8]⟩
abbrev S2x8192x8x48 : Shape := ⟨4, ![2, 8192, 8, 48]⟩
abbrev S2x8192x2x64 : Shape := ⟨4, ![2, 8192, 2, 64]⟩
abbrev S2x8192x2x8 : Shape := ⟨4, ![2, 8192, 2, 8]⟩
abbrev S2x8192x2x48 : Shape := ⟨4, ![2, 8192, 2, 48]⟩
abbrev S2x64x128x2x4x64 : Shape := ⟨6, ![2, 64, 128, 2, 4, 64]⟩
abbrev S2x64x128x2x64 : Shape := ⟨5, ![2, 64, 128, 2, 64]⟩
abbrev S2x1x128x2x64 : Shape := ⟨5, ![2, 1, 128, 2, 64]⟩
abbrev S2x63x128x2x64 : Shape := ⟨5, ![2, 63, 128, 2, 64]⟩
abbrev S2x64x256x2x64 : Shape := ⟨5, ![2, 64, 256, 2, 64]⟩
abbrev S2x64x2x256x128x4 : Shape := ⟨6, ![2, 64, 2, 256, 128, 4]⟩
abbrev S2x64x2x4x128x256 : Shape := ⟨6, ![2, 64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x1x1x128x256 : Shape := ⟨6, ![1, 64, 1, 1, 128, 256]⟩
abbrev S2x4 : Shape := ⟨2, ![2, 4]⟩
abbrev S1x1x2x4x1x1 : Shape := ⟨6, ![1, 1, 2, 4, 1, 1]⟩
abbrev S2x64x2x4x128x1 : Shape := ⟨6, ![2, 64, 2, 4, 128, 1]⟩
abbrev S2x64x2x4x128x257 : Shape := ⟨6, ![2, 64, 2, 4, 128, 257]⟩
abbrev S2x64x2x4x128 : Shape := ⟨5, ![2, 64, 2, 4, 128]⟩
abbrev S2x64x2x64x4x128 : Shape := ⟨6, ![2, 64, 2, 64, 4, 128]⟩
abbrev S16384x512 : Shape := ⟨2, ![16384, 512]⟩

abbrev nBuf : Space → Nat
  | .hbm => 156
  | .vmem => 0
  | .smem => 0
  | _ => 0

abbrev hbmTy0_0 (i : Nat) : BufTy := match i % 128 with
  | 0 => ⟨S2x8192x2824, .f32⟩
  | 1 => ⟨S8, .f32⟩
  | 2 => ⟨S8192, .i32⟩
  | 3 => ⟨S2x8192x512, .f32⟩
  | 4 => ⟨S2x8192x128, .f32⟩
  | 5 => ⟨S2x8192x128, .f32⟩
  | 6 => ⟨S2x8192x8x64, .f32⟩
  | 7 => ⟨S8, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S8192, .f32⟩
  | 16 => ⟨S8192x1, .f32⟩
  | 17 => ⟨S1x8, .f32⟩
  | 18 => ⟨S8192x8, .f32⟩
  | 19 => ⟨S8192x8, .f32⟩
  | 20 => ⟨S8192x8, .f32⟩
  | 21 => ⟨S8192x8, .f32⟩
  | 22 => ⟨S1x8192x1x8, .f32⟩
  | 23 => ⟨S8192x8, .f32⟩
  | 24 => ⟨S1x8192x1x8, .f32⟩
  | 25 => ⟨S2x8192x8x8, .f32⟩
  | 26 => ⟨S2x8192x8x8, .f32⟩
  | 27 => ⟨S2x8192x8x48, .f32⟩
  | 28 => ⟨S2x8192x8x8, .f32⟩
  | 29 => ⟨S2x8192x8x8, .f32⟩
  | 30 => ⟨S2x8192x8x8, .f32⟩
  | 31 => ⟨S2x8192x8x8, .f32⟩
  | 32 => ⟨S2x8192x8x8, .f32⟩
  | 33 => ⟨S2x8192x8x8, .f32⟩
  | 34 => ⟨S2x8192x8x8, .f32⟩
  | 35 => ⟨S2x8192x8x8, .f32⟩
  | 36 => ⟨S2x8192x8x8, .f32⟩
  | 37 => ⟨S2x8192x8x8, .f32⟩
  | 38 => ⟨S2x8192x8x64, .f32⟩
  | 39 => ⟨S2x8192x2x64, .f32⟩
  | 40 => ⟨S8, .f32⟩
  | 41 => ⟨S8, .f32⟩
  | 42 => ⟨S_, .f32⟩
  | 43 => ⟨S8, .f32⟩
  | 44 => ⟨S8, .f32⟩
  | 45 => ⟨S_, .f32⟩
  | 46 => ⟨S8, .f32⟩
  | 47 => ⟨S8, .f32⟩
  | 48 => ⟨S8192, .f32⟩
  | 49 => ⟨S8192x1, .f32⟩
  | 50 => ⟨S1x8, .f32⟩
  | 51 => ⟨S8192x8, .f32⟩
  | 52 => ⟨S8192x8, .f32⟩
  | 53 => ⟨S8192x8, .f32⟩
  | 54 => ⟨S8192x8, .f32⟩
  | 55 => ⟨S1x8192x1x8, .f32⟩
  | 56 => ⟨S8192x8, .f32⟩
  | 57 => ⟨S1x8192x1x8, .f32⟩
  | 58 => ⟨S2x8192x2x8, .f32⟩
  | 59 => ⟨S2x8192x2x8, .f32⟩
  | 60 => ⟨S2x8192x2x48, .f32⟩
  | 61 => ⟨S2x8192x2x8, .f32⟩
  | 62 => ⟨S2x8192x2x8, .f32⟩
  | 63 => ⟨S2x8192x2x8, .f32⟩
  | 64 => ⟨S2x8192x2x8, .f32⟩
  | 65 => ⟨S2x8192x2x8, .f32⟩
  | 66 => ⟨S2x8192x2x8, .f32⟩
  | 67 => ⟨S2x8192x2x8, .f32⟩
  | 68 => ⟨S2x8192x2x8, .f32⟩
  | 69 => ⟨S2x8192x2x8, .f32⟩
  | 70 => ⟨S2x8192x2x8, .f32⟩
  | 71 => ⟨S2x8192x2x64, .f32⟩
  | 72 => ⟨S2x8192x2x64, .f32⟩
  | 73 => ⟨S2x64x128x2x4x64, .f32⟩
  | 74 => ⟨S2x64x128x2x64, .f32⟩
  | 75 => ⟨S2x64x128x2x64, .f32⟩
  | 76 => ⟨S2x1x128x2x64, .f32⟩
  | 77 => ⟨S_, .f32⟩
  | 78 => ⟨S2x1x128x2x64, .f32⟩
  | 79 => ⟨S2x63x128x2x64, .f32⟩
  | 80 => ⟨S2x64x128x2x64, .f32⟩
  | 81 => ⟨S2x64x256x2x64, .f32⟩
  | 82 => ⟨S2x1x128x2x64, .f32⟩
  | 83 => ⟨S_, .f32⟩
  | 84 => ⟨S2x1x128x2x64, .f32⟩
  | 85 => ⟨S2x63x128x2x64, .f32⟩
  | 86 => ⟨S2x64x128x2x64, .f32⟩
  | 87 => ⟨S2x64x256x2x64, .f32⟩
  | 88 => ⟨S2x64x2x256x128x4, .f32⟩
  | 89 => ⟨S2x64x2x4x128x256, .f32⟩
  | 90 => ⟨S_, .f32⟩
  | 91 => ⟨S2x64x2x4x128x256, .f32⟩
  | 92 => ⟨S2x64x2x4x128x256, .f32⟩
  | 93 => ⟨S128, .i32⟩
  | 94 => ⟨S128x1, .i32⟩
  | 95 => ⟨S_, .i32⟩
  | 96 => ⟨S128x1, .i32⟩
  | 97 => ⟨S128x1, .i32⟩
  | 98 => ⟨S256, .i32⟩
  | 99 => ⟨S1x256, .i32⟩
  | 100 => ⟨S128x256, .i32⟩
  | 101 => ⟨S128x256, .i32⟩
  | 102 => ⟨S128x256, .i1⟩
  | 103 => ⟨S128x256, .i32⟩
  | 104 => ⟨S128x256, .i32⟩
  | 105 => ⟨S128x256, .i32⟩
  | 106 => ⟨S_, .i32⟩
  | 107 => ⟨S128x256, .i32⟩
  | 108 => ⟨S128x256, .i1⟩
  | 109 => ⟨S128x256, .i1⟩
  | 110 => ⟨S64, .i32⟩
  | 111 => ⟨S_, .i32⟩
  | 112 => ⟨S64, .i32⟩
  | 113 => ⟨S64, .i1⟩
  | 114 => ⟨S64x1x1, .i1⟩
  | 115 => ⟨S_, .i32⟩
  | 116 => ⟨S1x256, .i32⟩
  | 117 => ⟨S1x256, .i1⟩
  | 118 => ⟨S1x1x256, .i1⟩
  | 119 => ⟨S64x1x256, .i1⟩
  | 120 => ⟨S64x1x256, .i1⟩
  | 121 => ⟨S64x1x256, .i1⟩
  | 122 => ⟨S1x128x256, .i1⟩
  | 123 => ⟨S64x128x256, .i1⟩
  | 124 => ⟨S64x128x256, .i1⟩
  | 125 => ⟨S64x128x256, .i1⟩
  | 126 => ⟨S1x64x1x1x128x256, .i1⟩
  | 127 => ⟨S_, .f32⟩
  | _ => ⟨S2x8192x2824, .f32⟩

abbrev hbmTy0_1 (i : Nat) : BufTy := match i % 128 with
  | 0 => ⟨S_, .f32⟩
  | 1 => ⟨S2x64x2x4x128x256, .i1⟩
  | 2 => ⟨S2x64x2x4x128x256, .f32⟩
  | 3 => ⟨S2x64x2x4x128x256, .f32⟩
  | 4 => ⟨S2x4, .f32⟩
  | 5 => ⟨S1x1x2x4x1x1, .f32⟩
  | 6 => ⟨S2x64x2x4x128x1, .f32⟩
  | 7 => ⟨S2x64x2x4x128x257, .f32⟩
  | 8 => ⟨S_, .f32⟩
  | 9 => ⟨S2x64x2x4x128, .f32⟩
  | 10 => ⟨S_, .f32⟩
  | 11 => ⟨S2x64x2x4x128, .f32⟩
  | 12 => ⟨S2x64x2x4x128, .f32⟩
  | 13 => ⟨S2x64x2x4x128x1, .f32⟩
  | 14 => ⟨S2x64x2x4x128x257, .f32⟩
  | 15 => ⟨S2x64x2x4x128x257, .f32⟩
  | 16 => ⟨S2x64x2x4x128x257, .f32⟩
  | 17 => ⟨S_, .f32⟩
  | 18 => ⟨S2x64x2x4x128, .f32⟩
  | 19 => ⟨S2x64x2x4x128x1, .f32⟩
  | 20 => ⟨S2x64x2x4x128x257, .f32⟩
  | 21 => ⟨S2x64x2x4x128x257, .f32⟩
  | 22 => ⟨S2x64x2x4x128x256, .f32⟩
  | 23 => ⟨S2x64x2x64x4x128, .f32⟩
  | 24 => ⟨S2x64x128x2x4x64, .f32⟩
  | 25 => ⟨S2x8192x512, .f32⟩
  | 26 => ⟨S16384x512, .f32⟩
  | 27 => ⟨S16384x512, .bf16⟩
  | _ => ⟨S2x8192x2824, .f32⟩

abbrev hbmTy (i : Nat) : BufTy := match i / 128 with
  | 0 => hbmTy0_0 i
  | 1 => hbmTy0_1 i
  | _ => ⟨S2x8192x2824, .f32⟩

abbrev bufTy : (tb : Table) → Fin (tcTables nBuf tb) → BufTy
  | .hbm, ⟨i, _⟩ => hbmTy i
  | _, _ => ⟨S2x8192x2824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_cst_1 : Ref sig .tc := ⟨.hbm, 42, rfl⟩
abbrev main_v38 : Ref sig .tc := ⟨.hbm, 43, rfl⟩
abbrev main_v39 : Ref sig .tc := ⟨.hbm, 44, rfl⟩
abbrev main_cst_2 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_cst_3 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_cst_4 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_cst_5 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_c : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_c_6 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_c_7 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_c_8 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_cst_9 : Ref sig .tc := ⟨.hbm, 127, rfl⟩
abbrev main_call0_v0 : Ref sig .tc := ⟨.hbm, 128, rfl⟩
abbrev main_call0_v1 : Ref sig .tc := ⟨.hbm, 129, rfl⟩
abbrev main_call0_v2 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_cst_10 : Ref sig .tc := ⟨.hbm, 136, rfl⟩
abbrev main_v119 : Ref sig .tc := ⟨.hbm, 137, rfl⟩
abbrev main_cst_11 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_cst_12 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩

abbrev nD : Nat := 1
abbrev τ : Topo := Topo.v7x

variable {F : FTy → Type} [FloatOps F]
-- ==== Kernel2.lean ====
abbrev S40960x1024 : Shape := ⟨2, ![40960, 1024]⟩
abbrev S8 : Shape := ⟨1, ![8]⟩
abbrev S2x8x1024x3584 : Shape := ⟨4, ![2, 8, 1024, 3584]⟩
abbrev S2x8x3584x1024 : Shape := ⟨4, ![2, 8, 3584, 1024]⟩
abbrev S_ : Shape := ⟨0, ![]⟩
abbrev S1 : Shape := ⟨1, ![1]⟩
abbrev S40 : Shape := ⟨1, ![40]⟩
abbrev S40x1 : Shape := ⟨2, ![40, 1]⟩
abbrev S1x8 : Shape := ⟨2, ![1, 8]⟩
abbrev S40x8 : Shape := ⟨2, ![40, 8]⟩
abbrev S1024x1024 : Shape := ⟨2, ![1024, 1024]⟩
abbrev S1x1x1024x512 : Shape := ⟨4, ![1, 1, 1024, 512]⟩
abbrev S1x1x512x1024 : Shape := ⟨4, ![1, 1, 512, 1024]⟩
abbrev S512x1024 : Shape := ⟨2, ![512, 1024]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩
abbrev S512x256 : Shape := ⟨2, ![512, 256]⟩

abbrev nBuf : Space → Nat
  | .hbm => 84
  | .vmem => 10
  | .smem => 3
  | _ => 0

abbrev bufTy : (tb : Table) → Fin (tcTables nBuf tb) → BufTy
  | .hbm, ⟨0, _⟩ => ⟨S40960x1024, .f32⟩
  | .hbm, ⟨1, _⟩ => ⟨S8, .i32⟩
  | .hbm, ⟨2, _⟩ => ⟨S2x8x1024x3584, .f32⟩
  | .hbm, ⟨3, _⟩ => ⟨S2x8x1024x3584, .f32⟩
  | .hbm, ⟨4, _⟩ => ⟨S2x8x3584x1024, .f32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i1⟩
  | .hbm, ⟨19, _⟩ => ⟨S8, .i32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S8, .i1⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .i32⟩
  | .hbm, ⟨29, _⟩ => ⟨S_, .i32⟩
  | .hbm, ⟨30, _⟩ => ⟨S_, .i32⟩
  | .hbm, ⟨31, _⟩ => ⟨S8, .i32⟩
  | .hbm, ⟨32, _⟩ => ⟨S8, .i32⟩
  | .hbm, ⟨33, _⟩ => ⟨S1, .i32⟩
  | .hbm, ⟨34, _⟩ => ⟨S_, .i32⟩
  | .hbm, ⟨35, _⟩ => ⟨S40, .i32⟩
  | .hbm, ⟨36, _⟩ => ⟨S_, .i32⟩
  | .hbm, ⟨37, _⟩ => ⟨S_, .i32⟩
  | .hbm, ⟨38, _⟩ => ⟨S40, .i32⟩
  | .hbm, ⟨39, _⟩ => ⟨S40, .i32⟩
  | .hbm, ⟨40, _⟩ => ⟨S40x1, .i32⟩
  | .hbm, ⟨41, _⟩ => ⟨S1x8, .i32⟩
  | .hbm, ⟨42, _⟩ => ⟨S40x8, .i32⟩
  | .hbm, ⟨43, _⟩ => ⟨S40x8, .i32⟩
  | .hbm, ⟨44, _⟩ => ⟨S40x8, .i1⟩
  | .hbm, ⟨45, _⟩ => ⟨S40x8, .i32⟩
  | .hbm, ⟨46, _⟩ => ⟨S_, .i32⟩
  | .hbm, ⟨47, _⟩ => ⟨S_, .i32⟩
  | .hbm, ⟨48, _⟩ => ⟨S40, .i32⟩
  | .hbm, ⟨49, _⟩ => ⟨S40, .i1⟩
  | .hbm, ⟨50, _⟩ => ⟨S_, .i32⟩
  | .hbm, ⟨51, _⟩ => ⟨S40, .i32⟩
  | .hbm, ⟨52, _⟩ => ⟨S40, .i32⟩
  | .hbm, ⟨53, _⟩ => ⟨S40, .i32⟩
  | .hbm, ⟨54, _⟩ => ⟨S40x1, .i32⟩
  | .hbm, ⟨55, _⟩ => ⟨S40, .i32⟩
  | .hbm, ⟨56, _⟩ => ⟨S_, .i32⟩
  | .hbm, ⟨57, _⟩ => ⟨S40, .i32⟩
  | .hbm, ⟨58, _⟩ => ⟨S40, .i1⟩
  | .hbm, ⟨59, _⟩ => ⟨S_, .i32⟩
  | .hbm, ⟨60, _⟩ => ⟨S40, .i32⟩
  | .hbm, ⟨61, _⟩ => ⟨S40, .i32⟩
  | .hbm, ⟨62, _⟩ => ⟨S40, .i32⟩
  | .hbm, ⟨63, _⟩ => ⟨S40x1, .i32⟩
  | .hbm, ⟨64, _⟩ => ⟨S40, .i32⟩
  | .hbm, ⟨65, _⟩ => ⟨S40, .i32⟩
  | .hbm, ⟨66, _⟩ => ⟨S_, .i32⟩
  | .hbm, ⟨67, _⟩ => ⟨S40, .i32⟩
  | .hbm, ⟨68, _⟩ => ⟨S40, .i32⟩
  | .hbm, ⟨69, _⟩ => ⟨S40, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S40, .i32⟩
  | .hbm, ⟨74, _⟩ => ⟨S40, .i32⟩
  | .hbm, ⟨75, _⟩ => ⟨S_, .i32⟩
  | .hbm, ⟨76, _⟩ => ⟨S40, .i32⟩
  | .hbm, ⟨77, _⟩ => ⟨S40, .i32⟩
  | .hbm, ⟨78, _⟩ => ⟨S40, .i32⟩
  | .hbm, ⟨79, _⟩ => ⟨S40, .i1⟩
  | .hbm, ⟨80, _⟩ => ⟨S_, .i32⟩
  | .hbm, ⟨81, _⟩ => ⟨S_, .i32⟩
  | .hbm, ⟨82, _⟩ => ⟨S40, .i32⟩
  | .hbm, ⟨83, _⟩ => ⟨S40960x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1024x1024, .f32⟩
  | .local _ .vmem, ⟨9, _⟩ => ⟨S1024x1024, .f32⟩
  | .local _ .smem, ⟨0, _⟩ => ⟨S40, .i32⟩
  | .local _ .smem, ⟨1, _⟩ => ⟨S40, .i32⟩
  | .local _ .smem, ⟨2, _⟩ => ⟨S1, .i32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_call1_call0_c : Ref sig .tc := ⟨.hbm, 29, rfl⟩
abbrev main_call1_call0_v0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_c_2 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_3 : Ref sig .tc := ⟨.hbm, 46, rfl⟩
abbrev main_c_4 : Ref sig .tc := ⟨.hbm, 47, rfl⟩
abbrev main_v20 : Ref sig .tc := ⟨.hbm, 48, rfl⟩
abbrev main_v21 : Ref sig .tc := ⟨.hbm, 49, rfl⟩
abbrev main_c_5 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_6 : Ref sig .tc := ⟨.hbm, 56, rfl⟩
abbrev main_v27 : Ref sig .tc := ⟨.hbm, 57, rfl⟩
abbrev main_v28 : Ref sig .tc := ⟨.hbm, 58, rfl⟩
abbrev main_c_7 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_c_8 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_9 : Ref sig .tc := ⟨.hbm, 70, rfl⟩
abbrev main_c_10 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_c_11 : Ref sig .tc := ⟨.hbm, 80, rfl⟩
abbrev main_call3_v0 : Ref sig .tc := ⟨.hbm, 81, rfl⟩
abbrev main_call3_v1 : Ref sig .tc := ⟨.hbm, 82, rfl⟩
abbrev main_v43 : Ref sig .tc := ⟨.hbm, 83, rfl⟩
abbrev main_v19 : Ref sig .tc := ⟨.smem, 0, rfl⟩
abbrev main_v41 : Ref sig .tc := ⟨.smem, 1, rfl⟩
abbrev main_v42 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 7], ![false, false]⟩

abbrev pre0 : Pipeline.Prefetch sig := ⟨3, ![main_v19.idx, main_v41.idx, main_v42.idx], fun | 0 => main_v19.names | 1 => main_v41.names | 2 => main_v42.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_1 : BitVec 32 := 0#32
  let v5 : BitVec 1 := Scalar.cmpi .sgt v1 c0_i32_1
  let c512_i32 : BitVec 32 := 512#32
  let v6 : BitVec 1 := Scalar.cmpi .sle v1 c512_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (v1 : BitVec 32) : BitVec 1 :=
  let c512_i32_3 : BitVec 32 := 512#32
  let v10 : BitVec 1 := Scalar.cmpi .sgt v1 c512_i32_3
  let c1024_i32 : BitVec 32 := 1024#32
  let v11 : BitVec 1 := Scalar.cmpi .sle v1 c1024_i32
  let v12 : BitVec 1 := Scalar.andi v10 v11
  let v13 : BitVec 32 := Scalar.extui v12
  let c0_i32_4 : BitVec 32 := 0#32
  let v14 : BitVec 1 := Scalar.cmpi .ne v13 c0_i32_4
  v14

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 2 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_0 : Index := 0#32
  let v5 : BitVec 32 := pf.at 2 (Rect.unit (s := S1) ![0] S1.size inb_S1_S1_0) numel1_S1
  let c1_i32 : BitVec 32 := 1#32
  let v6 : BitVec 32 := Scalar.subi v5 c1_i32
  let c0_i32 : BitVec 32 := 0#32
  let v7 : BitVec 32 := Scalar.maxsi v6 c0_i32
  let v8 : BitVec 32 := Scalar.minsi arg0 v7
  let c2_i32 : BitVec 32 := 2#32
  let c0_i32_1 : BitVec 32 := 0#32
  let v9 : BitVec 1 := Scalar.cmpi .eq c2_i32 c0_i32_1
  let c1_i32_2 : BitVec 32 := 1#32
  let v10 : BitVec 32 := Scalar.select v9 c1_i32_2 c2_i32
  let v11 : BitVec 32 := Scalar.remsi v8 v10
  let c0_i32_3 : BitVec 32 := 0#32
  let v12 : BitVec 1 := Scalar.cmpi .ne v11 c0_i32_3
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let v16 : BitVec 1 := Scalar.andi v15 v12
  let v17 : BitVec 32 := Scalar.addi v11 v10
  let v18 : BitVec 32 := Scalar.select v16 v17 v11
  let c2_i32_6 : BitVec 32 := 2#32
  let v19 : BitVec 32 := Scalar.muli c2_i32_6 v4
  let c6_i32_7 : BitVec 32 := 6#32
  let v20 : BitVec 32 := Scalar.subi c6_i32_7 v19
  let v21 : BitVec 32 := Scalar.muli v18 v20
  let v22 : BitVec 32 := Scalar.addi v4 v21
  let c0_i32_8 : BitVec 32 := 0#32
  let c0_i32_9 : BitVec 32 := 0#32
  let c0_i32_10 : BitVec 32 := 0#32
  ![c0_i32_8.toNat, v1.toNat, c0_i32_9.toNat, v22.toNat]

def cc0_transform_2 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 2 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_0 : Index := 0#32
  let v5 : BitVec 32 := pf.at 2 (Rect.unit (s := S1) ![0] S1.size inb_S1_S1_0) numel1_S1
  let c1_i32 : BitVec 32 := 1#32
  let v6 : BitVec 32 := Scalar.subi v5 c1_i32
  let c0_i32 : BitVec 32 := 0#32
  let v7 : BitVec 32 := Scalar.maxsi v6 c0_i32
  let v8 : BitVec 32 := Scalar.minsi arg0 v7
  let c2_i32 : BitVec 32 := 2#32
  let c0_i32_1 : BitVec 32 := 0#32
  let v9 : BitVec 1 := Scalar.cmpi .eq c2_i32 c0_i32_1
  let c1_i32_2 : BitVec 32 := 1#32
  let v10 : BitVec 32 := Scalar.select v9 c1_i32_2 c2_i32
  let v11 : BitVec 32 := Scalar.remsi v8 v10
  let c0_i32_3 : BitVec 32 := 0#32
  let v12 : BitVec 1 := Scalar.cmpi .ne v11 c0_i32_3
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let v16 : BitVec 1 := Scalar.andi v15 v12
  let v17 : BitVec 32 := Scalar.addi v11 v10
  let v18 : BitVec 32 := Scalar.select v16 v17 v11
  let c2_i32_6 : BitVec 32 := 2#32
  let v19 : BitVec 32 := Scalar.muli c2_i32_6 v4
  let c6_i32_7 : BitVec 32 := 6#32
  let v20 : BitVec 32 := Scalar.subi c6_i32_7 v19
  let v21 : BitVec 32 := Scalar.muli v18 v20
  let v22 : BitVec 32 := Scalar.addi v4 v21
  let c0_i32_8 : BitVec 32 := 0#32
  let c0_i32_9 : BitVec 32 := 0#32
  let c0_i32_10 : BitVec 32 := 0#32
  ![c0_i32_8.toNat, v1.toNat, c0_i32_9.toNat, v22.toNat]

def cc0_transform_3 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 2 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_0 : Index := 0#32
  let v5 : BitVec 32 := pf.at 2 (Rect.unit (s := S1) ![0] S1.size inb_S1_S1_0) numel1_S1
  let c1_i32 : BitVec 32 := 1#32
  let v6 : BitVec 32 := Scalar.subi v5 c1_i32
  let c0_i32 : BitVec 32 := 0#32
  let v7 : BitVec 32 := Scalar.maxsi v6 c0_i32
  let v8 : BitVec 32 := Scalar.minsi arg0 v7
  let c2_i32 : BitVec 32 := 2#32
  let c0_i32_1 : BitVec 32 := 0#32
  let v9 : BitVec 1 := Scalar.cmpi .eq c2_i32 c0_i32_1
  let c1_i32_2 : BitVec 32 := 1#32
  let v10 : BitVec 32 := Scalar.select v9 c1_i32_2 c2_i32
  let v11 : BitVec 32 := Scalar.remsi v8 v10
  let c0_i32_3 : BitVec 32 := 0#32
  let v12 : BitVec 1 := Scalar.cmpi .ne v11 c0_i32_3
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let v16 : BitVec 1 := Scalar.andi v15 v12
  let v17 : BitVec 32 := Scalar.addi v11 v10
  let v18 : BitVec 32 := Scalar.select v16 v17 v11
  let c2_i32_6 : BitVec 32 := 2#32
  let v19 : BitVec 32 := Scalar.muli c2_i32_6 v4
  let c6_i32_7 : BitVec 32 := 6#32
  let v20 : BitVec 32 := Scalar.subi c6_i32_7 v19
  let v21 : BitVec 32 := Scalar.muli v18 v20
  let v22 : BitVec 32 := Scalar.addi v4 v21
  let c0_i32_8 : BitVec 32 := 0#32
  let c0_i32_9 : BitVec 32 := 0#32
  let c0_i32_10 : BitVec 32 := 0#32
  ![c0_i32_8.toNat, v1.toNat, v22.toNat, c0_i32_9.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S40960x1024 : Shape := ⟨2, ![40960, 1024]⟩
abbrev S8 : Shape := ⟨1, ![8]⟩
abbrev S2x8x1024x3584 : Shape := ⟨4, ![2, 8, 1024, 3584]⟩
abbrev S2x8x3584x1024 : Shape := ⟨4, ![2, 8, 3584, 1024]⟩
abbrev S_ : Shape := ⟨0, ![]⟩
abbrev S40960 : Shape := ⟨1, ![40960]⟩
abbrev S40960x1 : Shape := ⟨2, ![40960, 1]⟩
abbrev S1x8 : Shape := ⟨2, ![1, 8]⟩
abbrev S40960x8 : Shape := ⟨2, ![40960, 8]⟩
abbrev S1x1x1024x3584 : Shape := ⟨4, ![1, 1, 1024, 3584]⟩
abbrev S1024x3584 : Shape := ⟨2, ![1024, 3584]⟩
abbrev S1x1x3584x1024 : Shape := ⟨4, ![1, 1, 3584, 1024]⟩
abbrev S3584x1024 : Shape := ⟨2, ![3584, 1024]⟩
abbrev S40960x3584 : Shape := ⟨2, ![40960, 3584]⟩

abbrev nBuf : Space → Nat
  | .hbm => 232
  | .vmem => 0
  | .smem => 0
  | _ => 0

abbrev hbmTy0_0 (i : Nat) : BufTy := match i % 128 with
  | 0 => ⟨S40960x1024, .f32⟩
  | 1 => ⟨S8, .i32⟩
  | 2 => ⟨S2x8x1024x3584, .f32⟩
  | 3 => ⟨S2x8x1024x3584, .f32⟩
  | 4 => ⟨S2x8x3584x1024, .f32⟩
  | 5 => ⟨S_, .i32⟩
  | 6 => ⟨S8, .i32⟩
  | 7 => ⟨S8, .i32⟩
  | 8 => ⟨S_, .i32⟩
  | 9 => ⟨S_, .i32⟩
  | 10 => ⟨S8, .i32⟩
  | 11 => ⟨S8, .i32⟩
  | 12 => ⟨S8, .i32⟩
  | 13 => ⟨S_, .i32⟩
  | 14 => ⟨S8, .i32⟩
  | 15 => ⟨S8, .i1⟩
  | 16 => ⟨S8, .i32⟩
  | 17 => ⟨S8, .i32⟩
  | 18 => ⟨S_, .i32⟩
  | 19 => ⟨S8, .i32⟩
  | 20 => ⟨S8, .i1⟩
  | 21 => ⟨S8, .i1⟩
  | 22 => ⟨S_, .i32⟩
  | 23 => ⟨S8, .i32⟩
  | 24 => ⟨S8, .i32⟩
  | 25 => ⟨S8, .i32⟩
  | 26 => ⟨S_, .i32⟩
  | 27 => ⟨S8, .i32⟩
  | 28 => ⟨S8, .i32⟩
  | 29 => ⟨S_, .i32⟩
  | 30 => ⟨S_, .i32⟩
  | 31 => ⟨S8, .i32⟩
  | 32 => ⟨S8, .i32⟩
  | 33 => ⟨S40960, .i32⟩
  | 34 => ⟨S40960x1, .i32⟩
  | 35 => ⟨S1x8, .i32⟩
  | 36 => ⟨S40960x8, .i32⟩
  | 37 => ⟨S40960x8, .i32⟩
  | 38 => ⟨S40960x8, .i1⟩
  | 39 => ⟨S8, .i32⟩
  | 40 => ⟨S1x8, .i32⟩
  | 41 => ⟨S40960x8, .i32⟩
  | 42 => ⟨S40960x8, .i32⟩
  | 43 => ⟨S40960x8, .i1⟩
  | 44 => ⟨S40960x8, .i1⟩
  | 45 => ⟨S40960x8, .f32⟩
  | 46 => ⟨S_, .f32⟩
  | 47 => ⟨S40960x1024, .f32⟩
  | 48 => ⟨S40960x1, .f32⟩
  | 49 => ⟨S1x1x1024x3584, .f32⟩
  | 50 => ⟨S1024x3584, .f32⟩
  | 51 => ⟨S1x1x1024x3584, .f32⟩
  | 52 => ⟨S1024x3584, .f32⟩
  | 53 => ⟨S1x1x3584x1024, .f32⟩
  | 54 => ⟨S3584x1024, .f32⟩
  | 55 => ⟨S40960x3584, .f32⟩
  | 56 => ⟨S40960x3584, .f32⟩
  | 57 => ⟨S40960x3584, .f32⟩
  | 58 => ⟨S_, .f32⟩
  | 59 => ⟨S40960x3584, .f32⟩
  | 60 => ⟨S40960x3584, .f32⟩
  | 61 => ⟨S_, .f32⟩
  | 62 => ⟨S40960x3584, .f32⟩
  | 63 => ⟨S40960x3584, .f32⟩
  | 64 => ⟨S40960x3584, .f32⟩
  | 65 => ⟨S40960x3584, .f32⟩
  | 66 => ⟨S40960x3584, .f32⟩
  | 67 => ⟨S40960x1024, .f32⟩
  | 68 => ⟨S40960x1024, .f32⟩
  | 69 => ⟨S40960x1024, .f32⟩
  | 70 => ⟨S40960x1024, .f32⟩
  | 71 => ⟨S40960x1, .f32⟩
  | 72 => ⟨S1x1x1024x3584, .f32⟩
  | 73 => ⟨S1024x3584, .f32⟩
  | 74 => ⟨S1x1x1024x3584, .f32⟩
  | 75 => ⟨S1024x3584, .f32⟩
  | 76 => ⟨S1x1x3584x1024, .f32⟩
  | 77 => ⟨S3584x1024, .f32⟩
  | 78 => ⟨S40960x3584, .f32⟩
  | 79 => ⟨S40960x3584, .f32⟩
  | 80 => ⟨S40960x3584, .f32⟩
  | 81 => ⟨S_, .f32⟩
  | 82 => ⟨S40960x3584, .f32⟩
  | 83 => ⟨S40960x3584, .f32⟩
  | 84 => ⟨S_, .f32⟩
  | 85 => ⟨S40960x3584, .f32⟩
  | 86 => ⟨S40960x3584, .f32⟩
  | 87 => ⟨S40960x3584, .f32⟩
  | 88 => ⟨S40960x3584, .f32⟩
  | 89 => ⟨S40960x3584, .f32⟩
  | 90 => ⟨S40960x1024, .f32⟩
  | 91 => ⟨S40960x1024, .f32⟩
  | 92 => ⟨S40960x1024, .f32⟩
  | 93 => ⟨S40960x1024, .f32⟩
  | 94 => ⟨S40960x1, .f32⟩
  | 95 => ⟨S1x1x1024x3584, .f32⟩
  | 96 => ⟨S1024x3584, .f32⟩
  | 97 => ⟨S1x1x1024x3584, .f32⟩
  | 98 => ⟨S1024x3584, .f32⟩
  | 99 => ⟨S1x1x3584x1024, .f32⟩
  | 100 => ⟨S3584x1024, .f32⟩
  | 101 => ⟨S40960x3584, .f32⟩
  | 102 => ⟨S40960x3584, .f32⟩
  | 103 => ⟨S40960x3584, .f32⟩
  | 104 => ⟨S_, .f32⟩
  | 105 => ⟨S40960x3584, .f32⟩
  | 106 => ⟨S40960x3584, .f32⟩
  | 107 => ⟨S_, .f32⟩
  | 108 => ⟨S40960x3584, .f32⟩
  | 109 => ⟨S40960x3584, .f32⟩
  | 110 => ⟨S40960x3584, .f32⟩
  | 111 => ⟨S40960x3584, .f32⟩
  | 112 => ⟨S40960x3584, .f32⟩
  | 113 => ⟨S40960x1024, .f32⟩
  | 114 => ⟨S40960x1024, .f32⟩
  | 115 => ⟨S40960x1024, .f32⟩
  | 116 => ⟨S40960x1024, .f32⟩
  | 117 => ⟨S40960x1, .f32⟩
  | 118 => ⟨S1x1x1024x3584, .f32⟩
  | 119 => ⟨S1024x3584, .f32⟩
  | 120 => ⟨S1x1x1024x3584, .f32⟩
  | 121 => ⟨S1024x3584, .f32⟩
  | 122 => ⟨S1x1x3584x1024, .f32⟩
  | 123 => ⟨S3584x1024, .f32⟩
  | 124 => ⟨S40960x3584, .f32⟩
  | 125 => ⟨S40960x3584, .f32⟩
  | 126 => ⟨S40960x3584, .f32⟩
  | 127 => ⟨S_, .f32⟩
  | _ => ⟨S40960x1024, .f32⟩

abbrev hbmTy0_1 (i : Nat) : BufTy := match i % 128 with
  | 0 => ⟨S40960x3584, .f32⟩
  | 1 => ⟨S40960x3584, .f32⟩
  | 2 => ⟨S_, .f32⟩
  | 3 => ⟨S40960x3584, .f32⟩
  | 4 => ⟨S40960x3584, .f32⟩
  | 5 => ⟨S40960x3584, .f32⟩
  | 6 => ⟨S40960x3584, .f32⟩
  | 7 => ⟨S40960x3584, .f32⟩
  | 8 => ⟨S40960x1024, .f32⟩
  | 9 => ⟨S40960x1024, .f32⟩
  | 10 => ⟨S40960x1024, .f32⟩
  | 11 => ⟨S40960x1024, .f32⟩
  | 12 => ⟨S40960x1, .f32⟩
  | 13 => ⟨S1x1x1024x3584, .f32⟩
  | 14 => ⟨S1024x3584, .f32⟩
  | 15 => ⟨S1x1x1024x3584, .f32⟩
  | 16 => ⟨S1024x3584, .f32⟩
  | 17 => ⟨S1x1x3584x1024, .f32⟩
  | 18 => ⟨S3584x1024, .f32⟩
  | 19 => ⟨S40960x3584, .f32⟩
  | 20 => ⟨S40960x3584, .f32⟩
  | 21 => ⟨S40960x3584, .f32⟩
  | 22 => ⟨S_, .f32⟩
  | 23 => ⟨S40960x3584, .f32⟩
  | 24 => ⟨S40960x3584, .f32⟩
  | 25 => ⟨S_, .f32⟩
  | 26 => ⟨S40960x3584, .f32⟩
  | 27 => ⟨S40960x3584, .f32⟩
  | 28 => ⟨S40960x3584, .f32⟩
  | 29 => ⟨S40960x3584, .f32⟩
  | 30 => ⟨S40960x3584, .f32⟩
  | 31 => ⟨S40960x1024, .f32⟩
  | 32 => ⟨S40960x1024, .f32⟩
  | 33 => ⟨S40960x1024, .f32⟩
  | 34 => ⟨S40960x1024, .f32⟩
  | 35 => ⟨S40960x1, .f32⟩
  | 36 => ⟨S1x1x1024x3584, .f32⟩
  | 37 => ⟨S1024x3584, .f32⟩
  | 38 => ⟨S1x1x1024x3584, .f32⟩
  | 39 => ⟨S1024x3584, .f32⟩
  | 40 => ⟨S1x1x3584x1024, .f32⟩
  | 41 => ⟨S3584x1024, .f32⟩
  | 42 => ⟨S40960x3584, .f32⟩
  | 43 => ⟨S40960x3584, .f32⟩
  | 44 => ⟨S40960x3584, .f32⟩
  | 45 => ⟨S_, .f32⟩
  | 46 => ⟨S40960x3584, .f32⟩
  | 47 => ⟨S40960x3584, .f32⟩
  | 48 => ⟨S_, .f32⟩
  | 49 => ⟨S40960x3584, .f32⟩
  | 50 => ⟨S40960x3584, .f32⟩
  | 51 => ⟨S40960x3584, .f32⟩
  | 52 => ⟨S40960x3584, .f32⟩
  | 53 => ⟨S40960x3584, .f32⟩
  | 54 => ⟨S40960x1024, .f32⟩
  | 55 => ⟨S40960x1024, .f32⟩
  | 56 => ⟨S40960x1024, .f32⟩
  | 57 => ⟨S40960x1024, .f32⟩
  | 58 => ⟨S40960x1, .f32⟩
  | 59 => ⟨S1x1x1024x3584, .f32⟩
  | 60 => ⟨S1024x3584, .f32⟩
  | 61 => ⟨S1x1x1024x3584, .f32⟩
  | 62 => ⟨S1024x3584, .f32⟩
  | 63 => ⟨S1x1x3584x1024, .f32⟩
  | 64 => ⟨S3584x1024, .f32⟩
  | 65 => ⟨S40960x3584, .f32⟩
  | 66 => ⟨S40960x3584, .f32⟩
  | 67 => ⟨S40960x3584, .f32⟩
  | 68 => ⟨S_, .f32⟩
  | 69 => ⟨S40960x3584, .f32⟩
  | 70 => ⟨S40960x3584, .f32⟩
  | 71 => ⟨S_, .f32⟩
  | 72 => ⟨S40960x3584, .f32⟩
  | 73 => ⟨S40960x3584, .f32⟩
  | 74 => ⟨S40960x3584, .f32⟩
  | 75 => ⟨S40960x3584, .f32⟩
  | 76 => ⟨S40960x3584, .f32⟩
  | 77 => ⟨S40960x1024, .f32⟩
  | 78 => ⟨S40960x1024, .f32⟩
  | 79 => ⟨S40960x1024, .f32⟩
  | 80 => ⟨S40960x1024, .f32⟩
  | 81 => ⟨S40960x1, .f32⟩
  | 82 => ⟨S1x1x1024x3584, .f32⟩
  | 83 => ⟨S1024x3584, .f32⟩
  | 84 => ⟨S1x1x1024x3584, .f32⟩
  | 85 => ⟨S1024x3584, .f32⟩
  | 86 => ⟨S1x1x3584x1024, .f32⟩
  | 87 => ⟨S3584x1024, .f32⟩
  | 88 => ⟨S40960x3584, .f32⟩
  | 89 => ⟨S40960x3584, .f32⟩
  | 90 => ⟨S40960x3584, .f32⟩
  | 91 => ⟨S_, .f32⟩
  | 92 => ⟨S40960x3584, .f32⟩
  | 93 => ⟨S40960x3584, .f32⟩
  | 94 => ⟨S_, .f32⟩
  | 95 => ⟨S40960x3584, .f32⟩
  | 96 => ⟨S40960x3584, .f32⟩
  | 97 => ⟨S40960x3584, .f32⟩
  | 98 => ⟨S40960x3584, .f32⟩
  | 99 => ⟨S40960x3584, .f32⟩
  | 100 => ⟨S40960x1024, .f32⟩
  | 101 => ⟨S40960x1024, .f32⟩
  | 102 => ⟨S40960x1024, .f32⟩
  | 103 => ⟨S40960x1024, .f32⟩
  | _ => ⟨S40960x1024, .f32⟩

abbrev hbmTy (i : Nat) : BufTy := match i / 128 with
  | 0 => hbmTy0_0 i
  | 1 => hbmTy0_1 i
  | _ => ⟨S40960x1024, .f32⟩

abbrev bufTy : (tb : Table) → Fin (tcTables nBuf tb) → BufTy
  | .hbm, ⟨i, _⟩ => hbmTy i
  | _, _ => ⟨S40960x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_c_1 : Ref sig .tc := ⟨.hbm, 26, rfl⟩
abbrev main_v3 : Ref sig .tc := ⟨.hbm, 27, rfl⟩
abbrev main_v4 : Ref sig .tc := ⟨.hbm, 28, rfl⟩
abbrev main_call1_call0_c : Ref sig .tc := ⟨.hbm, 29, rfl⟩
abbrev main_call1_call0_v0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_call2_v0 : Ref sig .tc := ⟨.hbm, 56, rfl⟩
abbrev main_call2_v1 : Ref sig .tc := ⟨.hbm, 57, rfl⟩
abbrev main_call2_cst : Ref sig .tc := ⟨.hbm, 58, rfl⟩
abbrev main_call2_v2 : Ref sig .tc := ⟨.hbm, 59, rfl⟩
abbrev main_call2_v3 : Ref sig .tc := ⟨.hbm, 60, rfl⟩
abbrev main_call2_cst_0 : Ref sig .tc := ⟨.hbm, 61, rfl⟩
abbrev main_call2_v4 : Ref sig .tc := ⟨.hbm, 62, rfl⟩
abbrev main_call2_v5 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_call3_v0 : Ref sig .tc := ⟨.hbm, 79, rfl⟩
abbrev main_call3_v1 : Ref sig .tc := ⟨.hbm, 80, rfl⟩
abbrev main_call3_cst : Ref sig .tc := ⟨.hbm, 81, rfl⟩
abbrev main_call3_v2 : Ref sig .tc := ⟨.hbm, 82, rfl⟩
abbrev main_call3_v3 : Ref sig .tc := ⟨.hbm, 83, rfl⟩
abbrev main_call3_cst_0 : Ref sig .tc := ⟨.hbm, 84, rfl⟩
abbrev main_call3_v4 : Ref sig .tc := ⟨.hbm, 85, rfl⟩
abbrev main_call3_v5 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_call4_v0 : Ref sig .tc := ⟨.hbm, 102, rfl⟩
abbrev main_call4_v1 : Ref sig .tc := ⟨.hbm, 103, rfl⟩
abbrev main_call4_cst : Ref sig .tc := ⟨.hbm, 104, rfl⟩
abbrev main_call4_v2 : Ref sig .tc := ⟨.hbm, 105, rfl⟩
abbrev main_call4_v3 : Ref sig .tc := ⟨.hbm, 106, rfl⟩
abbrev main_call4_cst_0 : Ref sig .tc := ⟨.hbm, 107, rfl⟩
abbrev main_call4_v4 : Ref sig .tc := ⟨.hbm, 108, rfl⟩
abbrev main_call4_v5 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_call5_v0 : Ref sig .tc := ⟨.hbm, 125, rfl⟩
abbrev main_call5_v1 : Ref sig .tc := ⟨.hbm, 126, rfl⟩
abbrev main_call5_cst : Ref sig .tc := ⟨.hbm, 127, rfl⟩
abbrev main_call5_v2 : Ref sig .tc := ⟨.hbm, 128, rfl⟩
abbrev main_call5_v3 : Ref sig .tc := ⟨.hbm, 129, rfl⟩
abbrev main_call5_cst_0 : Ref sig .tc := ⟨.hbm, 130, rfl⟩
abbrev main_call5_v4 : Ref sig .tc := ⟨.hbm, 131, rfl⟩
abbrev main_call5_v5 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_call6_v0 : Ref sig .tc := ⟨.hbm, 148, rfl⟩
abbrev main_call6_v1 : Ref sig .tc := ⟨.hbm, 149, rfl⟩
abbrev main_call6_cst : Ref sig .tc := ⟨.hbm, 150, rfl⟩
abbrev main_call6_v2 : Ref sig .tc := ⟨.hbm, 151, rfl⟩
abbrev main_call6_v3 : Ref sig .tc := ⟨.hbm, 152, rfl⟩
abbrev main_call6_cst_0 : Ref sig .tc := ⟨.hbm, 153, rfl⟩
abbrev main_call6_v4 : Ref sig .tc := ⟨.hbm, 154, rfl⟩
abbrev main_call6_v5 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_call7_v0 : Ref sig .tc := ⟨.hbm, 171, rfl⟩
abbrev main_call7_v1 : Ref sig .tc := ⟨.hbm, 172, rfl⟩
abbrev main_call7_cst : Ref sig .tc := ⟨.hbm, 173, rfl⟩
abbrev main_call7_v2 : Ref sig .tc := ⟨.hbm, 174, rfl⟩
abbrev main_call7_v3 : Ref sig .tc := ⟨.hbm, 175, rfl⟩
abbrev main_call7_cst_0 : Ref sig .tc := ⟨.hbm, 176, rfl⟩
abbrev main_call7_v4 : Ref sig .tc := ⟨.hbm, 177, rfl⟩
abbrev main_call7_v5 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_call8_v0 : Ref sig .tc := ⟨.hbm, 194, rfl⟩
abbrev main_call8_v1 : Ref sig .tc := ⟨.hbm, 195, rfl⟩
abbrev main_call8_cst : Ref sig .tc := ⟨.hbm, 196, rfl⟩
abbrev main_call8_v2 : Ref sig .tc := ⟨.hbm, 197, rfl⟩
abbrev main_call8_v3 : Ref sig .tc := ⟨.hbm, 198, rfl⟩
abbrev main_call8_cst_0 : Ref sig .tc := ⟨.hbm, 199, rfl⟩
abbrev main_call8_v4 : Ref sig .tc := ⟨.hbm, 200, rfl⟩
abbrev main_call8_v5 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_call9_v0 : Ref sig .tc := ⟨.hbm, 217, rfl⟩
abbrev main_call9_v1 : Ref sig .tc := ⟨.hbm, 218, rfl⟩
abbrev main_call9_cst : Ref sig .tc := ⟨.hbm, 219, rfl⟩
abbrev main_call9_v2 : Ref sig .tc := ⟨.hbm, 220, rfl⟩
abbrev main_call9_v3 : Ref sig .tc := ⟨.hbm, 221, rfl⟩
abbrev main_call9_cst_0 : Ref sig .tc := ⟨.hbm, 222, rfl⟩
abbrev main_call9_v4 : Ref sig .tc := ⟨.hbm, 223, rfl⟩
abbrev main_call9_v5 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024x2816 : Shape := ⟨2, ![1024, 2816]⟩
abbrev S2816x1024 : Shape := ⟨2, ![2816, 1024]⟩
abbrev S2x1024 : Shape := ⟨2, ![2, 1024]⟩
abbrev S16384x1024 : Shape := ⟨2, ![16384, 1024]⟩
abbrev S1x1024 : Shape := ⟨2, ![1, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩
abbrev S1024x256 : Shape := ⟨2, ![1024, 256]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩

abbrev nBuf : Space → Nat
  | .hbm => 13
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2x1024, .f32⟩
  | .hbm, ⟨5, _⟩ => ⟨S2x1024, .f32⟩
  | .hbm, ⟨6, _⟩ => ⟨S16384x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S2x8192x1024 : Shape := ⟨3, ![2, 8192, 1024]⟩
abbrev S1024x2816 : Shape := ⟨2, ![1024, 2816]⟩
abbrev S2816x1024 : Shape := ⟨2, ![2816, 1024]⟩
abbrev S2x1024 : Shape := ⟨2, ![2, 1024]⟩
abbrev S16384x1024 : Shape := ⟨2, ![16384, 1024]⟩
abbrev S_ : Shape := ⟨0, ![]⟩
abbrev S16384x2816 : Shape := ⟨2, ![16384, 2816]⟩
abbrev S1x1024 : Shape := ⟨2, ![1, 1024]⟩
abbrev S1024 : Shape := ⟨1, ![1024]⟩
abbrev S16384 : Shape := ⟨1, ![16384]⟩
abbrev S16384x1 : Shape := ⟨2, ![16384, 1]⟩

abbrev nBuf : Space → Nat
  | .hbm => 57
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2x1024, .f32⟩
  | .hbm, ⟨5, _⟩ => ⟨S2x1024, .f32⟩
  | .hbm, ⟨6, _⟩ => ⟨S16384x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S16384x2816, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S_, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Proof.Body.lean ====
/-
  One grid step of the sliding-window attention kernel, written as ONE function of the blocks it loads: the eight key
  and value blocks of 128 rows, the block carried from the step before, the thirty-two query tiles, the rotation
  tables and the sinks. The generated run finds the same stores spelt out entry by entry; `pieces_A`, `pieces_B` say
  that they are the uniform ones.
-/
module

public import proofs.«01_k».proof.Proof.Gen.KernelIdeal.Value
public import Idealize.ShloMosaic.Lib.Tactic

@[expose] public section

set_option maxRecDepth 65536

noncomputable section

open Idealize.ShloMosaic Idealize.ShloMosaic.TcCoe
open Cert.KernelIdeal Cert.KernelIdeal.Gen

namespace Cert.Swa

variable {F : FTy → Type} [FloatOps F]

/-! ## Side conditions over the block number -/

theorem slicesRow : ∀ i : Fin 8, S1024x128.Slices ![128 * i.val, 0] S128x128 := by decide
theorem slicesEntry : ∀ e : Fin 64, S64x128x128.Slices ![e.val, 0, 0] S1x128x128 := by decide
theorem inbRow : ∀ i : Fin 8, ∀ a, (![128 * i.val, 0] : Fin 2 → Nat) a + S128x128.size a ≤ S1024x128.size a := by decide
theorem inbTile : ∀ (i : Fin 8) (p : Fin 4), ∀ a, (![128 * i.val, 128 * p.val] : Fin 2 → Nat) a + S128x128.size a ≤ S1024x512.size a := by decide
theorem inbSink : ∀ h : Fin 8, ∀ a, (![h.val] : Fin 1 → Nat) a + S1.size a ≤ S8.size a := by decide

/-! ## Entries: block `e / 8`, head `e % 8` -/

/-- The block an entry of the stacks belongs to. -/
abbrev blkOf (e : Fin 64) : Fin 8 := ⟨e.val / 8, by omega⟩
/-- The head an entry of the stacks belongs to. -/
abbrev headOf (e : Fin 64) : Fin 8 := ⟨e.val % 8, by omega⟩

/-! ## The tiles -/

/-- The rotary embedding of a tile: itself by the cosines, and its two rotations along the lanes by the two sine tables. -/
def rope (x c sa sb : FVec F S128x128 .f32) : FVec F S128x128 .f32 :=
  addf (addf (mulf x c) (mulf (dynamicRotate 1 120#32 none x rotates_S128x128_d1) sa)) (mulf (dynamicRotate 1 8#32 none x rotates_S128x128_d1) sb)

/-- The rows of block `i` of a table. -/
def rows (t : Vec F S1024x128 .f32) (i : Fin 8) : FVec F S128x128 .f32 :=
  extractStridedSlice S128x128 ![128 * i.val, 0] (shapeCast S1024x128 t shapeCasts_S1024x128_S1024x128) (slicesRow i)

/-- Block `i`'s keys, embedded. -/
def kTile (LK : Fin 8 → Vec F S128x128 .bf16) (tc ta tb : Vec F S1024x128 .f32) (i : Fin 8) : FVec F S128x128 .bf16 :=
  truncf .bf16 (rope (extf .f32 (shapeCast S128x128 (LK i) shapeCasts_S128x128_S128x128) bitsLt_bf16_f32) (rows tc i) (rows ta i) (rows tb i)) bitsLt_bf16_f32

/-- Block `i`'s values. -/
def vTile (LV : Fin 8 → Vec F S128x128 .bf16) (i : Fin 8) : FVec F S128x128 .bf16 :=
  shapeCast S128x128 (LV i) shapeCasts_S128x128_S128x128

/-- The queries of block `i` and head pair `p`, embedded and scaled. -/
def qTile (LQ : Fin 8 → Fin 4 → Vec F S128x128 .bf16) (tc ta tb : Vec F S1024x128 .f32) (i : Fin 8) (p : Fin 4) : FVec F S128x128 .bf16 :=
  truncf .bf16 (mulf (rope (extf .f32 (shapeCast S128x128 (LQ i p) shapeCasts_S128x128_S128x128) bitsLt_bf16_f32) (rows tc i) (rows ta i) (rows tb i))
    (broadcast S128x128 (Scalar.ofBits .f32 0x3E000000#32))) bitsLt_bf16_f32

/-- The lanes below 64. -/
def low : IVec S128x128 1 := cmpi .slt (iota .tc S128x128 32 [1] iota_S128x128_d1_w32) (broadcast S128x128 64#32)

/-- The zero tile. -/
def zeroT : FVec F S128x128 .bf16 := broadcast S128x128 (Scalar.ofBits .bf16 0x0000#16)

/-- A tile with its two halves of 64 lanes exchanged. -/
def swap (t : Vec F S128x128 .bf16) : FVec F S128x128 .bf16 :=
  concatenate S128x128 1 [⟨S128x64, extractStridedSlice S128x64 ![0, 64] t slices_S128x128_o0_64_S128x64⟩,
    ⟨S128x64, extractStridedSlice S128x64 ![0, 0] t slices_S128x128_o0_0_S128x64⟩] concatenates_S128x64_S128x64_S128x128_d1

/-- Head `h`'s half of a tile of two key-value heads, in the lanes the head's queries lie in and zero in the others. -/
def half (t : Vec F S128x128 .bf16) (h : Fin 8) : FVec F S128x128 .bf16 :=
  match h.val / 4, h.val % 2 with
  | 0, 0 => select low t zeroT
  | 0, _ => select low zeroT (swap t)
  | _, 0 => select low (swap t) zeroT
  | _, _ => select low zeroT t

/-- The tile before block `i`: the carried one before the first. -/
def before (tp : Vec F S128x128 .bf16) (T : Fin 8 → FVec F S128x128 .bf16) (i : Fin 8) : Vec F S128x128 .bf16 :=
  match i with
  | ⟨0, _⟩ => tp
  | ⟨n + 1, h⟩ => T ⟨n, Nat.lt_of_succ_lt h⟩

/-! ## The stacks of 64 entries -/

theorem concStack (T : Fin 64 → FVec F S128x128 .bf16) :
    Shape.Concatenates ((List.ofFn fun e : Fin 64 => (⟨S1x128x128, shapeCast S1x128x128 (T e) shapeCasts_S128x128_S1x128x128⟩ : (s : Shape) × (s.Idx → F .bf16))).map (·.1)) S64x128x128 0 := by
  have h : Shape.Concatenates (List.replicate 64 S1x128x128) S64x128x128 0 := by decide
  rw [List.map_ofFn]
  exact (List.ofFn_const 64 S1x128x128).symm ▸ h

theorem concStack1 (T : Fin 64 → F .f32) :
    Shape.Concatenates ((List.ofFn fun e : Fin 64 => (⟨S1x1x1, shapeCast S1x1x1 (broadcast S1x1 (T e) : FVec F S1x1 .f32) shapeCasts_S1x1_S1x1x1⟩ : (s : Shape) × (s.Idx → F .f32))).map (·.1)) S64x1x1 0 := by
  have h : Shape.Concatenates (List.replicate 64 S1x1x1) S64x1x1 0 := by decide
  rw [List.map_ofFn]
  exact (List.ofFn_const 64 S1x1x1).symm ▸ h

/-- Sixty-four tiles stacked. -/
def stack (T : Fin 64 → FVec F S128x128 .bf16) : FVec F S64x128x128 .bf16 :=
  concatenate S64x128x128 0 (List.ofFn fun e : Fin 64 => (⟨S1x128x128, shapeCast S1x128x128 (T e) shapeCasts_S128x128_S1x128x128⟩ : (s : Shape) × (s.Idx → F .bf16))) (concStack T)

/-- Sixty-four words stacked. -/
def stack1 (T : Fin 64 → F .f32) : FVec F S64x1x1 .f32 :=
  concatenate S64x1x1 0 (List.ofFn fun e : Fin 64 => (⟨S1x1x1, shapeCast S1x1x1 (broadcast S1x1 (T e) : FVec F S1x1 .f32) shapeCasts_S1x1_S1x1x1⟩ : (s : Shape) × (s.Idx → F .f32))) (concStack1 T)

/-! ## The attention of all entries at once -/

/-- The scores against the block before: the later columns only, and in the first block none where the step is the
    first of its sequence. -/
def sPrev (n1 : BitVec 32) (q k : FVec F S64x128x128 .bf16) : FVec F S64x128x128 .f32 :=
  have s : FVec F S64x128x128 .f32 := select (broadcastTo S64x128x128 (shapeCast S1x128x128 (cmpi .sgt (iota .tc S128x128 32 [1] iota_S128x128_d1_w32) (iota .tc S128x128 32 [0] iota_S128x128_d0_w32)) shapeCasts_S128x128_S1x128x128) broadcasts_S1x128x128_S64x128x128)
    (matmul dot_S64x128x128_S64x128x128_S64x128x128_2_2_1_1_0_0 none q k (constant S64x128x128 .f32 0x00000000#32)) (broadcast S64x128x128 (Scalar.ofBits .f32 0xFF800000#32 : F .f32))
  concatenate S64x128x128 0 [⟨S8x128x128, Scalar.select (Scalar.cmpi .sgt n1 0#32) (extractStridedSlice S8x128x128 ![0, 0, 0] s slices_S64x128x128_o0_0_0_S8x128x128) (broadcast S8x128x128 (Scalar.ofBits .f32 0xFF800000#32 : F .f32))⟩,
    ⟨S56x128x128, extractStridedSlice S56x128x128 ![8, 0, 0] s slices_S64x128x128_o8_0_0_S56x128x128⟩] concatenates_S8x128x128_S56x128x128_S64x128x128_d0

/-- The scores against the block itself: the columns up to the row. -/
def sCur (q k : FVec F S64x128x128 .bf16) : FVec F S64x128x128 .f32 :=
  select (broadcastTo S64x128x128 (shapeCast S1x128x128 (cmpi .sle (iota .tc S128x128 32 [1] iota_S128x128_d1_w32) (iota .tc S128x128 32 [0] iota_S128x128_d0_w32)) shapeCasts_S128x128_S1x128x128) broadcasts_S1x128x128_S64x128x128)
    (matmul dot_S64x128x128_S64x128x128_S64x128x128_2_2_1_1_0_0 none q k (constant S64x128x128 .f32 0x00000000#32)) (broadcast S64x128x128 (Scalar.ofBits .f32 0xFF800000#32 : F .f32))

/-- The largest score of each row, the sink among them. -/
def mRow (sp sc : FVec F S64x128x128 .f32) (sk : FVec F S64x1x1 .f32) : FVec F S64x128x1 .f32 :=
  maximumf (maximumf (shapeCast S64x128x1 (multiReduction .maximumf [2] S64x128 sp 0xFF800000#32 reduces_S64x128x128_S64x128 (.inl rfl) rfl) shapeCasts_S64x128_S64x128x1)
      (shapeCast S64x128x1 (multiReduction .maximumf [2] S64x128 sc 0xFF800000#32 reduces_S64x128x128_S64x128 (.inl rfl) rfl) shapeCasts_S64x128_S64x128x1))
    (broadcastTo S64x128x1 sk broadcasts_S64x1x1_S64x128x1)

/-- The exponentials of scores less their row's largest. -/
def pExp (s : FVec F S64x128x128 .f32) (m : FVec F S64x128x1 .f32) : FVec F S64x128x128 .f32 :=
  exp (subf s (broadcastTo S64x128x128 m broadcasts_S64x128x1_S64x128x128))

/-- One over the sum of a row's exponentials and the sink's. -/
def invRow (pp pc : FVec F S64x128x128 .f32) (sk : FVec F S64x1x1 .f32) (m : FVec F S64x128x1 .f32) : FVec F S64x128x1 .f32 :=
  divf (broadcast S64x128x1 (Scalar.ofBits .f32 0x3F800000#32))
    (addf (addf (shapeCast S64x128x1 (multiReduction .add [2] S64x128 pp 0x00000000#32 reduces_S64x128x128_S64x128 (.inl rfl) rfl) shapeCasts_S64x128_S64x128x1)
        (shapeCast S64x128x1 (multiReduction .add [2] S64x128 pc 0x00000000#32 reduces_S64x128x128_S64x128 (.inl rfl) rfl) shapeCasts_S64x128_S64x128x1))
      (exp (subf (broadcastTo S64x128x1 sk broadcasts_S64x1x1_S64x128x1) m)))

/-- The weighted values of one block. -/
def pv (p : FVec F S64x128x128 .f32) (iv : FVec F S64x128x1 .f32) (v : FVec F S64x128x128 .bf16) : FVec F S64x128x128 .f32 :=
  matmul dot_S64x128x128_S64x128x128_S64x128x128_2_1_1_2_0_0 none (truncf .bf16 (mulf p (broadcastTo S64x128x128 iv broadcasts_S64x128x1_S64x128x128)) bitsLt_bf16_f32) v (constant S64x128x128 .f32 0x00000000#32)

/-- The attention of all 64 entries from the stacks. -/
def attend (n1 : BitVec 32) (q kp kc vp vc : FVec F S64x128x128 .bf16) (sk : FVec F S64x1x1 .f32) : FVec F S64x128x128 .f32 :=
  have sp := sPrev n1 q kp
  have sc := sCur q kc
  have m := mRow sp sc sk
  have iv := invRow (pExp sp m) (pExp sc m) sk m
  addf (pv (pExp sp m) iv vp) (pv (pExp sc m) iv vc)

/-- The attention of all 64 entries from the loaded blocks. -/
def outs (n1 : BitVec 32) (kp vp : Vec F S128x128 .bf16) (LQ : Fin 8 → Fin 4 → Vec F S128x128 .bf16) (LK LV : Fin 8 → Vec F S128x128 .bf16)
    (tc ta tb : Vec F S1024x128 .f32) (sk : Fin 8 → F .f32) : FVec F S64x128x128 .f32 :=
  attend n1 (stack fun e => qTile LQ tc ta tb (blkOf e) ⟨e.val % 8 / 2, by omega⟩)
    (stack fun e => half (before kp (kTile LK tc ta tb) (blkOf e)) (headOf e)) (stack fun e => half (kTile LK tc ta tb (blkOf e)) (headOf e))
    (stack fun e => half (before vp (vTile LV) (blkOf e)) (headOf e)) (stack fun e => half (vTile LV (blkOf e)) (headOf e))
    (stack1 fun e => sk (headOf e))

/-- The two entries that make one output tile, added. -/
def outTile (o : FVec F S64x128x128 .f32) (e0 e1 : Fin 64) : FVec F S128x128 .bf16 :=
  truncf .bf16 (addf (shapeCast S128x128 (extractStridedSlice S1x128x128 ![e0.val, 0, 0] o (slicesEntry e0)) shapeCasts_S1x128x128_S128x128)
    (shapeCast S128x128 (extractStridedSlice S1x128x128 ![e1.val, 0, 0] o (slicesEntry e1)) shapeCasts_S1x128x128_S128x128)) bitsLt_bf16_f32

/-- The stores of one step: tile `p` of block `i` holds entries `8 i + 2 p` and the next, the last tile first. -/
def pieces (o : FVec F S64x128x128 .f32) : List (View.Piece (Elt F) S1024x512 .bf16) :=
  List.ofFn fun n : Fin 32 => ⟨Rect.unit ![128 * ((31 - n.val) / 4), 128 * ((31 - n.val) % 4)] S128x128.size (inbTile ⟨(31 - n.val) / 4, by omega⟩ ⟨(31 - n.val) % 4, by omega⟩),
    outTile o ⟨2 * (31 - n.val), by omega⟩ ⟨2 * (31 - n.val) + 1, by omega⟩⟩

section Run

variable (c : Dev nD) (i : grid0.Coords) (arg2 : Memref sig .tc .smem S8 .f32) (harg2 : arg2.IsWhole) (arg3 : Memref sig .tc .vmem S1024x512 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x512 .bf16) (harg9 : arg9.IsWhole) (arg10 : Memref sig .tc .vmem S128x128 .bf16) (harg10 : arg10.IsWhole) (arg11 : Memref sig .tc .vmem S128x128 .bf16) (harg11 : arg11.IsWhole)
    (x0 : Vec F S8 .f32) (x1 : Vec F S1024x512 .bf16) (x2 : Vec F S1024x128 .bf16) (x3 : Vec F S1024x128 .bf16) (x4 : Vec F S1024x128 .f32) (x5 : Vec F S1024x128 .f32) (x6 : Vec F S1024x128 .f32) (xs0 : Vec F S128x128 .bf16) (xs1 : Vec F S128x128 .bf16)

/-- The loads of the query tiles. -/
abbrev ldQ (i : Fin 8) (p : Fin 4) : Vec F S128x128 .bf16 :=
  View.readAt (Elt F) arg3.view (Rect.unit (s := S1024x512) ![128 * i.val, 128 * p.val] S128x128.size (inbTile i p)).toLoadRect (harg3.unread x1)
/-- The loads of the key (or value) blocks. -/
abbrev ldR (i : Fin 8) : Vec F S128x128 .bf16 :=
  View.readAt (Elt F) arg4.view (Rect.unit (s := S1024x128) ![128 * i.val, 0] S128x128.size (inbRow i)).toLoadRect (harg4.unread x2)
/-- The loads of the tables. -/
abbrev ldT : Vec F S1024x128 .f32 :=
  View.readAt (Elt F) arg6.view (Rect.unit (s := S1024x128) ![0, 0] S1024x128.size inb_S1024x128_S1024x128_0_0).toLoadRect (harg6.unread x4)
/-- The load of the carried tile. -/
abbrev ldC : Vec F S128x128 .bf16 :=
  View.readAt (Elt F) arg10.view (Rect.unit (s := S128x128) ![0, 0] S128x128.size inb_S128x128_S128x128_0_0).toLoadRect (harg10.unread xs0)
/-- The loads of the sinks. -/
abbrev ldS (h : Fin 8) : F .f32 :=
  View.readAt (Elt F) arg2.view (Rect.unit (s := S8) ![h.val] S1.size (inbSink h)).toLoadRect (harg2.unread x0) (Shape.Idx.first (show 0 < S1.numel by decide))

/-- Away from the start of a sequence: the stores of one step, from the tiles carried into it. -/
theorem pieces_B (hc0 : ¬cond0_0 i) :
    (kernelRun0_B c i arg2 harg2 arg3 harg3 arg4 harg4 arg5 harg5 arg6 harg6 arg7 harg7 arg8 harg8 arg9 harg9 arg10 harg10 arg11 harg11 hc0 x0 x1 x2 x3 x4 x5 x6 xs0 xs1).1
      = pieces (outs (BitVec.ofNat 32 (i 1).val) (ldC arg10 harg10 xs0) (ldC arg11 harg11 xs1) (ldQ arg3 harg3 x1) (ldR arg4 harg4 x2) (ldR arg5 harg5 x3)
          (ldT arg6 harg6 x4) (ldT arg7 harg7 x5) (ldT arg8 harg8 x6) (ldS arg2 harg2 x0)) := by
  sl_kernel_rfl

/-- The key tile a step leaves for the next one. -/
theorem keyLeft_B (hc0 : ¬cond0_0 i) :
    (kernelRun0_B c i arg2 harg2 arg3 harg3 arg4 harg4 arg5 harg5 arg6 harg6 arg7 harg7 arg8 harg8 arg9 harg9 arg10 harg10 arg11 harg11 hc0 x0 x1 x2 x3 x4 x5 x6 xs0 xs1).2.1
      = [⟨Rect.unit ![0, 0] S128x128.size inb_S128x128_S128x128_0_0, shapeCast S128x128 (kTile (ldR arg4 harg4 x2) (ldT arg6 harg6 x4) (ldT arg7 harg7 x5) (ldT arg8 harg8 x6) 7) shapeCasts_S128x128_S128x128⟩] := by
  sl_kernel_rfl

/-- The value tile a step leaves for the next one. -/
theorem valueLeft_B (hc0 : ¬cond0_0 i) :
    (kernelRun0_B c i arg2 harg2 arg3 harg3 arg4 harg4 arg5 harg5 arg6 harg6 arg7 harg7 arg8 harg8 arg9 harg9 arg10 harg10 arg11 harg11 hc0 x0 x1 x2 x3 x4 x5 x6 xs0 xs1).2.2.1
      = [⟨Rect.unit ![0, 0] S128x128.size inb_S128x128_S128x128_0_0, shapeCast S128x128 (vTile (ldR arg5 harg5 x3) 7) shapeCasts_S128x128_S128x128⟩] := by
  sl_kernel_rfl

/-- What the start of a sequence reads of the carried tiles: the zeros it has just stored. -/
abbrev ldZ : Vec F S128x128 .bf16 :=
  arg10.view.readCov [⟨Rect.unit (s := S128x128) ![0, 0] S128x128.size inb_S128x128_S128x128_0_0, shapeCast S128x128 zeroT shapeCasts_S128x128_S128x128⟩] (Rect.unit (s := S128x128) ![0, 0] S128x128.size inb_S128x128_S128x128_0_0).toLoadRect

/-- At the start of a sequence: the same stores, from zero tiles. -/
theorem pieces_A (hc0 : cond0_0 i) :
    (kernelRun0_A c i arg2 harg2 arg3 harg3 arg4 harg4 arg5 harg5 arg6 harg6 arg7 harg7 arg8 harg8 arg9 harg9 arg10 harg10 arg11 harg11 hc0 x0 x1 x2 x3 x4 x5 x6).1
      = pieces (outs (BitVec.ofNat 32 (i 1).val) (ldZ arg10) (ldZ arg11) (ldQ arg3 harg3 x1) (ldR arg4 harg4 x2) (ldR arg5 harg5 x3)
          (ldT arg6 harg6 x4) (ldT arg7 harg7 x5) (ldT arg8 harg8 x6) (ldS arg2 harg2 x0)) := by
  sl_kernel_rfl

/-- The key tile the start of a sequence leaves. -/
theorem keyLeft_A (hc0 : cond0_0 i) :
    (kernelRun0_A c i arg2 harg2 arg3 harg3 arg4 harg4 arg5 harg5 arg6 harg6 arg7 harg7 arg8 harg8 arg9 harg9 arg10 harg10 arg11 harg11 hc0 x0 x1 x2 x3 x4 x5 x6).2.1
      = [⟨Rect.unit ![0, 0] S128x128.size inb_S128x128_S128x128_0_0, shapeCast S128x128 (kTile (ldR arg4 harg4 x2) (ldT arg6 harg6 x4) (ldT arg7 harg7 x5) (ldT arg8 harg8 x6) 7) shapeCasts_S128x128_S128x128⟩,
         ⟨Rect.unit ![0, 0] S128x128.size inb_S128x128_S128x128_0_0, shapeCast S128x128 zeroT shapeCasts_S128x128_S128x128⟩] := by
  sl_kernel_rfl

/-- The value tile the start of a sequence leaves. -/
theorem valueLeft_A (hc0 : cond0_0 i) :
    (kernelRun0_A c i arg2 harg2 arg3 harg3 arg4 harg4 arg5 harg5 arg6 harg6 arg7 harg7 arg8 harg8 arg9 harg9 arg10 harg10 arg11 harg11 hc0 x0 x1 x2 x3 x4 x5 x6).2.2.1
      = [⟨Rect.unit ![0, 0] S128x128.size inb_S128x128_S128x128_0_0, shapeCast S128x128 (vTile (ldR arg5 harg5 x3) 7) shapeCasts_S128x128_S128x128⟩,
         ⟨Rect.unit ![0, 0] S128x128.size inb_S128x128_S128x128_0_0, shapeCast S128x128 zeroT shapeCasts_S128x128_S128x128⟩] := by
  sl_kernel_rfl

end Run

end Cert.Swa
-- ==== Proof.Entry.lean ====
/-
  The attention of one entry at an index, over the extended reals: the scores, the weights and the weighted sum of the
  values as plain sums and a maximum.
-/
module

public import proofs.«01_k».proof.Proof.Body
public import Idealize.ShloMosaic.Lib.Pointwise
public import Idealize.ShloMosaic.Lib.WordCmp
public import Idealize.ShloMosaic.Lib.IdealHost

@[expose] public section

set_option maxRecDepth 16384

noncomputable section

open Idealize.ShloMosaic Idealize.ShloMosaic.TcCoe Idealize.ShloMosaic.Pointwise
open Cert.KernelIdeal Cert.KernelIdeal.Gen

namespace Cert.Swa

theorem stack_apply (T : Fin 64 → FVec Ideal S128x128 .bf16) (e : Fin 64) (r l : Fin 128) :
    stack T (ix3 e r l) = T e (ix2 r l) := by
  unfold stack
  rw [concatenate_ofFn_apply (t := S64x128x128) (s₁ := S1x128x128) 0 (fun e => shapeCast S1x128x128 (T e) shapeCasts_S128x128_S1x128x128) (concStack T) rfl 1 rfl (ix3 e r l) e (by simp [ix3]) (ix3 0 r l) (by simp [ix3]; omega) (by intro b hb; fin_cases b <;> first | rfl | (exact absurd rfl hb))]
  pointwise

theorem stack1_apply (T : Fin 64 → EReal) (e : Fin 64) :
    stack1 (F := Ideal) T (ix3 e 0 0) = T e := by
  unfold stack1
  rw [concatenate_ofFn_apply (t := S64x1x1) (s₁ := S1x1x1) 0 (fun e => shapeCast S1x1x1 (broadcast S1x1 (T e) : FVec Ideal S1x1 .f32) shapeCasts_S1x1_S1x1x1) (concStack1 T) rfl 1 rfl (ix3 e 0 0) e (by simp [ix3]) (ix3 0 0 0) (by simp [ix3]; omega) (by intro b hb; fin_cases b <;> first | rfl | (exact absurd rfl hb))]
  rfl

/-- Minus infinity's literal. -/
theorem negInf : Ideal.ofBits .f32 0xFF800000#32 = (⊥ : EReal) := by simp [Ideal.ofBits, Ideal.ieee]

theorem selLe {α : Type} {a b : ℕ} (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat ha hb, WordCmp.select_ofBool]; simp

theorem selGt {α : Type} {a b : ℕ} (ha : a < 2 ^ 31) (hb : b < 2 ^ 31) (x y : α) :
    Scalar.select (IntOp.cmpi .sgt (BitVec.ofNat 32 a) (BitVec.ofNat 32 b)) x y = if b < a then x else y := by
  rw [WordCmp.cmpi_sgt_ofNat ha hb, WordCmp.select_ofBool]; simp

theorem sCur_apply (q k : FVec Ideal S64x128x128 .bf16) (e : Fin 64) (r s : Fin 128) :
    sCur (F := Ideal) q k (ix3 e r s) = if s.val ≤ r.val then ∑ l : Fin 128, q (ix3 e r l) * k (ix3 e s l) else ⊥ := by
  pointwise [sCur]
  rw [selLe (by omega) (by omega), negInf]

theorem sPrev_apply (n : ℕ) (hn : n < 8) (q k : FVec Ideal S64x128x128 .bf16) (e : Fin 64) (r s : Fin 128) :
    sPrev (F := Ideal) (BitVec.ofNat 32 n) q k (ix3 e r s) = if r.val < s.val ∧ (8 ≤ e.val ∨ 0 < n) then ∑ l : Fin 128, q (ix3 e r l) * k (ix3 e s l) else ⊥ := by
  pointwise [sPrev]
  have hz : ∀ x y : EReal, Scalar.select (Scalar.cmpi .sgt (BitVec.ofNat 32 n) 0#32) x y = if 0 < n then x else y := fun x y => selGt (b := 0) (by omega) (by omega) x y
  split
  · rename_i h
    erw [hz, selGt (by omega) (by omega), negInf]
    by_cases h1 : 0 < n <;> by_cases h2 : r.val < s.val <;> simp [h1, h2] <;> omega
  · rename_i h
    rw [selGt (by omega) (by omega), negInf]
    have he : (⟨8 + (e.val - 8), by omega⟩ : Fin 64) = e := Fin.ext (by simp; omega)
    simp only [he, show 8 ≤ e.val by omega, true_or, and_true]

theorem mRow_apply (sp sc : FVec Ideal S64x128x128 .f32) (sk : FVec Ideal S64x1x1 .f32) (e : Fin 64) (r : Fin 128) :
    mRow (F := Ideal) sp sc sk (ix3 e r 0) = max (max (Finset.fold max ⊥ (fun x : Fin 128 => sp (ix3 e r x)) Finset.univ) (Finset.fold max ⊥ (fun x : Fin 128 => sc (ix3 e r x)) Finset.univ)) (sk (ix3 e 0 0)) := by
  pointwise [mRow]
  rw [negInf]

theorem pExp_apply (s : FVec Ideal S64x128x128 .f32) (m : FVec Ideal S64x128x1 .f32) (e : Fin 64) (r t : Fin 128) :
    pExp (F := Ideal) s m (ix3 e r t) = Ideal.exp (s (ix3 e r t) - m (ix3 e r 0)) := by
  pointwise [pExp]

theorem invRow_apply (pp pc : FVec Ideal S64x128x128 .f32) (sk : FVec Ideal S64x1x1 .f32) (m : FVec Ideal S64x128x1 .f32) (e : Fin 64) (r : Fin 128) :
    invRow (F := Ideal) pp pc sk m (ix3 e r 0) = Ideal.div 1 (∑ x : Fin 128, pp (ix3 e r x) + ∑ x : Fin 128, pc (ix3 e r x) + Ideal.exp (sk (ix3 e 0 0) - m (ix3 e r 0))) := by
  pointwise [invRow]

theorem pv_apply (p : FVec Ideal S64x128x128 .f32) (iv : FVec Ideal S64x128x1 .f32) (v : FVec Ideal S64x128x128 .bf16) (e : Fin 64) (r l : Fin 128) :
    pv (F := Ideal) p iv v (ix3 e r l) = ∑ s : Fin 128, p (ix3 e r s) * iv (ix3 e r 0) * v (ix3 e s l) := by
  pointwise [pv]

end Cert.Swa
-- ==== Proof.Tile.lean ====
/-
  The tiles of one grid step at an index: the rotary embedding, the halves, and the loads.
-/
module

public import proofs.«01_k».proof.Proof.Body
public import Idealize.ShloMosaic.Lib.Pointwise
public import Idealize.ShloMosaic.Lib.WordCmp
public import Idealize.ShloMosaic.Lib.IdealHost
public import Idealize.ShloMosaic.Lib.WholeRead

@[expose] public section

set_option maxRecDepth 16384

noncomputable section

open Idealize.ShloMosaic Idealize.ShloMosaic.TcCoe Idealize.ShloMosaic.Pointwise
open Cert.KernelIdeal Cert.KernelIdeal.Gen

namespace Cert.Swa

theorem rope_apply (x c sa sb : FVec Ideal S128x128 .f32) (r l : Fin 128) :
    rope (F := Ideal) x c sa sb (ix2 r l) = x (ix2 r l) * c (ix2 r l) + x (ix2 r ⟨(l.val + 8) % 128, by omega⟩) * sa (ix2 r l)
      + x (ix2 r ⟨(l.val + 120) % 128, by omega⟩) * sb (ix2 r l) := by
  pointwise [rope]
  simp only [show (l.val + 128 - 120) % 128 = (l.val + 8) % 128 by omega, show (l.val + 128 - 8) % 128 = (l.val + 120) % 128 by omega]

theorem rows_apply (t : Vec Ideal S1024x128 .f32) (i : Fin 8) (r l : Fin 128) :
    rows (F := Ideal) t i (ix2 r l) = t (ix2 ⟨128 * i.val + r.val, by omega⟩ l) := by
  pointwise [rows]

theorem low_apply (r l : Fin 128) : low (ix2 r l) = BitVec.ofBool (decide (l.val < 64)) := by
  pointwise [low]
  exact WordCmp.cmpi_slt_ofNat (by omega) (by omega)

theorem swap_apply (t : Vec Ideal S128x128 .bf16) (r l : Fin 128) :
    swap (F := Ideal) t (ix2 r l) = t (ix2 r ⟨(l.val + 64) % 128, by omega⟩) := by
  pointwise [swap]
  split <;> congr 3 <;> omega

theorem zeroT_apply (r l : Fin 128) : zeroT (F := Ideal) (ix2 r l) = 0 := by
  pointwise [zeroT]

theorem vTile_apply (LV : Fin 8 → Vec Ideal S128x128 .bf16) (i : Fin 8) (r l : Fin 128) :
    vTile (F := Ideal) LV i (ix2 r l) = LV i (ix2 r l) := by
  pointwise [vTile]

theorem kTile_apply (LK : Fin 8 → Vec Ideal S128x128 .bf16) (tc ta tb : Vec Ideal S1024x128 .f32) (i : Fin 8) (r l : Fin 128) :
    kTile (F := Ideal) LK tc ta tb i (ix2 r l) = LK i (ix2 r l) * tc (ix2 ⟨128 * i.val + r.val, by omega⟩ l) + LK i (ix2 r ⟨(l.val + 8) % 128, by omega⟩) * ta (ix2 ⟨128 * i.val + r.val, by omega⟩ l)
      + LK i (ix2 r ⟨(l.val + 120) % 128, by omega⟩) * tb (ix2 ⟨128 * i.val + r.val, by omega⟩ l) := by
  unfold kTile
  rw [truncf_apply, rope_apply, rows_apply, rows_apply, rows_apply]
  pointwise

theorem qTile_apply (LQ : Fin 8 → Fin 4 → Vec Ideal S128x128 .bf16) (tc ta tb : Vec Ideal S1024x128 .f32) (i : Fin 8) (p : Fin 4) (r l : Fin 128) :
    qTile (F := Ideal) LQ tc ta tb i p (ix2 r l) = (LQ i p (ix2 r l) * tc (ix2 ⟨128 * i.val + r.val, by omega⟩ l) + LQ i p (ix2 r ⟨(l.val + 8) % 128, by omega⟩) * ta (ix2 ⟨128 * i.val + r.val, by omega⟩ l)
      + LQ i p (ix2 r ⟨(l.val + 120) % 128, by omega⟩) * tb (ix2 ⟨128 * i.val + r.val, by omega⟩ l)) * Ideal.ofBits .f32 0x3E000000#32 := by
  unfold qTile
  rw [truncf_apply, mulf_apply, rope_apply, rows_apply, rows_apply, rows_apply]
  pointwise

theorem half_apply (t : Vec Ideal S128x128 .bf16) (h : Fin 8) (r l : Fin 128) :
    half (F := Ideal) t h (ix2 r l) = if l.val / 64 = h.val % 2 then t (ix2 r ⟨64 * (h.val / 4) + l.val % 64, by omega⟩) else 0 := by
  fin_cases h <;> by_cases hl : l.val < 64 <;> simp [half, WordCmp.select_at, low_apply, swap_apply, zeroT_apply, hl]
  all_goals first
    | rfl
    | (rw [if_pos (by omega)]; exact congrArg t (congrArg (ix2 r) (Fin.ext (by simp; omega))))
    | (rw [if_neg (by omega)]; rfl)
    | exact congrArg t (congrArg (ix2 r) (Fin.ext (by simp; omega)))

theorem before_zero (tp : Vec Ideal S128x128 .bf16) (T : Fin 8 → FVec Ideal S128x128 .bf16) : before tp T 0 = tp := rfl

theorem before_pos (tp : Vec Ideal S128x128 .bf16) (T : Fin 8 → FVec Ideal S128x128 .bf16) (i : Fin 8) (h : 0 < i.val) :
    before tp T i = T ⟨i.val - 1, by omega⟩ := by
  rcases i with ⟨_ | n, hn⟩
  · exact absurd h (by simp)
  · rfl

theorem outTile_apply (o : FVec Ideal S64x128x128 .f32) (e0 e1 : Fin 64) (r l : Fin 128) :
    outTile (F := Ideal) o e0 e1 (ix2 r l) = o (ix3 e0 r l) + o (ix3 e1 r l) := by
  pointwise [outTile]

section Loads
variable (arg2 : Memref sig .tc .smem S8 .f32) (harg2 : arg2.IsWhole) (arg3 : Memref sig .tc .vmem S1024x512 .bf16) (harg3 : arg3.IsWhole) (arg4 : Memref sig .tc .vmem S1024x128 .bf16) (harg4 : arg4.IsWhole) (arg6 : Memref sig .tc .vmem S1024x128 .f32) (harg6 : arg6.IsWhole) (arg10 : Memref sig .tc .vmem S128x128 .bf16) (harg10 : arg10.IsWhole)
  (x0 : Vec Ideal S8 .f32) (x1 : Vec Ideal S1024x512 .bf16) (x2 : Vec Ideal S1024x128 .bf16) (x4 : Vec Ideal S1024x128 .f32) (xs0 : Vec Ideal S128x128 .bf16)

theorem ldQ_apply (i : Fin 8) (p : Fin 4) (r l : Fin 128) : ldQ arg3 harg3 x1 i p (ix2 r l) = x1 (ix2 ⟨128 * i.val + r.val, by omega⟩ ⟨128 * p.val + l.val, by omega⟩) := by
  rw [ldQ, Memref.IsWhole.readAt_unread]
  congr 1
  funext a
  apply Fin.ext
  fin_cases a
  · show _ + 1 * _ = _
    simp [ix2]
  · show _ + 1 * _ = _
    simp [ix2]
theorem ldT_eq : ldT arg6 harg6 x4 = x4 := by
  funext j
  rw [ldT, Memref.IsWhole.readAt_unread]
  congr 1
  funext a
  apply Fin.ext
  fin_cases a <;> exact Nat.zero_add _ |>.trans (Nat.one_mul _)

theorem ldR_apply (i : Fin 8) (r l : Fin 128) : ldR arg4 harg4 x2 i (ix2 r l) = x2 (ix2 ⟨128 * i.val + r.val, by omega⟩ l) := by
  rw [ldR, Memref.IsWhole.readAt_unread]
  congr 1
  funext a
  apply Fin.ext
  fin_cases a
  · show _ + 1 * _ = _
    simp [ix2]
  · show _ + 1 * _ = _
    simp [ix2]

theorem ldC_eq : ldC arg10 harg10 xs0 = xs0 := by
  funext j
  rw [ldC, Memref.IsWhole.readAt_unread]
  congr 1
  funext a
  apply Fin.ext
  fin_cases a <;> exact Nat.zero_add _ |>.trans (Nat.one_mul _)

theorem ldS_apply (h : Fin 8) : ldS arg2 harg2 x0 h = x0 (ix1 h) := by
  rw [ldS, Memref.IsWhole.readAt_unread]
  congr 1
  funext a
  apply Fin.ext
  fin_cases a
  show _ + 1 * _ = _
  simp [ix1]
  exact Nat.lt_one_iff.mp (Shape.Idx.first _ 0).isLt

theorem ldZ_apply (r l : Fin 128) : ldZ (F := Ideal) arg10 (ix2 r l) = 0 := by
  have h : (![0, 0] : Fin S128x128.rank → Nat) = fun _ => 0 := by funext a; fin_cases a <;> rfl
  rw [ldZ, View.readCov_unit_zero _ h, shapeCast_self, zeroT_apply]
end Loads

end Cert.Swa
-- ==== Proof.Step.lean ====
/-
  The stored rows of one grid step at an index: a softmax of the scores against the block before and the block itself,
  with the sink, applied to the values.
-/
module

public import proofs.«01_k».proof.Proof.Entry
public import proofs.«01_k».proof.Proof.Tile

@[expose] public section

set_option maxRecDepth 16384

noncomputable section

open Idealize.ShloMosaic Idealize.ShloMosaic.TcCoe Idealize.ShloMosaic.Pointwise
open Cert.KernelIdeal Cert.KernelIdeal.Gen

namespace Cert.Swa

/-- The largest of a row's scores and the sink. -/
def rowMax (sp sc : Fin 128 → EReal) (sk : EReal) : EReal :=
  max (max (Finset.fold max ⊥ sp Finset.univ) (Finset.fold max ⊥ sc Finset.univ)) sk

/-- The sum of a row's exponentials, the sink's among them. -/
def rowSum (sp sc : Fin 128 → EReal) (sk : EReal) : EReal :=
  ∑ s, Ideal.exp (sp s - rowMax sp sc sk) + ∑ s, Ideal.exp (sc s - rowMax sp sc sk) + Ideal.exp (sk - rowMax sp sc sk)

/-- One lane of one row as the kernel computes it: the exponentials times one over their sum, applied to the values. -/
def rowOut (sp sc : Fin 128 → EReal) (sk : EReal) (vp vc : Fin 128 → EReal) : EReal :=
  ∑ s, Ideal.exp (sp s - rowMax sp sc sk) * Ideal.div 1 (rowSum sp sc sk) * vp s
    + ∑ s, Ideal.exp (sc s - rowMax sp sc sk) * Ideal.div 1 (rowSum sp sc sk) * vc s

theorem rowOut_zero (sp sc : Fin 128 → EReal) (sk : EReal) (vp vc : Fin 128 → EReal) (hp : ∀ s, vp s = 0) (hc : ∀ s, vc s = 0) :
    rowOut sp sc sk vp vc = 0 := by simp [rowOut, hp, hc]

theorem attend_apply (n : ℕ) (hn : n < 8) (q kp kc vp vc : FVec Ideal S64x128x128 .bf16) (sk : FVec Ideal S64x1x1 .f32) (e : Fin 64) (r l : Fin 128) :
    attend (F := Ideal) (BitVec.ofNat 32 n) q kp kc vp vc sk (ix3 e r l) =
      rowOut (fun s => if r.val < s.val ∧ (8 ≤ e.val ∨ 0 < n) then ∑ l : Fin 128, q (ix3 e r l) * kp (ix3 e s l) else ⊥)
        (fun s => if s.val ≤ r.val then ∑ l : Fin 128, q (ix3 e r l) * kc (ix3 e s l) else ⊥) (sk (ix3 e 0 0))
        (fun s => vp (ix3 e s l)) (fun s => vc (ix3 e s l)) := by
  rw [attend, addf_apply, pv_apply, pv_apply]
  simp only [pExp_apply, invRow_apply, mRow_apply, sCur_apply, sPrev_apply n hn]
  rfl

/-- Contracting against half a tile contracts its 64 lanes. -/
theorem sum_half (q : Fin 128 → EReal) (t : Fin 128 → EReal) (h : Fin 8) :
    ∑ l : Fin 128, q l * (if l.val / 64 = h.val % 2 then t ⟨64 * (h.val / 4) + l.val % 64, by omega⟩ else 0)
      = ∑ d : Fin 64, q ⟨64 * (h.val % 2) + d.val, by omega⟩ * t ⟨64 * (h.val / 4) + d.val, by omega⟩ := by
  rw [Fin.sum_univ_add (a := 64) (b := 64) (fun l : Fin 128 => q l * (if l.val / 64 = h.val % 2 then t ⟨64 * (h.val / 4) + l.val % 64, by omega⟩ else 0))]
  have hlo : ∀ d : Fin 64, (Fin.castAdd 64 d).val / 64 = 0 := fun d => by simp
  have hhi : ∀ d : Fin 64, (Fin.natAdd 64 d).val / 64 = 1 := fun d => by simp
  rcases Nat.mod_two_eq_zero_or_one h.val with h2 | h2
  · rw [Finset.sum_eq_zero (s := Finset.univ) (f := fun d : Fin 64 => q (Fin.natAdd 64 d) * _) (fun d _ => by rw [if_neg (by rw [hhi, h2]; decide), mul_zero]), add_zero]
    refine Finset.sum_congr rfl fun d _ => ?_
    rw [if_pos (by rw [hlo, h2])]
    congr 2 <;> apply Fin.ext <;> simp [h2] <;> omega
  · rw [Finset.sum_eq_zero (s := Finset.univ) (f := fun d : Fin 64 => q (Fin.castAdd 64 d) * _) (fun d _ => by rw [if_neg (by rw [hlo, h2]; decide), mul_zero]), zero_add]
    refine Finset.sum_congr rfl fun d _ => ?_
    rw [if_pos (by rw [hhi, h2])]
    congr 2 <;> apply Fin.ext <;> simp [h2] <;> omega

/-- One entry of the attention from the tiles, where its lane is in the half its head lies in. -/
theorem outs_apply (n : ℕ) (hn : n < 8) (kp vp : Vec Ideal S128x128 .bf16) (LQ : Fin 8 → Fin 4 → Vec Ideal S128x128 .bf16) (LK LV : Fin 8 → Vec Ideal S128x128 .bf16)
    (tc ta tb : Vec Ideal S1024x128 .f32) (sk : Fin 8 → EReal) (e : Fin 64) (r l : Fin 128) :
    outs (F := Ideal) (BitVec.ofNat 32 n) kp vp LQ LK LV tc ta tb sk (ix3 e r l) =
      rowOut (fun s => if r.val < s.val ∧ (8 ≤ e.val ∨ 0 < n) then
            ∑ d : Fin 64, qTile LQ tc ta tb (blkOf e) ⟨e.val % 8 / 2, by omega⟩ (ix2 r ⟨64 * (e.val % 8 % 2) + d.val, by omega⟩)
              * before kp (kTile LK tc ta tb) (blkOf e) (ix2 s ⟨64 * (e.val % 8 / 4) + d.val, by omega⟩) else ⊥)
        (fun s => if s.val ≤ r.val then
            ∑ d : Fin 64, qTile LQ tc ta tb (blkOf e) ⟨e.val % 8 / 2, by omega⟩ (ix2 r ⟨64 * (e.val % 8 % 2) + d.val, by omega⟩)
              * kTile LK tc ta tb (blkOf e) (ix2 s ⟨64 * (e.val % 8 / 4) + d.val, by omega⟩) else ⊥)
        (sk (headOf e))
        (fun s => if l.val / 64 = e.val % 8 % 2 then before vp (vTile LV) (blkOf e) (ix2 s ⟨64 * (e.val % 8 / 4) + l.val % 64, by omega⟩) else 0)
        (fun s => if l.val / 64 = e.val % 8 % 2 then vTile LV (blkOf e) (ix2 s ⟨64 * (e.val % 8 / 4) + l.val % 64, by omega⟩) else 0) := by
  rw [outs, attend_apply n hn]
  simp only [stack_apply, stack1_apply, half_apply]
  congr 1
  · funext s
    split
    · exact sum_half (fun l => qTile LQ tc ta tb (blkOf e) ⟨e.val % 8 / 2, by omega⟩ (ix2 r l)) (fun l => before kp (kTile LK tc ta tb) (blkOf e) (ix2 s l)) (headOf e)
    · rfl
  · funext s
    split
    · exact sum_half (fun l => qTile LQ tc ta tb (blkOf e) ⟨e.val % 8 / 2, by omega⟩ (ix2 r l)) (fun l => kTile LK tc ta tb (blkOf e) (ix2 s l)) (headOf e)
    · rfl

/-- One lane of an output tile: of its two entries, the one whose half the lane lies in. -/
theorem outTile_outs (n : ℕ) (hn : n < 8) (kp vp : Vec Ideal S128x128 .bf16) (LQ : Fin 8 → Fin 4 → Vec Ideal S128x128 .bf16) (LK LV : Fin 8 → Vec Ideal S128x128 .bf16)
    (tc ta tb : Vec Ideal S1024x128 .f32) (sk : Fin 8 → EReal) (k : ℕ) (hk : k < 32) (r l : Fin 128) :
    outTile (F := Ideal) (outs (F := Ideal) (BitVec.ofNat 32 n) kp vp LQ LK LV tc ta tb sk) ⟨2 * k, by omega⟩ ⟨2 * k + 1, by omega⟩ (ix2 r l)
      = outs (F := Ideal) (BitVec.ofNat 32 n) kp vp LQ LK LV tc ta tb sk (ix3 ⟨2 * k + l.val / 64, by omega⟩ r l) := by
  rw [outTile_apply]
  by_cases hl : l.val < 64
  · have e1 : outs (F := Ideal) (BitVec.ofNat 32 n) kp vp LQ LK LV tc ta tb sk (ix3 ⟨2 * k + 1, by omega⟩ r l) = 0 := by
      rw [outs_apply n hn]
      exact rowOut_zero _ _ _ _ _ (fun s => if_neg (by show ¬l.val / 64 = (2 * k + 1) % 8 % 2; omega)) (fun s => if_neg (by show ¬l.val / 64 = (2 * k + 1) % 8 % 2; omega))
    rw [e1, add_zero]
    exact congrArg _ (congrArg (fun e => ix3 e r l) (Fin.ext (by show 2 * k = 2 * k + l.val / 64; omega)))
  · have e0 : outs (F := Ideal) (BitVec.ofNat 32 n) kp vp LQ LK LV tc ta tb sk (ix3 ⟨2 * k, by omega⟩ r l) = 0 := by
      rw [outs_apply n hn]
      exact rowOut_zero _ _ _ _ _ (fun s => if_neg (by show ¬l.val / 64 = (2 * k) % 8 % 2; omega)) (fun s => if_neg (by show ¬l.val / 64 = (2 * k) % 8 % 2; omega))
    rw [e0, zero_add]
    exact congrArg _ (congrArg (fun e => ix3 e r l) (Fin.ext (by show 2 * k + 1 = 2 * k + l.val / 64; omega)))

end Cert.Swa
-- ==== Proof.Ref.lean ====
/-
  The reference's sliding-window attention: its composed term written over named parts, each read at an index.
-/
module

public import proofs.«01_k».proof.Proof.Gen.ReferenceIdeal.Run
public import Idealize.ShloMosaic.Lib.Pointwise
public import Idealize.ShloMosaic.Lib.Tactic

@[expose] public section

set_option maxRecDepth 65536

noncomputable section

open Idealize.ShloMosaic Idealize.ShloMosaic.TcCoe Idealize.ShloMosaic.Pointwise
open Cert.ReferenceIdeal Cert.ReferenceIdeal.Gen Cert.ReferenceIdeal.Value

namespace Cert.SwaRef

variable {F : FTy → Type} [FloatOps F]

/-- The angles: the position times the inverse frequency of each of the eight pairs. -/
def ang : FVec F S8192x8 .f32 :=
  (mulf (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32)))))))

/-- Their cosines. -/
def cosT : FVec F S8192x8 .f32 := Host.cos ang
/-- Their sines. -/
def sinT : FVec F S8192x8 .f32 := Host.sin ang

/-- The partial rotary embedding of the two key heads. -/
def rope2 (x : FVec F S2x8192x2x64 .f32) : FVec F S2x8192x2x64 .f32 :=
  (concatenate S2x8192x2x64 3 [⟨S2x8192x2x8, ((subf (mulf (extractStridedSlice S2x8192x2x8 ![0, 0, 0, 0] x slices_S2x8192x2x64_S2x8192x2x8_0_0_0_0) (broadcastInDim S2x8192x2x8 ![0, 1, 2, 3] bcast_S1x8192x1x8_S2x8192x2x8_0_1_2_3 (broadcastInDim S1x8192x1x8 ![1, 3] bcast_S8192x8_S1x8192x1x8_1_3 cosT))) (mulf (extractStridedSlice S2x8192x2x8 ![0, 0, 0, 8] x slices_S2x8192x2x64_S2x8192x2x8_0_0_0_8) (broadcastInDim S2x8192x2x8 ![0, 1, 2, 3] bcast_S1x8192x1x8_S2x8192x2x8_0_1_2_3 (broadcastInDim S1x8192x1x8 ![1, 3] bcast_S8192x8_S1x8192x1x8_1_3 sinT)))) : (⟨S2x8192x2x8, .f32⟩ : BufTy).Contents (Elt F))⟩, ⟨S2x8192x2x8, ((addf (mulf (extractStridedSlice S2x8192x2x8 ![0, 0, 0, 8] x slices_S2x8192x2x64_S2x8192x2x8_0_0_0_8) (broadcastInDim S2x8192x2x8 ![0, 1, 2, 3] bcast_S1x8192x1x8_S2x8192x2x8_0_1_2_3 (broadcastInDim S1x8192x1x8 ![1, 3] bcast_S8192x8_S1x8192x1x8_1_3 cosT))) (mulf (extractStridedSlice S2x8192x2x8 ![0, 0, 0, 0] x slices_S2x8192x2x64_S2x8192x2x8_0_0_0_0) (broadcastInDim S2x8192x2x8 ![0, 1, 2, 3] bcast_S1x8192x1x8_S2x8192x2x8_0_1_2_3 (broadcastInDim S1x8192x1x8 ![1, 3] bcast_S8192x8_S1x8192x1x8_1_3 sinT)))) : (⟨S2x8192x2x8, .f32⟩ : BufTy).Contents (Elt F))⟩, ⟨S2x8192x2x48, ((extractStridedSlice S2x8192x2x48 ![0, 0, 0, 16] x slices_S2x8192x2x64_S2x8192x2x48_0_0_0_16) : (⟨S2x8192x2x48, .f32⟩ : BufTy).Contents (Elt F))⟩] concatenates_S2x8192x2x8_S2x8192x2x8_S2x8192x2x48_S2x8192x2x64_d3 : (⟨S2x8192x2x64, .f32⟩ : BufTy).Contents (Elt F))

/-- The partial rotary embedding of the eight query heads. -/
def rope8 (x : FVec F S2x8192x8x64 .f32) : FVec F S2x8192x8x64 .f32 :=
  (concatenate S2x8192x8x64 3 [⟨S2x8192x8x8, ((subf (mulf (extractStridedSlice S2x8192x8x8 ![0, 0, 0, 0] x slices_S2x8192x8x64_S2x8192x8x8_0_0_0_0) (broadcastInDim S2x8192x8x8 ![0, 1, 2, 3] bcast_S1x8192x1x8_S2x8192x8x8_0_1_2_3 (broadcastInDim S1x8192x1x8 ![1, 3] bcast_S8192x8_S1x8192x1x8_1_3 cosT))) (mulf (extractStridedSlice S2x8192x8x8 ![0, 0, 0, 8] x slices_S2x8192x8x64_S2x8192x8x8_0_0_0_8) (broadcastInDim S2x8192x8x8 ![0, 1, 2, 3] bcast_S1x8192x1x8_S2x8192x8x8_0_1_2_3 (broadcastInDim S1x8192x1x8 ![1, 3] bcast_S8192x8_S1x8192x1x8_1_3 sinT)))) : (⟨S2x8192x8x8, .f32⟩ : BufTy).Contents (Elt F))⟩, ⟨S2x8192x8x8, ((addf (mulf (extractStridedSlice S2x8192x8x8 ![0, 0, 0, 8] x slices_S2x8192x8x64_S2x8192x8x8_0_0_0_8) (broadcastInDim S2x8192x8x8 ![0, 1, 2, 3] bcast_S1x8192x1x8_S2x8192x8x8_0_1_2_3 (broadcastInDim S1x8192x1x8 ![1, 3] bcast_S8192x8_S1x8192x1x8_1_3 cosT))) (mulf (extractStridedSlice S2x8192x8x8 ![0, 0, 0, 0] x slices_S2x8192x8x64_S2x8192x8x8_0_0_0_0) (broadcastInDim S2x8192x8x8 ![0, 1, 2, 3] bcast_S1x8192x1x8_S2x8192x8x8_0_1_2_3 (broadcastInDim S1x8192x1x8 ![1, 3] bcast_S8192x8_S1x8192x1x8_1_3 sinT)))) : (⟨S2x8192x8x8, .f32⟩ : BufTy).Contents (Elt F))⟩, ⟨S2x8192x8x48, ((extractStridedSlice S2x8192x8x48 ![0, 0, 0, 16] x slices_S2x8192x8x64_S2x8192x8x48_0_0_0_16) : (⟨S2x8192x8x48, .f32⟩ : BufTy).Contents (Elt F))⟩] concatenates_S2x8192x8x8_S2x8192x8x8_S2x8192x8x48_S2x8192x8x64_d3 : (⟨S2x8192x8x64, .f32⟩ : BufTy).Contents (Elt F))

/-- The window of 256 rows each block of 128 sees: the block before (zeros before the first) and itself. -/
def win (x : FVec F S2x64x128x2x64 .f32) : FVec F S2x64x256x2x64 .f32 :=
  (concatenate S2x64x256x2x64 2 [⟨S2x64x128x2x64, (concatenate S2x64x128x2x64 1 [⟨S2x1x128x2x64, (broadcastInDim S2x1x128x2x64 ![] bcast_S_S2x1x128x2x64 (constant S_ .f32 0x00000000#32))⟩, ⟨S2x63x128x2x64, (extractStridedSlice S2x63x128x2x64 ![0, 0, 0, 0, 0] x slices_S2x64x128x2x64_S2x63x128x2x64_0_0_0_0_0)⟩] concatenates_S2x1x128x2x64_S2x63x128x2x64_S2x64x128x2x64_d1)⟩, ⟨S2x64x128x2x64, x⟩] concatenates_S2x64x128x2x64_S2x64x128x2x64_S2x64x256x2x64_d2)

/-- Which of the 256 rows each query row sees. -/
def valid : IVec S2x64x2x4x128x256 1 :=
  (broadcastInDim S2x64x2x4x128x256 ![0, 1, 2, 3, 4, 5] bcast_S1x64x1x1x128x256_S2x64x2x4x128x256_0_1_2_3_4_5 (broadcastInDim S1x64x1x1x128x256 ![1, 4, 5] bcast_S64x128x256_S1x64x1x1x128x256_1_4_5 (andi (broadcastInDim S64x128x256 ![0, 1, 2] bcast_S1x128x256_S64x128x256_0_1_2 (broadcastInDim S1x128x256 ![1, 2] bcast_S128x256_S1x128x256_1_2 (andi (cmpi .sle (broadcastInDim S128x256 ![0, 1] bcast_S1x256_S128x256_0_1 (broadcastInDim S1x256 ![1] bcast_S256_S1x256_1 (iotaInDim S256 32 0))) (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32))))) (cmpi .slt (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S64x128x256 ![0, 1, 2] bcast_S64x1x256_S64x128x256_0_1_2 (ori (broadcastInDim S64x1x256 ![0, 1, 2] bcast_S64x1x1_S64x1x256_0_1_2 (broadcastInDim S64x1x1 ![0] bcast_S64_S64x1x1_0 (cmpi .sgt (iotaInDim S64 32 0) (broadcastInDim S64 ![] bcast_S_S64 (constantI S_ 32 0#32))))) (broadcastInDim S64x1x256 ![0, 1, 2] bcast_S1x1x256_S64x1x256_0_1_2 (broadcastInDim S1x1x256 ![1, 2] bcast_S1x256_S1x1x256_1_2 (cmpi .sge (broadcastInDim S1x256 ![1] bcast_S256_S1x256_1 (iotaInDim S256 32 0)) (broadcastInDim S1x256 ![] bcast_S_S1x256 (constantI S_ 32 128#32))))))))))

/-- The scaled scores, minus infinity where not seen. -/
def scores (q : FVec F S2x64x128x2x4x64 .f32) (kw : FVec F S2x64x256x2x64 .f32) : FVec F S2x64x2x4x128x256 .f32 :=
  (select valid (mulf (transpose S2x64x2x4x128x256 [0, 1, 2, 5, 4, 3] (Host.dotGeneral dot_S2x64x256x2x64_S2x64x128x2x4x64_S2x64x2x256x128x4_4_5_2_24_013_013 none kw q) transposes_S2x64x2x256x128x4_S2x64x2x4x128x256_0_1_2_5_4_3) (broadcastInDim S2x64x2x4x128x256 ![] bcast_S_S2x64x2x4x128x256 (constant S_ .f32 0x3E000000#32))) (broadcastInDim S2x64x2x4x128x256 ![] bcast_S_S2x64x2x4x128x256 (id (constant S_ .f32 0xFF800000#32))))

/-- The scores and the sink beside them. -/
def withSink (q : FVec F S2x64x128x2x4x64 .f32) (kw : FVec F S2x64x256x2x64 .f32) (sk : FVec F S8 .f32) : FVec F S2x64x2x4x128x257 .f32 :=
  (concatenate S2x64x2x4x128x257 5 [⟨S2x64x2x4x128x256, (scores q kw)⟩, ⟨S2x64x2x4x128x1, (broadcastInDim S2x64x2x4x128x1 ![0, 1, 2, 3, 4, 5] bcast_S1x1x2x4x1x1_S2x64x2x4x128x1_0_1_2_3_4_5 (broadcastInDim S1x1x2x4x1x1 ![2, 3] bcast_S2x4_S1x1x2x4x1x1_2_3 (shapeCast _ sk shapeCasts_S8_S2x4)))⟩] concatenates_S2x64x2x4x128x256_S2x64x2x4x128x1_S2x64x2x4x128x257_d5)

/-- The exponentials of the scores less their row's largest. -/
def expS (s : FVec F S2x64x2x4x128x257 .f32) : FVec F S2x64x2x4x128x257 .f32 :=
  Host.exp (subf s (broadcastInDim S2x64x2x4x128x257 ![0, 1, 2, 3, 4, 5] bcast_S2x64x2x4x128x1_S2x64x2x4x128x257_0_1_2_3_4_5 (broadcastInDim S2x64x2x4x128x1 ![0, 1, 2, 3, 4] bcast_S2x64x2x4x128_S2x64x2x4x128x1_0_1_2_3_4 (maximumf (broadcastInDim S2x64x2x4x128 ![] bcast_S_S2x64x2x4x128 (constant S_ .f32 0xFF800000#32)) (Host.reduce FloatOps.maximumf s (constant S_ .f32 0xFF800000#32) reducesTo_S2x64x2x4x128x257_S2x64x2x4x128_d5 h_S_)))))

/-- The softmax of the scores and the sink, the sink's own weight left off. -/
def soft (s : FVec F S2x64x2x4x128x257 .f32) : FVec F S2x64x2x4x128x256 .f32 :=
  extractStridedSlice S2x64x2x4x128x256 ![0, 0, 0, 0, 0, 0] (Host.divf (expS s) (broadcastInDim S2x64x2x4x128x257 ![0, 1, 2, 3, 4, 5] bcast_S2x64x2x4x128x1_S2x64x2x4x128x257_0_1_2_3_4_5 (broadcastInDim S2x64x2x4x128x1 ![0, 1, 2, 3, 4] bcast_S2x64x2x4x128_S2x64x2x4x128x1_0_1_2_3_4 (Host.reduceAdd (expS s) (constant S_ .f32 0x00000000#32) reducesTo_S2x64x2x4x128x257_S2x64x2x4x128_d5 h_S_)))) slices_S2x64x2x4x128x257_S2x64x2x4x128x256_0_0_0_0_0_0

/-- The weighted values, back in rows of 512 lanes. -/
def weigh (p : FVec F S2x64x2x4x128x256 .f32) (vw : FVec F S2x64x256x2x64 .f32) : FVec F S16384x512 .bf16 :=
  truncf .bf16 (shapeCast _ (shapeCast _ (transpose S2x64x128x2x4x64 [0, 1, 5, 2, 4, 3] (Host.dotGeneral dot_S2x64x256x2x64_S2x64x2x4x128x256_S2x64x2x64x4x128_2_5_4_34_013_012 none vw p) transposes_S2x64x2x64x4x128_S2x64x128x2x4x64_0_1_5_2_4_3) shapeCasts_S2x64x128x2x4x64_S2x8192x512) shapeCasts_S2x8192x512_S16384x512) bitsLt_bf16_f32

/-- The queries, embedded, by block. -/
def qBlk (a : FVec F S2x8192x2824 .f32) : FVec F S2x64x128x2x4x64 .f32 :=
  shapeCast _ (rope8 (shapeCast _ (extractStridedSlice S2x8192x512 ![0, 0, 0] a slices_S2x8192x2824_S2x8192x512_0_0_0) shapeCasts_S2x8192x512_S2x8192x8x64)) shapeCasts_S2x8192x8x64_S2x64x128x2x4x64
/-- The keys, embedded, by block. -/
def kBlk (a : FVec F S2x8192x2824 .f32) : FVec F S2x64x128x2x64 .f32 :=
  shapeCast _ (rope2 (shapeCast _ (extractStridedSlice S2x8192x128 ![0, 0, 512] a slices_S2x8192x2824_S2x8192x128_0_0_512) shapeCasts_S2x8192x128_S2x8192x2x64)) shapeCasts_S2x8192x2x64_S2x64x128x2x64
/-- The values, by block. -/
def vBlk (a : FVec F S2x8192x2824 .f32) : FVec F S2x64x128x2x64 .f32 :=
  shapeCast _ (shapeCast _ (extractStridedSlice S2x8192x128 ![0, 0, 640] a slices_S2x8192x2824_S2x8192x128_0_0_640) shapeCasts_S2x8192x128_S2x8192x2x64) shapeCasts_S2x8192x2x64_S2x64x128x2x64

/-- The reference's result over these parts. -/
theorem res_eq (m : (ℓ : Loc nD τ sig) → Buf (Elt F) ℓ) (c : Dev nD) :
    res_out0 m c = weigh (soft (withSink (qBlk (m ((c.tc : Thread nD τ).loc main_arg0))) (win (kBlk (m ((c.tc : Thread nD τ).loc main_arg0)))) (m ((c.tc : Thread nD τ).loc main_arg1))))
      (win (vBlk (m ((c.tc : Thread nD τ).loc main_arg0)))) := by
  sl_kernel_rfl

end Cert.SwaRef
-- ==== Proof.Host.lean ====
/-
  What the host code prepares for the kernel, at an index: the projected columns in the kernel's order, and the three
  rotation tables.
-/
module

public import proofs.«01_k».proof.Proof.Ref
public import proofs.«01_k».proof.Proof.Gen.KernelIdeal.Value
public import Idealize.ShloMosaic.Lib.Pointwise
public import Idealize.ShloMosaic.Lib.IdealHost

@[expose] public section

set_option maxRecDepth 65536

noncomputable section

open Idealize.ShloMosaic Idealize.ShloMosaic.TcCoe Idealize.ShloMosaic.Pointwise
open Cert.KernelIdeal Cert.KernelIdeal.Gen

namespace Cert.Swa

variable {F : FTy → Type} [FloatOps F]

/-- The projected columns in the order the kernel takes them. -/
def cols (a : FVec F S2x8192x2824 .f32) : FVec F S16384x2816 .bf16 :=
  truncf .bf16 (shapeCast S16384x2816 (concatenate S2x8192x2816 2 [⟨S2x8192x512, extractStridedSlice S2x8192x512 ![0, 0, 0] a slices_S2x8192x2824_S2x8192x512_0_0_0⟩,
    ⟨S2x8192x512, extractStridedSlice S2x8192x512 ![0, 0, 768] a slices_S2x8192x2824_S2x8192x512_0_0_768⟩,
    ⟨S2x8192x512, extractStridedSlice S2x8192x512 ![0, 0, 1280] a slices_S2x8192x2824_S2x8192x512_0_0_1280⟩,
    ⟨S2x8192x512, extractStridedSlice S2x8192x512 ![0, 0, 1792] a slices_S2x8192x2824_S2x8192x512_0_0_1792⟩,
    ⟨S2x8192x512, extractStridedSlice S2x8192x512 ![0, 0, 2304] a slices_S2x8192x2824_S2x8192x512_0_0_2304⟩,
    ⟨S2x8192x128, extractStridedSlice S2x8192x128 ![0, 0, 512] a slices_S2x8192x2824_S2x8192x128_0_0_512⟩,
    ⟨S2x8192x128, extractStridedSlice S2x8192x128 ![0, 0, 640] a slices_S2x8192x2824_S2x8192x128_0_0_640⟩]
    concatenates_S2x8192x512_S2x8192x512_S2x8192x512_S2x8192x512_S2x8192x512_S2x8192x128_S2x8192x128_S2x8192x2816_d2) shapeCasts_S2x8192x2816_S16384x2816) bitsLt_bf16_f32

/-- Two copies of a table of 64 lanes side by side. -/
def two (x : FVec F S8192x64 .f32) : FVec F S8192x128 .f32 := concatenate S8192x128 1 [⟨S8192x64, x⟩, ⟨S8192x64, x⟩] concatenates_S8192x64_S8192x64_S8192x128_d1
/-- Three tables side by side. -/
def three (x y : FVec F S8192x8 .f32) (z : FVec F S8192x48 .f32) : FVec F S8192x64 .f32 :=
  concatenate S8192x64 1 [⟨S8192x8, x⟩, ⟨S8192x8, y⟩, ⟨S8192x48, z⟩] concatenates_S8192x8_S8192x8_S8192x48_S8192x64_d1

/-- The table the tile itself is multiplied by. -/
def tabC : FVec F S8192x128 .f32 := two (three SwaRef.cosT SwaRef.cosT (broadcastInDim S8192x48 ![] bcast_S_S8192x48 (constant S_ .f32 0x3F800000#32)))
/-- The table of the lanes eight above. -/
def tabA : FVec F S8192x128 .f32 := two (three (Host.negf SwaRef.sinT) (broadcastInDim S8192x8 ![] bcast_S_S8192x8 (constant S_ .f32 0x00000000#32)) (broadcastInDim S8192x48 ![] bcast_S_S8192x48 (constant S_ .f32 0x00000000#32)))
/-- The table of the lanes eight below. -/
def tabB : FVec F S8192x128 .f32 := two (three (broadcastInDim S8192x8 ![] bcast_S_S8192x8 (constant S_ .f32 0x00000000#32)) SwaRef.sinT (broadcastInDim S8192x48 ![] bcast_S_S8192x48 (constant S_ .f32 0x00000000#32)))

section V
variable (m : (ℓ : Loc nD τ sig) → Buf (Elt F) ℓ) (c : Dev nD)

theorem V_cols : V m c main_v9 = cols (m ((c : Thread nD τ).loc main_arg0)) := by
  show StableHlo.after hostOps0 _ (Proc.devRef .tc main_v9) = _
  after_results
  rfl
theorem V_tabC : V m c main_v32 = tabC (F := F) := by
  show StableHlo.after hostOps0 _ (Proc.devRef .tc main_v32) = _
  after_results
  rfl
theorem V_tabA : V m c main_v33 = tabA (F := F) := by
  show StableHlo.after hostOps0 _ (Proc.devRef .tc main_v33) = _
  after_results
  rfl
theorem V_tabB : V m c main_v34 = tabB (F := F) := by
  show StableHlo.after hostOps0 _ (Proc.devRef .tc main_v34) = _
  after_results
  rfl
end V

section Ideal
variable (a : FVec Ideal S2x8192x2824 .f32)

theorem cols_q (R : Fin 16384) (l : Fin 512) :
    cols (F := Ideal) a (ix2 R ⟨l.val, by omega⟩) = a (ix3 ⟨R.val / 8192, by omega⟩ ⟨R.val % 8192, by omega⟩ ⟨l.val, by omega⟩) := by
  pointwise [cols]
theorem cols_k (R : Fin 16384) (l : Fin 128) :
    cols (F := Ideal) a (ix2 R ⟨2560 + l.val, by omega⟩) = a (ix3 ⟨R.val / 8192, by omega⟩ ⟨R.val % 8192, by omega⟩ ⟨512 + l.val, by omega⟩) := by
  pointwise [cols]
  rw [dif_neg (by omega), dif_neg (by omega), dif_neg (by omega), dif_neg (by omega), dif_neg (by omega), dif_pos (by omega)]
  congr 2
  apply Fin.ext
  show 512 + (2560 + l.val - 512 - 512 - 512 - 512 - 512) = 512 + l.val
  omega
theorem cols_v (R : Fin 16384) (l : Fin 128) :
    cols (F := Ideal) a (ix2 R ⟨2688 + l.val, by omega⟩) = a (ix3 ⟨R.val / 8192, by omega⟩ ⟨R.val % 8192, by omega⟩ ⟨640 + l.val, by omega⟩) := by
  pointwise [cols]
  rw [dif_neg (by omega), dif_neg (by omega), dif_neg (by omega), dif_neg (by omega), dif_neg (by omega), dif_neg (by omega)]
  congr 2
  apply Fin.ext
  show 640 + (2688 + l.val - 512 - 512 - 512 - 512 - 512 - 128) = 640 + l.val
  omega
theorem two_apply (x : FVec Ideal S8192x64 .f32) (n : Fin 8192) (l : Fin 128) : two (F := Ideal) x (ix2 n l) = x (ix2 n ⟨l.val % 64, by omega⟩) := by
  pointwise [two]
  split <;> congr 3 <;> omega
theorem three_apply (x y : FVec Ideal S8192x8 .f32) (z : FVec Ideal S8192x48 .f32) (n : Fin 8192) (d : Fin 64) :
    three (F := Ideal) x y z (ix2 n d) = if h : d.val < 8 then x (ix2 n ⟨d.val, h⟩) else if h' : d.val < 16 then y (ix2 n ⟨d.val - 8, by omega⟩) else z (ix2 n ⟨d.val - 16, by omega⟩) := by
  pointwise [three]
  have e : (d.val - 8 < 8) = (d.val < 16) := propext (by omega)
  split
  · rfl
  · split
    · rw [dif_pos (by omega)]
    · rw [dif_neg (by omega)]; congr 2

/-- The lanes a table's row holds, each of the two copies: eight, eight, and the rest. -/
theorem tabC_apply (n : Fin 8192) (l : Fin 128) : tabC (F := Ideal) (ix2 n l) =
    if h : l.val % 64 < 8 then SwaRef.cosT (F := Ideal) (ix2 n ⟨l.val % 64, h⟩) else if h' : l.val % 64 < 16 then SwaRef.cosT (F := Ideal) (ix2 n ⟨l.val % 64 - 8, by omega⟩) else 1 := by
  rw [tabC, two_apply, three_apply]
  have e : ∀ j, broadcastInDim S8192x48 ![] bcast_S_S8192x48 (constant (F := Ideal) S_ .f32 0x3F800000#32) j = (1 : EReal) := fun j => Ideal.ofBits_one_f32
  simp only [e]
theorem tabA_apply (n : Fin 8192) (l : Fin 128) : tabA (F := Ideal) (ix2 n l) =
    if h : l.val % 64 < 8 then -(SwaRef.sinT (F := Ideal) (ix2 n ⟨l.val % 64, h⟩) : EReal) else 0 := by
  rw [tabA, two_apply, three_apply]
  have e : ∀ j, broadcastInDim S8192x48 ![] bcast_S_S8192x48 (constant (F := Ideal) S_ .f32 0x00000000#32) j = (0 : EReal) := fun j => Ideal.ofBits_zero_f32
  have e' : ∀ j, broadcastInDim S8192x8 ![] bcast_S_S8192x8 (constant (F := Ideal) S_ .f32 0x00000000#32) j = (0 : EReal) := fun j => Ideal.ofBits_zero_f32
  simp only [e, e']
  simp only [dite_eq_ite, ite_self]
  rfl
theorem tabB_apply (n : Fin 8192) (l : Fin 128) : tabB (F := Ideal) (ix2 n l) =
    if h : l.val % 64 < 8 then 0 else if h' : l.val % 64 < 16 then (SwaRef.sinT (F := Ideal) (ix2 n ⟨l.val % 64 - 8, by omega⟩) : EReal) else 0 := by
  rw [tabB, two_apply, three_apply]
  have e : ∀ j, broadcastInDim S8192x48 ![] bcast_S_S8192x48 (constant (F := Ideal) S_ .f32 0x00000000#32) j = (0 : EReal) := fun j => Ideal.ofBits_zero_f32
  have e' : ∀ j, broadcastInDim S8192x8 ![] bcast_S_S8192x8 (constant (F := Ideal) S_ .f32 0x00000000#32) j = (0 : EReal) := fun j => Ideal.ofBits_zero_f32
  simp only [e, e']
end Ideal

/-! ## The blocks of the grid points -/

theorem at_in : ∀ t : Fin cfg0.N, win0_1.index t 0 = t.val ∧ win0_1.index t 1 = 0 ∧ win0_2.index t 0 = t.val ∧ win0_2.index t 1 = 20 ∧ win0_3.index t 0 = t.val ∧ win0_3.index t 1 = 21 :=
  (by decide +kernel : ∀ t : Fin grid0.N, _)
theorem at_tab : ∀ t : Fin cfg0.N, win0_4.index t 0 = t.val % 8 ∧ win0_4.index t 1 = 0 ∧ win0_5.index t 0 = t.val % 8 ∧ win0_5.index t 1 = 0 ∧ win0_6.index t 0 = t.val % 8 ∧ win0_6.index t 1 = 0 :=
  (by decide +kernel : ∀ t : Fin grid0.N, _)
theorem at_sink : ∀ t : Fin cfg0.N, win0_0.index t 0 = 0 := (by decide +kernel : ∀ t : Fin grid0.N, _)
theorem at_step : ∀ t : Fin cfg0.N, ((grid0.coords t) 1).val = t.val % 8 := (by decide +kernel : ∀ t : Fin grid0.N, _)

section Blocks
variable (m : (ℓ : Loc nD τ sig) → Buf (Elt Ideal) ℓ) (c : Dev nD) (t : Fin cfg0.N)

theorem lt16 : t.val < 16 := lt_of_lt_of_eq t.isLt N_0

theorem blk_q (r : Fin 1024) (l : Fin 512) : X0_1 m c t (ix2 r l) = cols (F := Ideal) (m ((c : Thread nD τ).loc main_arg0)) (ix2 ⟨1024 * t.val + r.val, by have := lt16 t; omega⟩ ⟨l.val, by omega⟩) := by
  unfold X0_1 Pipeline.Window.fill
  rw [dif_pos (moved0_1 t _)]
  show V m c main_v9 (((cfg0.win 1).blk t).view.emb _) = _
  rw [V_cols]
  refine congrArg _ (funext fun a => Fin.ext ?_)
  obtain ⟨e0, e1, -⟩ := at_in t
  fin_cases a
  · show win0_1.index t 0 * 1024 + 1 * r.val = 1024 * t.val + r.val; rw [e0]; omega
  · show win0_1.index t 1 * 512 + 1 * l.val = l.val; rw [e1]; omega

theorem blk_k (r : Fin 1024) (l : Fin 128) : iblk m c 2 t (ix2 r l) = cols (F := Ideal) (m ((c : Thread nD τ).loc main_arg0)) (ix2 ⟨1024 * t.val + r.val, by have := lt16 t; omega⟩ ⟨2560 + l.val, by omega⟩) := by
  show V m c main_v9 (((cfg0.win 2).blk t).view.emb _) = _
  rw [V_cols]
  refine congrArg _ (funext fun a => Fin.ext ?_)
  obtain ⟨-, -, e0, e1, -⟩ := at_in t
  fin_cases a
  · show win0_2.index t 0 * 1024 + 1 * r.val = 1024 * t.val + r.val; rw [e0]; omega
  · show win0_2.index t 1 * 128 + 1 * l.val = 2560 + l.val; rw [e1]; omega

theorem blk_v (r : Fin 1024) (l : Fin 128) : iblk m c 3 t (ix2 r l) = cols (F := Ideal) (m ((c : Thread nD τ).loc main_arg0)) (ix2 ⟨1024 * t.val + r.val, by have := lt16 t; omega⟩ ⟨2688 + l.val, by omega⟩) := by
  show V m c main_v9 (((cfg0.win 3).blk t).view.emb _) = _
  rw [V_cols]
  refine congrArg _ (funext fun a => Fin.ext ?_)
  obtain ⟨-, -, -, -, e0, e1⟩ := at_in t
  fin_cases a
  · show win0_3.index t 0 * 1024 + 1 * r.val = 1024 * t.val + r.val; rw [e0]; omega
  · show win0_3.index t 1 * 128 + 1 * l.val = 2688 + l.val; rw [e1]; omega

theorem blk_C (r : Fin 1024) (l : Fin 128) : iblk m c 4 t (ix2 r l) = tabC (F := Ideal) (ix2 ⟨1024 * (t.val % 8) + r.val, by omega⟩ l) := by
  show V m c main_v32 (((cfg0.win 4).blk t).view.emb _) = _
  rw [V_tabC]
  refine congrArg _ (funext fun a => Fin.ext ?_)
  obtain ⟨e0, e1, -⟩ := at_tab t
  fin_cases a
  · show win0_4.index t 0 * 1024 + 1 * r.val = 1024 * (t.val % 8) + r.val; rw [e0]; omega
  · show win0_4.index t 1 * 128 + 1 * l.val = l.val; rw [e1]; omega

theorem blk_A (r : Fin 1024) (l : Fin 128) : iblk m c 5 t (ix2 r l) = tabA (F := Ideal) (ix2 ⟨1024 * (t.val % 8) + r.val, by omega⟩ l) := by
  show V m c main_v33 (((cfg0.win 5).blk t).view.emb _) = _
  rw [V_tabA]
  refine congrArg _ (funext fun a => Fin.ext ?_)
  obtain ⟨-, -, e0, e1, -⟩ := at_tab t
  fin_cases a
  · show win0_5.index t 0 * 1024 + 1 * r.val = 1024 * (t.val % 8) + r.val; rw [e0]; omega
  · show win0_5.index t 1 * 128 + 1 * l.val = l.val; rw [e1]; omega

theorem blk_B (r : Fin 1024) (l : Fin 128) : iblk m c 6 t (ix2 r l) = tabB (F := Ideal) (ix2 ⟨1024 * (t.val % 8) + r.val, by omega⟩ l) := by
  show V m c main_v34 (((cfg0.win 6).blk t).view.emb _) = _
  rw [V_tabB]
  refine congrArg _ (funext fun a => Fin.ext ?_)
  obtain ⟨-, -, -, -, e0, e1⟩ := at_tab t
  fin_cases a
  · show win0_6.index t 0 * 1024 + 1 * r.val = 1024 * (t.val % 8) + r.val; rw [e0]; omega
  · show win0_6.index t 1 * 128 + 1 * l.val = l.val; rw [e1]; omega

theorem blk_sink (h : Fin 8) : iblk m c 0 t (ix1 h) = m ((c : Thread nD τ).loc main_arg1) (ix1 h) := by
  show V m c main_arg1 (((cfg0.win 0).blk t).view.emb _) = _
  rw [V_main_arg1]
  refine congrArg _ (funext fun a => Fin.ext ?_)
  fin_cases a
  show win0_0.index t 0 * 8 + 1 * h.val = h.val; rw [at_sink t]; omega
end Blocks

end Cert.Swa
-- ==== Proof.Grid.lean ====
/-
  The kernel's result at an index: the stores of the grid point that holds it, from that point's blocks and the tiles
  the point before left.
-/
module

public import proofs.«01_k».proof.Proof.Step
public import proofs.«01_k».proof.Proof.Host

@[expose] public section

set_option maxRecDepth 65536

noncomputable section

open Idealize.ShloMosaic Idealize.ShloMosaic.TcCoe Idealize.ShloMosaic.Pointwise
open Cert.KernelIdeal Cert.KernelIdeal.Gen Cert.KernelIdeal.Value

namespace Cert.Swa

/-- Thirty-two stores of tiles read back at an index: the tile that holds it. -/
theorem canon_pieces (n : ℕ) (hn : n < 8) (kp vp : Vec Ideal S128x128 .bf16) (LQ : Fin 8 → Fin 4 → Vec Ideal S128x128 .bf16) (LK LV : Fin 8 → Vec Ideal S128x128 .bf16)
    (tc ta tb : Vec Ideal S1024x128 .f32) (sk : Fin 8 → EReal) (i : Fin 8) (r : Fin 128) (h : Fin 8) (d : Fin 64) :
    View.canon (pieces (outs (F := Ideal) (BitVec.ofNat 32 n) kp vp LQ LK LV tc ta tb sk)) (ix2 ⟨128 * i.val + r.val, by omega⟩ ⟨64 * h.val + d.val, by omega⟩)
      = outs (F := Ideal) (BitVec.ofNat 32 n) kp vp LQ LK LV tc ta tb sk (ix3 ⟨8 * i.val + h.val, by omega⟩ r ⟨64 * (h.val % 2) + d.val, by omega⟩) := by
  let o := outs (F := Ideal) (BitVec.ofNat 32 n) kp vp LQ LK LV tc ta tb sk
  let G : S1024x512.Idx → EReal := fun y => o (ix3 ⟨8 * ((y 0).val / 128) + (y 1).val / 64, by have h0 : (y 0).val < 1024 := (y 0).isLt; have h1 : (y 1).val < 512 := (y 1).isLt; omega⟩
    ⟨(y 0).val % 128, Nat.mod_lt _ (by decide)⟩ ⟨(y 1).val % 128, Nat.mod_lt _ (by decide)⟩)
  rw [View.canon_apply_of_pieces G (pieces o)]
  · show o _ = o _
    congr 1
    have e1 : (128 * i.val + r.val) / 128 = i.val := by omega
    have e2 : (64 * h.val + d.val) / 64 = h.val := by omega
    have e3 : (128 * i.val + r.val) % 128 = r.val := by omega
    have e4 : (64 * h.val + d.val) % 128 = 64 * (h.val % 2) + d.val := by omega
    show ix3 (⟨8 * ((128 * i.val + r.val) / 128) + (64 * h.val + d.val) / 64, _⟩ : Fin 64) (⟨(128 * i.val + r.val) % 128, _⟩ : Fin 128) (⟨(64 * h.val + d.val) % 128, _⟩ : Fin 128) = _
    simp only [e1, e2, e3, e4]
  · intro p hp x
    obtain ⟨k, rfl⟩ := (List.mem_ofFn' _ _).mp hp
    obtain ⟨x0, x1, rfl⟩ : ∃ (x0 x1 : Fin 128), x = ix2 x0 x1 := ⟨x 0, x 1, by funext a; fin_cases a <;> rfl⟩
    show outTile o ⟨2 * (31 - k.val), _⟩ ⟨2 * (31 - k.val) + 1, _⟩ (ix2 x0 x1) = _
    rw [outTile_outs n hn kp vp LQ LK LV tc ta tb sk (31 - k.val) (by omega) x0 x1]
    show o _ = o _
    congr 1
    have f0 : ∀ q : ℕ, (128 * q + 1 * x0.val) / 128 = q := fun q => by omega
    have f1 : (128 * ((31 - k.val) / 4) + 1 * x0.val) % 128 = x0.val := by omega
    have f2 : (128 * ((31 - k.val) % 4) + 1 * x1.val) % 128 = x1.val := by omega
    show _ = ix3 (⟨8 * ((128 * ((31 - k.val) / 4) + 1 * x0.val) / 128) + (128 * ((31 - k.val) % 4) + 1 * x1.val) / 64, _⟩ : Fin 64) (⟨(128 * ((31 - k.val) / 4) + 1 * x0.val) % 128, _⟩ : Fin 128) (⟨(128 * ((31 - k.val) % 4) + 1 * x1.val) % 128, _⟩ : Fin 128)
    have f3 : 8 * ((128 * ((31 - k.val) / 4) + 1 * x0.val) / 128) + (128 * ((31 - k.val) % 4) + 1 * x1.val) / 64 = 2 * (31 - k.val) + x1.val / 64 := by omega
    simp only [f1, f2, f3]
  · refine ⟨_, (List.mem_ofFn' _ _).mpr ⟨⟨31 - (4 * i.val + h.val / 2), by omega⟩, rfl⟩, ?_⟩
    refine (Rect.mem_set_unit (inb := inbTile ⟨(31 - (31 - (4 * i.val + h.val / 2))) / 4, by omega⟩ ⟨(31 - (31 - (4 * i.val + h.val / 2))) % 4, by omega⟩)).mpr fun a => ?_
    fin_cases a
    · show 128 * ((31 - (31 - (4 * i.val + h.val / 2))) / 4) ≤ 128 * i.val + r.val ∧ 128 * i.val + r.val < 128 * ((31 - (31 - (4 * i.val + h.val / 2))) / 4) + 128
      omega
    · show 128 * ((31 - (31 - (4 * i.val + h.val / 2))) % 4) ≤ 64 * h.val + d.val ∧ 64 * h.val + d.val < 128 * ((31 - (31 - (4 * i.val + h.val / 2))) % 4) + 128
      omega

theorem offZero : (![0, 0] : Fin S128x128.rank → Nat) = fun _ => 0 := by funext a; fin_cases a <;> rfl

section Points
variable (m : (ℓ : Loc nD τ sig) → Buf (Elt Ideal) ℓ) (c : Dev nD)

/-- The query tiles point `t` loads. -/
def LQ (t : Fin cfg0.N) : Fin 8 → Fin 4 → Vec Ideal S128x128 .bf16 := ldQ (ms0_1 t) (hs0_1 t) (X0_1 m c t)
/-- The key blocks point `t` loads. -/
def LK (t : Fin cfg0.N) : Fin 8 → Vec Ideal S128x128 .bf16 := ldR (ms0_2 t) (hs0_2 t) (iblk m c 2 t)
/-- The value blocks point `t` loads. -/
def LV (t : Fin cfg0.N) : Fin 8 → Vec Ideal S128x128 .bf16 := ldR (ms0_3 t) (hs0_3 t) (iblk m c 3 t)
/-- The sinks point `t` loads. -/
def LS (t : Fin cfg0.N) : Fin 8 → EReal := ldS (F := Ideal) (ms0_0 t) (hs0_0 t) (iblk m c 0 t)

/-- The key tile left after point `t`. -/
def keyTile (t : Fin cfg0.N) : Vec Ideal S128x128 .bf16 := kTile (F := Ideal) (LK m c t) (iblk m c 4 t) (iblk m c 5 t) (iblk m c 6 t) 7
/-- The value tile left after point `t`. -/
def valTile (t : Fin cfg0.N) : Vec Ideal S128x128 .bf16 := vTile (F := Ideal) (LV m c t) 7

/-- What every point leaves in the carried scratches: its own last key and value tiles. -/
theorem carried (t : Fin cfg0.N) : (outsAt0 m c t.val t.isLt).2.1 = keyTile m c t ∧ (outsAt0 m c t.val t.isLt).2.2 = valTile m c t := by
  by_cases h0 : t.val % 8 = 0
  · rw [outsAt0_A m c t h0]
    constructor
    · dsimp only
      unfold sout0_A_0
      rw [View.read_writes_eq_canon _ _ _ (fun y => scover0_A_0 (y := y) ..), keyLeft_A, View.canon_cons_unit_zero offZero, shapeCast_self, ldT_eq, ldT_eq, ldT_eq]
      rfl
    · dsimp only
      unfold sout0_A_1
      rw [View.read_writes_eq_canon _ _ _ (fun y => scover0_A_1 (y := y) ..), valueLeft_A, View.canon_cons_unit_zero offZero, shapeCast_self]
      rfl
  · rw [outsAt0_B m c t h0]
    constructor
    · dsimp only
      unfold sout0_B_0
      rw [View.read_writes_eq_canon _ _ _ (fun y => scover0_B_0 (y := y) ..), keyLeft_B, View.canon_cons_unit_zero offZero, shapeCast_self, ldT_eq, ldT_eq, ldT_eq]
      rfl
    · dsimp only
      unfold sout0_B_1
      rw [View.read_writes_eq_canon _ _ _ (fun y => scover0_B_1 (y := y) ..), valueLeft_B, View.canon_cons_unit_zero offZero, shapeCast_self]
      rfl

/-- The point before, in the same sequence where there is one. -/
abbrev prevPt (t : Fin cfg0.N) : Fin cfg0.N := ⟨t.val - 1, Nat.lt_of_le_of_lt (Nat.sub_le _ _) t.isLt⟩

/-- What point `t` leaves in its output block, from SOME tiles carried into it: those of the point before, unless it is
    the first of its sequence. -/
theorem stored (t : Fin cfg0.N) (i : Fin 8) (r : Fin 128) (h : Fin 8) (d : Fin 64) :
    ∃ kp vp : Vec Ideal S128x128 .bf16, (t.val % 8 ≠ 0 → kp = keyTile m c (prevPt t) ∧ vp = valTile m c (prevPt t)) ∧
      (outsAt0 m c t.val t.isLt).1 (ix2 ⟨128 * i.val + r.val, by omega⟩ ⟨64 * h.val + d.val, by omega⟩)
        = outs (F := Ideal) (BitVec.ofNat 32 (t.val % 8)) kp vp (LQ m c t) (LK m c t) (LV m c t) (iblk m c 4 t) (iblk m c 5 t) (iblk m c 6 t) (LS m c t)
            (ix3 ⟨8 * i.val + h.val, by omega⟩ r ⟨64 * (h.val % 2) + d.val, by omega⟩) := by
  by_cases h0 : t.val % 8 = 0
  · refine ⟨ldZ (F := Ideal) scM0_0, ldZ (F := Ideal) scM0_1, fun h => absurd h0 h, ?_⟩
    rw [outsAt0_A m c t h0]
    dsimp only
    unfold out0_A_7
    rw [View.read_writes_eq_canon _ _ _ (fun y => cover0_A_7 (y := y) ..), pieces_A, at_step t, canon_pieces (t.val % 8) (by omega), ldT_eq, ldT_eq, ldT_eq]
    rfl
  · obtain ⟨e0, e1⟩ := carried m c (prevPt t)
    refine ⟨_, _, fun _ => ⟨e0, e1⟩, ?_⟩
    rw [outsAt0_B m c t h0]
    dsimp only
    unfold out0_B_7
    rw [View.read_writes_eq_canon _ _ _ (fun y => cover0_B_7 (y := y) ..), pieces_B, at_step t, canon_pieces (t.val % 8) (by omega), ldT_eq, ldT_eq, ldT_eq, ldC_eq, ldC_eq]
    rfl

/-- The result array at an index: what its point left in its output block. -/
theorem result_at (t : Fin cfg0.N) (R : Fin 1024) (l : Fin 512) :
    G7 m c (ix2 ⟨1024 * t.val + R.val, by have := lt16 t; omega⟩ l) = (outsAt0 m c t.val t.isLt).1 (ix2 R l) := by
  have hp : pt7Of (ix2 (⟨1024 * t.val + R.val, by have := lt16 t; omega⟩ : Fin 16384) l) = t.val := by
    show 1 * ((1024 * t.val + R.val) / 1024 - 0) + 1 * (l.val / 512 - 0) = t.val
    omega
  unfold G7
  rw [dif_pos (by rw [hp]; exact t.isLt), fold0_congr m c _ _ _ (by rw [Nat.zero_add]; exact t.isLt) hp, ← outsAt0_sweep]
  refine congrArg (outsAt0 m c t.val t.isLt).1 (funext fun a => Fin.ext ?_)
  fin_cases a
  · show (1024 * t.val + R.val) % 1024 = R.val; omega
  · show l.val % 512 = l.val; omega

end Points

end Cert.Swa
-- ==== Proof.RefAt.lean ====
/-
  The reference's sliding-window attention read at an index.
-/
module

public import proofs.«01_k».proof.Proof.Ref
public import Idealize.ShloMosaic.Lib.WordCmp
public import Idealize.ShloMosaic.Lib.IdealHost

@[expose] public section

set_option maxRecDepth 65536

noncomputable section

open Idealize.ShloMosaic Idealize.ShloMosaic.TcCoe Idealize.ShloMosaic.Pointwise
open Cert.ReferenceIdeal Cert.ReferenceIdeal.Gen Cert.ReferenceIdeal.Value

namespace Cert.SwaRef

/-- The partial rotary embedding of one row of 64 lanes. -/
def emb (x : Fin 64 → EReal) (co si : Fin 8 → EReal) (d : Fin 64) : EReal :=
  if h : d.val < 8 then x d * co ⟨d.val, h⟩ - x ⟨d.val + 8, by omega⟩ * si ⟨d.val, h⟩
  else if h' : d.val < 16 then x d * co ⟨d.val - 8, by omega⟩ + x ⟨d.val - 8, by omega⟩ * si ⟨d.val - 8, by omega⟩
  else x d

/-- The cosines of a row. -/
def cosR (n : Fin 8192) (j : Fin 8) : EReal := cosT (F := Ideal) (ix2 n j)
/-- The sines of a row. -/
def sinR (n : Fin 8192) (j : Fin 8) : EReal := sinT (F := Ideal) (ix2 n j)

theorem rope8_apply (x : FVec Ideal S2x8192x8x64 .f32) (b : Fin 2) (n : Fin 8192) (h : Fin 8) (d : Fin 64) :
    rope8 (F := Ideal) x (ix4 b n h d) = emb (fun d => x (ix4 b n h d)) (cosR n) (sinR n) d := by
  pointwise [rope8]
  unfold emb cosR sinR
  simp only [show (d.val - 8 < 8) = (d.val < 16) from propext (by omega), Nat.add_comm 8]
  split
  · rfl
  · split
    · have e : (⟨d.val - 8 + 8, by omega⟩ : Fin 64) = d := Fin.ext (by show d.val - 8 + 8 = d.val; omega)
      rw [e]
    · have e : (⟨16 + (d.val - 8 - 8), by omega⟩ : Fin 64) = d := Fin.ext (by show 16 + (d.val - 8 - 8) = d.val; omega)
      rw [e]

theorem rope2_apply (x : FVec Ideal S2x8192x2x64 .f32) (b : Fin 2) (n : Fin 8192) (h : Fin 2) (d : Fin 64) :
    rope2 (F := Ideal) x (ix4 b n h d) = emb (fun d => x (ix4 b n h d)) (cosR n) (sinR n) d := by
  pointwise [rope2]
  unfold emb cosR sinR
  simp only [show (d.val - 8 < 8) = (d.val < 16) from propext (by omega), Nat.add_comm 8]
  split
  · rfl
  · split
    · have e : (⟨d.val - 8 + 8, by omega⟩ : Fin 64) = d := Fin.ext (by show d.val - 8 + 8 = d.val; omega)
      rw [e]
    · have e : (⟨16 + (d.val - 8 - 8), by omega⟩ : Fin 64) = d := Fin.ext (by show 16 + (d.val - 8 - 8) = d.val; omega)
      rw [e]

theorem win_apply (x : FVec Ideal S2x64x128x2x64 .f32) (b : Fin 2) (n : Fin 64) (s : Fin 256) (k : Fin 2) (d : Fin 64) :
    win (F := Ideal) x (ix5 b n s k d) = if h : s.val < 128 then (if h' : n.val < 1 then 0 else x (ix5 b ⟨n.val - 1, by omega⟩ ⟨s.val, h⟩ k d)) else x (ix5 b n ⟨s.val - 128, by omega⟩ k d) := by
  pointwise [win]

/-- The two comparisons of a row's window: not after the row, and less than 128 before it. -/
theorem band_word (r : Fin 128) (s : Fin 256) :
    IntOp.andi (IntOp.cmpi .sle (BitVec.ofNat 32 s.val) (IntOp.addi (BitVec.ofNat 32 r.val) 128#32))
        (IntOp.cmpi .slt (IntOp.subi (IntOp.addi (BitVec.ofNat 32 r.val) 128#32) (BitVec.ofNat 32 s.val)) 128#32)
      = BitVec.ofBool (decide (s.val ≤ r.val + 128 ∧ r.val < s.val)) := by
  have e : IntOp.addi (BitVec.ofNat 32 r.val) 128#32 = BitVec.ofNat 32 (r.val + 128) := (BitVec.ofNat_add _ _).symm
  rw [e, WordCmp.cmpi_sle_ofNat (by omega) (by omega)]
  by_cases h : s.val ≤ r.val + 128
  · have e' : IntOp.subi (BitVec.ofNat 32 (r.val + 128)) (BitVec.ofNat 32 s.val) = BitVec.ofNat 32 (r.val + 128 - s.val) := by
      show BitVec.ofNat 32 (r.val + 128) - BitVec.ofNat 32 s.val = _
      apply BitVec.eq_of_toNat_eq
      simp only [BitVec.toNat_sub, BitVec.toNat_ofNat]
      omega
    rw [e', WordCmp.cmpi_slt_ofNat (b := 128) (by omega) (by omega)]
    by_cases h' : r.val < s.val
    · simp [h, h', show r.val + 128 - s.val < 128 by omega]; rfl
    · simp [h, h', show ¬r.val + 128 - s.val < 128 by omega]; rfl
  · simp only [h, decide_false, false_and]
    show 0#1 &&& _ = 0#1
    exact BitVec.zero_and

theorem valid_apply (b : Fin 2) (n : Fin 64) (k : Fin 2) (g : Fin 4) (r : Fin 128) (s : Fin 256) :
    valid (ix6 b n k g r s) = BitVec.ofBool (decide ((s.val ≤ r.val + 128 ∧ r.val < s.val) ∧ (0 < n.val ∨ 128 ≤ s.val))) := by
  pointwise [valid]
  rw [band_word, WordCmp.cmpi_sgt_ofNat (b := 0) (by omega) (by omega), WordCmp.cmpi_sge_ofNat (b := 128) (by omega) (by omega)]
  by_cases h1 : s.val ≤ r.val + 128 ∧ r.val < s.val <;> by_cases h2 : 0 < n.val <;> by_cases h3 : 128 ≤ s.val <;>
    simp only [h1, h2, h3, decide_true, decide_false, and_true, and_false, true_or, or_true, or_self, true_and, false_and] <;> rfl

/-- The literal minus infinity. -/
theorem negInf : Ideal.ofBits .f32 0xFF800000#32 = (⊥ : EReal) := by simp [Ideal.ofBits, Ideal.ieee]

theorem scores_apply (q : FVec Ideal S2x64x128x2x4x64 .f32) (kw : FVec Ideal S2x64x256x2x64 .f32) (b : Fin 2) (n : Fin 64) (k : Fin 2) (g : Fin 4) (r : Fin 128) (s : Fin 256) :
    scores (F := Ideal) q kw (ix6 b n k g r s) = if (s.val ≤ r.val + 128 ∧ r.val < s.val) ∧ (0 < n.val ∨ 128 ≤ s.val) then
      (∑ d : Fin 64, kw (ix5 b n s k d) * q (ix6 b n r k g d)) * Ideal.ofBits .f32 0x3E000000#32 else ⊥ := by
  pointwise [scores]
  rw [valid_apply, WordCmp.select_decide]
  have e : (id (constant (F := Ideal) S_ .f32 0xFF800000#32) : FVec Ideal S_ .f32) ix0 = ⊥ := negInf
  rw [e]

theorem withSink_apply (q : FVec Ideal S2x64x128x2x4x64 .f32) (kw : FVec Ideal S2x64x256x2x64 .f32) (sk : FVec Ideal S8 .f32) (b : Fin 2) (n : Fin 64) (k : Fin 2) (g : Fin 4) (r : Fin 128) (s : Fin 257) :
    withSink (F := Ideal) q kw sk (ix6 b n k g r s) = if h : s.val < 256 then scores (F := Ideal) q kw (ix6 b n k g r ⟨s.val, h⟩) else sk (ix1 ⟨k.val * 4 + g.val, by omega⟩) := by
  pointwise [withSink]

theorem redLast : S2x64x2x4x128x257.Reduces [5] S2x64x2x4x128 := by decide

theorem lift_last (b : Fin 2) (n : Fin 64) (k : Fin 2) (g : Fin 4) (r : Fin 128) (j : Fin 257) : redLast.lift (ix5 b n k g r) j = ix6 b n k g r j := by
  funext a; apply Fin.ext; fin_cases a <;> rfl

/-- The largest of the row's scores and the sink. -/
def top (s : Fin 257 → EReal) : EReal := max ⊥ (Finset.fold max ⊥ s Finset.univ)

/-- The exponential of each entry less its row's number, where the numbers are given. -/
theorem shift_apply (s : FVec Ideal S2x64x2x4x128x257 .f32) (z : FVec Ideal S2x64x2x4x128 .f32) (b : Fin 2) (n : Fin 64) (k : Fin 2) (g : Fin 4) (r : Fin 128) (j : Fin 257) :
    Host.exp (subf s (broadcastInDim S2x64x2x4x128x257 ![0, 1, 2, 3, 4, 5] bcast_S2x64x2x4x128x1_S2x64x2x4x128x257_0_1_2_3_4_5 (broadcastInDim S2x64x2x4x128x1 ![0, 1, 2, 3, 4] bcast_S2x64x2x4x128_S2x64x2x4x128x1_0_1_2_3_4 z))) (ix6 b n k g r j)
      = Ideal.exp (s (ix6 b n k g r j) - z (ix5 b n k g r)) := by
  pointwise

/-- The larger of minus infinity and each entry. -/
theorem floor_apply (z : FVec Ideal S2x64x2x4x128 .f32) (b : Fin 2) (n : Fin 64) (k : Fin 2) (g : Fin 4) (r : Fin 128) :
    maximumf (broadcastInDim S2x64x2x4x128 ![] bcast_S_S2x64x2x4x128 (constant (F := Ideal) S_ .f32 0xFF800000#32)) z (ix5 b n k g r) = max ⊥ (z (ix5 b n k g r)) := by
  pointwise
  rw [negInf]

theorem expS_apply (s : FVec Ideal S2x64x2x4x128x257 .f32) (b : Fin 2) (n : Fin 64) (k : Fin 2) (g : Fin 4) (r : Fin 128) (j : Fin 257) :
    expS (F := Ideal) s (ix6 b n k g r j) = Ideal.exp (s (ix6 b n k g r j) - top (fun j => s (ix6 b n k g r j))) := by
  unfold expS
  rw [shift_apply, floor_apply, Host.reduce_eq_fold_single _ _ _ _ redLast]
  have e : (s ∘ redLast.lift (ix5 b n k g r)) = fun j => s (ix6 b n k g r j) := funext fun j => congrArg s (lift_last b n k g r j)
  rw [e]
  have e' : constant (F := Ideal) S_ .f32 0xFF800000#32 (Shape.Idx.first h_S_) = (⊥ : EReal) := negInf
  rw [e']
  rfl

/-- Each entry over its row's sum, where the sums are given. -/
theorem quot_apply (e : FVec Ideal S2x64x2x4x128x257 .f32) (z : FVec Ideal S2x64x2x4x128 .f32) (b : Fin 2) (n : Fin 64) (k : Fin 2) (g : Fin 4) (r : Fin 128) (j : Fin 256) :
    extractStridedSlice S2x64x2x4x128x256 ![0, 0, 0, 0, 0, 0] (Host.divf e (broadcastInDim S2x64x2x4x128x257 ![0, 1, 2, 3, 4, 5] bcast_S2x64x2x4x128x1_S2x64x2x4x128x257_0_1_2_3_4_5 (broadcastInDim S2x64x2x4x128x1 ![0, 1, 2, 3, 4] bcast_S2x64x2x4x128_S2x64x2x4x128x1_0_1_2_3_4 z))) slices_S2x64x2x4x128x257_S2x64x2x4x128x256_0_0_0_0_0_0 (ix6 b n k g r j)
      = Ideal.div (e (ix6 b n k g r ⟨j.val, by omega⟩)) (z (ix5 b n k g r)) := by
  pointwise

theorem soft_apply (s : FVec Ideal S2x64x2x4x128x257 .f32) (b : Fin 2) (n : Fin 64) (k : Fin 2) (g : Fin 4) (r : Fin 128) (j : Fin 256) :
    soft (F := Ideal) s (ix6 b n k g r j) = Ideal.div (expS (F := Ideal) s (ix6 b n k g r ⟨j.val, by omega⟩)) (0 + ∑ j : Fin 257, expS (F := Ideal) s (ix6 b n k g r j)) := by
  unfold soft
  generalize expS (F := Ideal) s = e
  rw [quot_apply, ValueIdx.hostReduceAdd_apply, Ideal.hostReduceAdd_single _ redLast]
  congr 2
  · exact Ideal.ofBits_zero_f32
  · exact Finset.sum_congr rfl fun j _ => congrArg e (lift_last b n k g r j)

theorem weigh_apply (p : FVec Ideal S2x64x2x4x128x256 .f32) (vw : FVec Ideal S2x64x256x2x64 .f32) (R : Fin 16384) (l : Fin 512) :
    weigh (F := Ideal) p vw (ix2 R l) = ∑ s : Fin 256, vw (ix5 ⟨R.val / 8192, by omega⟩ ⟨R.val / 128 % 64, by omega⟩ s ⟨l.val / 256, by omega⟩ ⟨l.val % 64, by omega⟩)
      * p (ix6 ⟨R.val / 8192, by omega⟩ ⟨R.val / 128 % 64, by omega⟩ ⟨l.val / 256, by omega⟩ ⟨l.val / 64 % 4, by omega⟩ ⟨R.val % 128, by omega⟩ s) := by
  pointwise [weigh]

theorem qBlk_apply (a : FVec Ideal S2x8192x2824 .f32) (b : Fin 2) (n : Fin 64) (r : Fin 128) (k : Fin 2) (g : Fin 4) (d : Fin 64) :
    qBlk (F := Ideal) a (ix6 b n r k g d) = emb (fun d => a (ix3 b ⟨n.val * 128 + r.val, by omega⟩ ⟨(k.val * 4 + g.val) * 64 + d.val, by omega⟩)) (cosR ⟨n.val * 128 + r.val, by omega⟩) (sinR ⟨n.val * 128 + r.val, by omega⟩) d := by
  pointwise [qBlk]
  rw [rope8_apply]
  congr 1
  funext d
  pointwise

theorem kBlk_apply (a : FVec Ideal S2x8192x2824 .f32) (b : Fin 2) (n : Fin 64) (r : Fin 128) (k : Fin 2) (d : Fin 64) :
    kBlk (F := Ideal) a (ix5 b n r k d) = emb (fun d => a (ix3 b ⟨n.val * 128 + r.val, by omega⟩ ⟨512 + (k.val * 64 + d.val), by omega⟩)) (cosR ⟨n.val * 128 + r.val, by omega⟩) (sinR ⟨n.val * 128 + r.val, by omega⟩) d := by
  pointwise [kBlk]
  rw [rope2_apply]
  congr 1
  funext d
  pointwise

theorem vBlk_apply (a : FVec Ideal S2x8192x2824 .f32) (b : Fin 2) (n : Fin 64) (r : Fin 128) (k : Fin 2) (d : Fin 64) :
    vBlk (F := Ideal) a (ix5 b n r k d) = a (ix3 b ⟨n.val * 128 + r.val, by omega⟩ ⟨640 + (k.val * 64 + d.val), by omega⟩) := by
  pointwise [vBlk]

end Cert.SwaRef
-- ==== Proof.Core.lean ====
/-
  One row of the attention, over the extended reals: the kernel's two halves of 128 keys, its reciprocal and its scaled
  queries against the one softmax of 256 scores and the sink.
-/
module

public import proofs.«01_k».proof.Proof.Step
public import proofs.«01_k».proof.Proof.RefAt

@[expose] public section

noncomputable section

open Idealize.ShloMosaic

namespace Cert.Swa

/-! ## Finite numbers -/

/-- A number that is neither infinity. -/
def IsFin (x : EReal) : Prop := ∃ r : ℝ, x = (r : EReal)

namespace IsFin
theorem coe (r : ℝ) : IsFin (r : EReal) := ⟨r, rfl⟩
theorem zero : IsFin 0 := ⟨0, rfl⟩
theorem add {x y : EReal} : IsFin x → IsFin y → IsFin (x + y) := by rintro ⟨a, rfl⟩ ⟨b, rfl⟩; exact ⟨a + b, (EReal.coe_add a b).symm⟩
theorem sub {x y : EReal} : IsFin x → IsFin y → IsFin (x - y) := by rintro ⟨a, rfl⟩ ⟨b, rfl⟩; exact ⟨a - b, (EReal.coe_sub a b).symm⟩
theorem mul {x y : EReal} : IsFin x → IsFin y → IsFin (x * y) := by rintro ⟨a, rfl⟩ ⟨b, rfl⟩; exact ⟨a * b, (EReal.coe_mul a b).symm⟩
theorem neg {x : EReal} : IsFin x → IsFin (-x) := by rintro ⟨a, rfl⟩; exact ⟨-a, (EReal.coe_neg a).symm⟩
theorem cos {x : EReal} : IsFin x → IsFin (Ideal.cos x) := by rintro ⟨a, rfl⟩; exact ⟨Real.cos a, rfl⟩
theorem sin {x : EReal} : IsFin x → IsFin (Ideal.sin x) := by rintro ⟨a, rfl⟩; exact ⟨Real.sin a, rfl⟩
theorem pow {x y : EReal} : IsFin x → IsFin y → IsFin (Ideal.pow x y) := by rintro ⟨a, rfl⟩ ⟨b, rfl⟩; exact ⟨Real.rpow a b, rfl⟩
theorem div {x y : EReal} (h : y ≠ 0) : IsFin x → IsFin y → IsFin (Ideal.div x y) := by
  rintro ⟨a, rfl⟩ ⟨b, rfl⟩
  refine ⟨a * b⁻¹, ?_⟩
  unfold Ideal.div
  rw [if_neg h, EReal.coe_mul, EReal.coe_inv]
theorem sum {ι : Type} (s : Finset ι) (f : ι → EReal) (h : ∀ i, IsFin (f i)) : IsFin (∑ i ∈ s, f i) := by
  classical
  induction s using Finset.induction_on with
  | empty => rw [Finset.sum_empty]; exact zero
  | insert a s ha ih => rw [Finset.sum_insert ha]; exact (h a).add ih
theorem ne_top {x : EReal} : IsFin x → x ≠ ⊤ := by rintro ⟨a, rfl⟩; exact EReal.coe_ne_top a
theorem ne_bot {x : EReal} : IsFin x → x ≠ ⊥ := by rintro ⟨a, rfl⟩; exact EReal.coe_ne_bot a
theorem of_ne {x : EReal} (h : x ≠ ⊤) (h' : x ≠ ⊥) : IsFin x := ⟨x.toReal, (EReal.coe_toReal h h').symm⟩
end IsFin

/-- The scale of the scores is one eighth. -/
theorem scale_eq : Ideal.ofBits .f32 0x3E000000#32 = ((1 / 8 : ℝ) : EReal) := by
  simp [Ideal.ofBits, Ideal.ieee, -EReal.coe_mul]; norm_num

/-- The base of the rotary frequencies. -/
theorem theta_eq : Ideal.ofBits .f32 0x48F42400#32 = ((500000 : ℝ) : EReal) := by
  simp [Ideal.ofBits, Ideal.ieee, -EReal.coe_mul]; norm_num

/-- The number of rotated pairs. -/
theorem eight_eq : Ideal.ofBits .f32 0x41000000#32 = ((8 : ℝ) : EReal) := by
  simp [Ideal.ofBits, Ideal.ieee, -EReal.coe_mul]; norm_num

/-- A contraction of scaled queries is the scaled contraction. -/
theorem sum_scaled {n : ℕ} (q k : Fin n → EReal) (c : EReal) (h0 : 0 ≤ c) (h1 : c ≠ ⊤) :
    ∑ d, q d * c * k d = (∑ d, k d * q d) * c := by
  have h : ∀ s : Finset (Fin n), ∑ d ∈ s, q d * c * k d = (∑ d ∈ s, k d * q d) * c := by
    intro s
    induction s using Finset.induction_on with
    | empty => simp
    | insert a s ha ih =>
      rw [Finset.sum_insert ha, Finset.sum_insert ha, EReal.right_distrib_of_nonneg_of_ne_top h0 h1, ih]
      congr 1
      rw [mul_comm (k a), mul_assoc, mul_comm c, ← mul_assoc]
  exact h _

theorem exp_nonneg (x : EReal) : 0 ≤ Ideal.exp x := by
  induction x using EReal.rec with
  | bot => exact le_refl _
  | top => exact le_top
  | coe r => exact EReal.coe_nonneg.mpr (Real.exp_pos r).le

/-! ## The row -/

/-- The 256 scores and the sink after them. -/
def row (S : Fin 256 → EReal) (sk : EReal) (j : Fin 257) : EReal := if h : j.val < 256 then S ⟨j.val, h⟩ else sk

/-- The scores' first half: the keys of the block before. -/
abbrev lo (S : Fin 256 → EReal) (s : Fin 128) : EReal := S ⟨s.val, by omega⟩
/-- The scores' second half: the keys of the block itself. -/
abbrev hi (S : Fin 256 → EReal) (s : Fin 128) : EReal := S ⟨128 + s.val, by omega⟩

theorem top_row (S : Fin 256 → EReal) (sk : EReal) : SwaRef.top (row S sk) = rowMax (lo S) (hi S) sk := by
  unfold SwaRef.top rowMax
  show max ⊥ (Finset.univ.sup (row S sk)) = max (max (Finset.univ.sup (lo S)) (Finset.univ.sup (hi S))) sk
  rw [max_eq_right bot_le]
  apply le_antisymm
  · refine Finset.sup_le fun j _ => ?_
    unfold row
    split
    · next h =>
      by_cases h' : j.val < 128
      · exact le_trans (Finset.le_sup (f := lo S) (Finset.mem_univ (⟨j.val, h'⟩ : Fin 128))) (le_trans (le_max_left _ _) (le_max_left _ _))
      · have e : (⟨128 + (j.val - 128), by omega⟩ : Fin 256) = ⟨j.val, h⟩ := Fin.ext (by show 128 + (j.val - 128) = j.val; omega)
        have := Finset.le_sup (f := hi S) (Finset.mem_univ (⟨j.val - 128, by omega⟩ : Fin 128))
        unfold hi at this
        rw [e] at this
        exact le_trans this (le_trans (le_max_right _ _) (le_max_left _ _))
    · exact le_max_right _ _
  · refine max_le (max_le (Finset.sup_le fun s _ => ?_) (Finset.sup_le fun s _ => ?_)) ?_
    · have := Finset.le_sup (f := row S sk) (Finset.mem_univ (⟨s.val, by omega⟩ : Fin 257))
      rwa [row, dif_pos (by show s.val < 256; omega)] at this
    · have := Finset.le_sup (f := row S sk) (Finset.mem_univ (⟨128 + s.val, by omega⟩ : Fin 257))
      rwa [row, dif_pos (by show 128 + s.val < 256; omega)] at this
    · have := Finset.le_sup (f := row S sk) (Finset.mem_univ (⟨256, by omega⟩ : Fin 257))
      rwa [row, dif_neg (by show ¬256 < 256; omega)] at this

/-- A sum over 256 is the sums over its two halves. -/
theorem sum_halves (f : Fin 256 → EReal) : ∑ s, f s = ∑ s, lo f s + ∑ s, hi f s := Fin.sum_univ_add (a := 128) (b := 128) f

theorem sum_row (S : Fin 256 → EReal) (sk : EReal) :
    0 + ∑ j, Ideal.exp (row S sk j - SwaRef.top (row S sk)) = rowSum (lo S) (hi S) sk := by
  rw [top_row, zero_add, Fin.sum_univ_castSucc]
  unfold rowSum
  rw [show (∑ i : Fin 256, Ideal.exp (row S sk i.castSucc - rowMax (lo S) (hi S) sk)) = ∑ i : Fin 256, Ideal.exp (S i - rowMax (lo S) (hi S) sk) from
    Finset.sum_congr rfl fun i _ => by rw [row, dif_pos (show i.castSucc.val < 256 from i.isLt)]; rfl]
  rw [sum_halves]
  congr 1

theorem rowMax_isFin (S : Fin 256 → EReal) (sk : EReal) (hS : ∀ s, S s ≠ ⊤) (hk : IsFin sk) : IsFin (rowMax (lo S) (hi S) sk) := by
  refine IsFin.of_ne ?_ ?_
  · refine ne_of_lt ?_
    show max (max (Finset.univ.sup (lo S)) (Finset.univ.sup (hi S))) sk < ⊤
    exact max_lt (max_lt ((Finset.sup_lt_iff bot_lt_top).mpr fun s _ => lt_top_iff_ne_top.mpr (hS _)) ((Finset.sup_lt_iff bot_lt_top).mpr fun s _ => lt_top_iff_ne_top.mpr (hS _)))
      (lt_top_iff_ne_top.mpr hk.ne_top)
  · exact ne_of_gt (lt_of_lt_of_le (bot_lt_iff_ne_bot.mpr hk.ne_bot) (le_max_right _ _))

theorem rowSum_ne_zero (S : Fin 256 → EReal) (sk : EReal) (hS : ∀ s, S s ≠ ⊤) (hk : IsFin sk) : rowSum (lo S) (hi S) sk ≠ 0 := by
  obtain ⟨a, ha⟩ := hk.sub (rowMax_isFin S sk hS hk)
  refine ne_of_gt (lt_of_lt_of_le ?_ (le_add_of_nonneg_left (add_nonneg (Finset.sum_nonneg fun s _ => exp_nonneg _) (Finset.sum_nonneg fun s _ => exp_nonneg _))))
  rw [ha]
  exact EReal.coe_pos.mpr (Real.exp_pos a)

/-- One lane of one row: the kernel's two halves with its reciprocal is the softmax of the 256 scores and the sink,
    applied to the values. Where a score is minus infinity the value does not matter. -/
theorem rowOut_eq (S V : Fin 256 → EReal) (sk : EReal) (vp : Fin 128 → EReal) (hS : ∀ s, S s ≠ ⊤) (hk : IsFin sk)
    (hv : ∀ s, lo S s = ⊥ ∨ vp s = lo V s) :
    rowOut (lo S) (hi S) sk vp (hi V) = ∑ s : Fin 256, V s *
      Ideal.div (Ideal.exp (row S sk ⟨s.val, by omega⟩ - SwaRef.top (row S sk))) (0 + ∑ j, Ideal.exp (row S sk j - SwaRef.top (row S sk))) := by
  have hD := rowSum_ne_zero S sk hS hk
  have hM := rowMax_isFin S sk hS hk
  rw [sum_row, top_row]
  have e : ∀ s : Fin 256, row S sk ⟨s.val, by omega⟩ = S s := fun s => by rw [row, dif_pos (show s.val < 256 from s.isLt)]
  simp only [e]
  rw [sum_halves]
  unfold rowOut
  congr 1
  · refine Finset.sum_congr rfl fun s _ => ?_
    rw [Ideal.mul_one_div hD]
    rcases hv s with h | h
    · have e0 : Ideal.exp (lo S s - rowMax (lo S) (hi S) sk) = 0 := by
        rw [h, sub_eq_add_neg, EReal.bot_add]; rfl
      show Ideal.div (Ideal.exp (lo S s - rowMax (lo S) (hi S) sk)) _ * _ = lo V s * Ideal.div (Ideal.exp (lo S s - rowMax (lo S) (hi S) sk)) _
      rw [e0, Ideal.zero_div hD, zero_mul, mul_zero]
    · rw [h, mul_comm]
  · refine Finset.sum_congr rfl fun s _ => ?_
    rw [Ideal.mul_one_div hD, mul_comm]

/-! ## The rotary embedding of a row -/

/-- The kernel's three products and two rotations on a tile's lane is the embedding of the lane's row of 64. -/
theorem emb_tile (x : Fin 128 → EReal) (co si : Fin 8 → EReal) (l : Fin 128) :
    x l * (if h : l.val % 64 < 8 then co ⟨l.val % 64, h⟩ else if h' : l.val % 64 < 16 then co ⟨l.val % 64 - 8, by omega⟩ else 1)
      + x ⟨(l.val + 8) % 128, by omega⟩ * (if h : l.val % 64 < 8 then -(si ⟨l.val % 64, h⟩) else 0)
      + x ⟨(l.val + 120) % 128, by omega⟩ * (if h : l.val % 64 < 8 then 0 else if h' : l.val % 64 < 16 then si ⟨l.val % 64 - 8, by omega⟩ else 0)
    = SwaRef.emb (fun d => x ⟨64 * (l.val / 64) + d.val, by omega⟩) co si ⟨l.val % 64, by omega⟩ := by
  have el : (⟨64 * (l.val / 64) + l.val % 64, by omega⟩ : Fin 128) = l := Fin.ext (by show 64 * (l.val / 64) + l.val % 64 = l.val; omega)
  unfold SwaRef.emb
  dsimp only
  rw [el]
  split
  · next h =>
    have e : (⟨(l.val + 8) % 128, by omega⟩ : Fin 128) = ⟨64 * (l.val / 64) + (l.val % 64 + 8), by omega⟩ := Fin.ext (by show (l.val + 8) % 128 = 64 * (l.val / 64) + (l.val % 64 + 8); omega)
    rw [e, mul_zero, add_zero, mul_neg, ← sub_eq_add_neg]
  · split
    · next h h' =>
      have e : (⟨(l.val + 120) % 128, by omega⟩ : Fin 128) = ⟨64 * (l.val / 64) + (l.val % 64 - 8), by omega⟩ := Fin.ext (by show (l.val + 120) % 128 = 64 * (l.val / 64) + (l.val % 64 - 8); omega)
      rw [e, mul_zero, add_zero]
    · rw [mul_zero, mul_zero, add_zero, add_zero, mul_one]

/-- The embedding of finite numbers is finite. -/
theorem emb_isFin (x : Fin 64 → EReal) (co si : Fin 8 → EReal) (hx : ∀ d, IsFin (x d)) (hc : ∀ j, IsFin (co j)) (hs : ∀ j, IsFin (si j)) (d : Fin 64) :
    IsFin (SwaRef.emb x co si d) := by
  unfold SwaRef.emb
  split
  · exact ((hx _).mul (hc _)).sub ((hx _).mul (hs _))
  · split
    · exact ((hx _).mul (hc _)).add ((hx _).mul (hs _))
    · exact hx _

theorem ang_isFin (n : Fin 8192) (j : Fin 8) : IsFin (SwaRef.ang (F := Ideal) (ValueIdx.ix2 n j)) := by
  pointwise [SwaRef.ang]
  rw [theta_eq, eight_eq]
  refine IsFin.mul ?_ (IsFin.pow (IsFin.coe _) (IsFin.div (by norm_num) ?_ (IsFin.coe _)))
  · exact IsFin.coe _
  · exact IsFin.neg (IsFin.coe _)

theorem cosR_isFin (n : Fin 8192) (j : Fin 8) : IsFin (SwaRef.cosR n j) := IsFin.cos (ang_isFin n j)
theorem sinR_isFin (n : Fin 8192) (j : Fin 8) : IsFin (SwaRef.sinR n j) := IsFin.sin (ang_isFin n j)

end Cert.Swa
-- ==== Proof.Final.lean ====
/-
  The kernel's result is the reference's: each tile the kernel keeps is a block of the reference's embedded queries,
  keys or values, and each row is one softmax.
-/
module

public import proofs.«01_k».proof.Proof.Grid
public import proofs.«01_k».proof.Proof.Core
public import proofs.«01_k».proof.Pre_finite_scores

@[expose] public section

set_option maxRecDepth 65536

noncomputable section

open Idealize.ShloMosaic Idealize.ShloMosaic.TcCoe Idealize.ShloMosaic.Pointwise
open Cert.KernelIdeal Cert.KernelIdeal.Gen Cert.KernelIdeal.Value

namespace Cert.Swa

/-- An entry of the projected array, by the numbers of its row and its column. -/
theorem at3 (a : FVec Ideal S2x8192x2824 .f32) {x x' : Fin 2} {y y' : Fin 8192} {z z' : Fin 2824} (h0 : x.val = x'.val) (h1 : y.val = y'.val) (h2 : z.val = z'.val) :
    a (ix3 x y z) = a (ix3 x' y' z') := by
  rw [Fin.ext h0, Fin.ext h1, Fin.ext h2]

/-- One entry of the attention at block `i`, head `h` and the head's lane `d`. -/
theorem outs_at (n : ℕ) (hn : n < 8) (kp vp : Vec Ideal S128x128 .bf16) (LQ : Fin 8 → Fin 4 → Vec Ideal S128x128 .bf16) (LK LV : Fin 8 → Vec Ideal S128x128 .bf16)
    (tc ta tb : Vec Ideal S1024x128 .f32) (sk : Fin 8 → EReal) (i : Fin 8) (h : Fin 8) (r : Fin 128) (d : Fin 64) :
    outs (F := Ideal) (BitVec.ofNat 32 n) kp vp LQ LK LV tc ta tb sk (ix3 ⟨8 * i.val + h.val, by omega⟩ r ⟨64 * (h.val % 2) + d.val, by omega⟩) =
      rowOut (fun s => if r.val < s.val ∧ (0 < i.val ∨ 0 < n) then
            ∑ d : Fin 64, qTile LQ tc ta tb i ⟨h.val / 2, by omega⟩ (ix2 r ⟨64 * (h.val % 2) + d.val, by omega⟩)
              * before kp (kTile LK tc ta tb) i (ix2 s ⟨64 * (h.val / 4) + d.val, by omega⟩) else ⊥)
        (fun s => if s.val ≤ r.val then
            ∑ d : Fin 64, qTile LQ tc ta tb i ⟨h.val / 2, by omega⟩ (ix2 r ⟨64 * (h.val % 2) + d.val, by omega⟩)
              * kTile LK tc ta tb i (ix2 s ⟨64 * (h.val / 4) + d.val, by omega⟩) else ⊥)
        (sk h)
        (fun s => before vp (vTile LV) i (ix2 s ⟨64 * (h.val / 4) + d.val, by omega⟩))
        (fun s => vTile LV i (ix2 s ⟨64 * (h.val / 4) + d.val, by omega⟩)) := by
  rw [outs_apply n hn]
  have eb : blkOf ⟨8 * i.val + h.val, by omega⟩ = i := Fin.ext (by show (8 * i.val + h.val) / 8 = i.val; omega)
  have eh : headOf ⟨8 * i.val + h.val, by omega⟩ = h := Fin.ext (by show (8 * i.val + h.val) % 8 = h.val; omega)
  have e1 : (8 * i.val + h.val) % 8 = h.val := by omega
  have e2 : (64 * (h.val % 2) + d.val) / 64 = h.val % 2 := by omega
  have e3 : (64 * (h.val % 2) + d.val) % 64 = d.val := by omega
  have e4 : (8 ≤ 8 * i.val + h.val) = (0 < i.val) := propext (by omega)
  simp only [eb, eh, e1, e2, e3, e4, if_true]

section Tiles
variable (m : (ℓ : Loc nD τ sig) → Buf (Elt Ideal) ℓ) (c : Dev nD)

/-- The projected array. -/
abbrev arr : FVec Ideal S2x8192x2824 .f32 := m ((c : Thread nD τ).loc main_arg0)
/-- The sinks. -/
abbrev snk : FVec Ideal S8 .f32 := m ((c : Thread nD τ).loc main_arg1)

/-- The sequence of point `t`. -/
abbrev seqOf (t : Fin cfg0.N) : Fin 2 := ⟨t.val / 8, by have := lt16 t; omega⟩
/-- Block `i` of point `t`, counted in its sequence. -/
abbrev blkAt (t : Fin cfg0.N) (i : Fin 8) : Fin 64 := ⟨8 * (t.val % 8) + i.val, by omega⟩

theorem kTile_eq (t : Fin cfg0.N) (i : Fin 8) (s : Fin 128) (k : Fin 2) (d : Fin 64) :
    kTile (F := Ideal) (LK m c t) (iblk m c 4 t) (iblk m c 5 t) (iblk m c 6 t) i (ix2 s ⟨64 * k.val + d.val, by omega⟩)
      = SwaRef.kBlk (F := Ideal) (arr m c) (ix5 (seqOf t) (blkAt t i) s k d) := by
  have ht := lt16 t
  rw [kTile_apply, blk_C m c t, blk_A m c t, blk_B m c t, tabC_apply, tabA_apply, tabB_apply]
  refine (emb_tile (fun l => LK m c t i (ix2 s l)) (SwaRef.cosR ⟨1024 * (t.val % 8) + (128 * i.val + s.val), by omega⟩) (SwaRef.sinR ⟨1024 * (t.val % 8) + (128 * i.val + s.val), by omega⟩) ⟨64 * k.val + d.val, by omega⟩).trans ?_
  rw [SwaRef.kBlk_apply]
  have er : (⟨1024 * (t.val % 8) + (128 * i.val + s.val), by omega⟩ : Fin 8192) = ⟨(8 * (t.val % 8) + i.val) * 128 + s.val, by omega⟩ := Fin.ext (by show 1024 * (t.val % 8) + (128 * i.val + s.val) = (8 * (t.val % 8) + i.val) * 128 + s.val; omega)
  have ed : (⟨(64 * k.val + d.val) % 64, by omega⟩ : Fin 64) = d := Fin.ext (by show (64 * k.val + d.val) % 64 = d.val; omega)
  rw [er, ed]
  congr 1
  funext x
  show LK m c t i (ix2 s ⟨64 * ((64 * k.val + d.val) / 64) + x.val, _⟩) = _
  rw [LK, ldR_apply, blk_k m c t, cols_k]
  exact at3 _ (by show (1024 * t.val + (128 * i.val + s.val)) / 8192 = t.val / 8; omega)
    (by show (1024 * t.val + (128 * i.val + s.val)) % 8192 = (8 * (t.val % 8) + i.val) * 128 + s.val; omega)
    (by show 512 + (64 * ((64 * k.val + d.val) / 64) + x.val) = 512 + (k.val * 64 + x.val); omega)

theorem qTile_eq (t : Fin cfg0.N) (i : Fin 8) (r : Fin 128) (h : Fin 8) (d : Fin 64) :
    qTile (F := Ideal) (LQ m c t) (iblk m c 4 t) (iblk m c 5 t) (iblk m c 6 t) i ⟨h.val / 2, by omega⟩ (ix2 r ⟨64 * (h.val % 2) + d.val, by omega⟩)
      = SwaRef.qBlk (F := Ideal) (arr m c) (ix6 (seqOf t) (blkAt t i) r ⟨h.val / 4, by omega⟩ ⟨h.val % 4, by omega⟩ d) * Ideal.ofBits .f32 0x3E000000#32 := by
  have ht := lt16 t
  rw [qTile_apply, blk_C m c t, blk_A m c t, blk_B m c t, tabC_apply, tabA_apply, tabB_apply]
  refine congrArg (· * Ideal.ofBits .f32 0x3E000000#32) ?_
  refine (emb_tile (fun l => LQ m c t i ⟨h.val / 2, by omega⟩ (ix2 r l)) (SwaRef.cosR ⟨1024 * (t.val % 8) + (128 * i.val + r.val), by omega⟩) (SwaRef.sinR ⟨1024 * (t.val % 8) + (128 * i.val + r.val), by omega⟩) ⟨64 * (h.val % 2) + d.val, by omega⟩).trans ?_
  rw [SwaRef.qBlk_apply]
  have er : (⟨1024 * (t.val % 8) + (128 * i.val + r.val), by omega⟩ : Fin 8192) = ⟨(8 * (t.val % 8) + i.val) * 128 + r.val, by omega⟩ := Fin.ext (by show 1024 * (t.val % 8) + (128 * i.val + r.val) = (8 * (t.val % 8) + i.val) * 128 + r.val; omega)
  have ed : (⟨(64 * (h.val % 2) + d.val) % 64, by omega⟩ : Fin 64) = d := Fin.ext (by show (64 * (h.val % 2) + d.val) % 64 = d.val; omega)
  rw [er, ed]
  congr 1
  funext x
  show LQ m c t i ⟨h.val / 2, _⟩ (ix2 r ⟨64 * ((64 * (h.val % 2) + d.val) / 64) + x.val, _⟩) = _
  rw [LQ, ldQ_apply, blk_q m c t, cols_q]
  exact at3 _ (by show (1024 * t.val + (128 * i.val + r.val)) / 8192 = t.val / 8; omega)
    (by show (1024 * t.val + (128 * i.val + r.val)) % 8192 = (8 * (t.val % 8) + i.val) * 128 + r.val; omega)
    (by show 128 * (h.val / 2) + (64 * ((64 * (h.val % 2) + d.val) / 64) + x.val) = (h.val / 4 * 4 + h.val % 4) * 64 + x.val; omega)

theorem vTile_eq (t : Fin cfg0.N) (i : Fin 8) (s : Fin 128) (k : Fin 2) (d : Fin 64) :
    vTile (F := Ideal) (LV m c t) i (ix2 s ⟨64 * k.val + d.val, by omega⟩) = SwaRef.vBlk (F := Ideal) (arr m c) (ix5 (seqOf t) (blkAt t i) s k d) := by
  have ht := lt16 t
  rw [vTile_apply, LV, ldR_apply, blk_v m c t, cols_v, SwaRef.vBlk_apply]
  exact at3 _ (by show (1024 * t.val + (128 * i.val + s.val)) / 8192 = t.val / 8; omega)
    (by show (1024 * t.val + (128 * i.val + s.val)) % 8192 = (8 * (t.val % 8) + i.val) * 128 + s.val; omega)
    (by show 640 + (64 * k.val + d.val) = 640 + (k.val * 64 + d.val); omega)

/-- The tile before block `i`, where there is a block before: a property of every point's tiles holds of it too. -/
theorem before_eq (t : Fin cfg0.N) (i : Fin 8) (tp : Vec Ideal S128x128 .bf16) (T : Fin cfg0.N → Fin 8 → FVec Ideal S128x128 .bf16) (G : Fin 2 → Fin 64 → EReal) (j : S128x128.Idx)
    (hT : ∀ t i, T t i j = G (seqOf t) (blkAt t i)) (hp : t.val % 8 ≠ 0 → tp = T (prevPt t) 7) (hi : 0 < 8 * (t.val % 8) + i.val) :
    before tp (T t) i j = G (seqOf t) ⟨8 * (t.val % 8) + i.val - 1, by omega⟩ := by
  by_cases h : 0 < i.val
  · rw [before_pos _ _ _ h, hT]
    congr 1
    exact Fin.ext (by show 8 * (t.val % 8) + (i.val - 1) = 8 * (t.val % 8) + i.val - 1; omega)
  · have h0 : i = 0 := Fin.ext (by show i.val = 0; omega)
    subst h0
    have hi' : 0 < 8 * (t.val % 8) := hi
    rw [before_zero, hp (by omega), hT]
    congr 1
    · exact Fin.ext (by show (t.val - 1) / 8 = t.val / 8; omega)
    · exact Fin.ext (by show 8 * ((t.val - 1) % 8) + 7 = 8 * (t.val % 8) + 0 - 1; omega)

/-- The scores of a row of a head, in the reference's window. -/
def scoreRow (b : Fin 2) (n : Fin 64) (h : Fin 8) (r : Fin 128) (s : Fin 256) : EReal :=
  SwaRef.scores (F := Ideal) (SwaRef.qBlk (arr m c)) (SwaRef.win (SwaRef.kBlk (arr m c))) (ix6 b n ⟨h.val / 4, by omega⟩ ⟨h.val % 4, by omega⟩ r s)

/-- The values of a lane of a head, in the reference's window. -/
def valueLane (b : Fin 2) (n : Fin 64) (h : Fin 8) (d : Fin 64) (s : Fin 256) : EReal :=
  SwaRef.win (F := Ideal) (SwaRef.vBlk (arr m c)) (ix5 b n s ⟨h.val / 4, by omega⟩ d)

theorem scale_nonneg : (0 : EReal) ≤ Ideal.ofBits .f32 0x3E000000#32 := by rw [scale_eq]; exact EReal.coe_nonneg.mpr (by norm_num)
theorem scale_ne_top : (Ideal.ofBits .f32 0x3E000000#32 : EReal) ≠ ⊤ := by rw [scale_eq]; exact EReal.coe_ne_top _

/-- The queries, the keys and the sinks are finite. -/
structure FinArgs : Prop where
  arr : ∀ (b : Fin 2) (n : Fin 8192) (l : Fin 2824), l.val < 640 → IsFin (arr m c (ix3 b n l))
  snk : ∀ h : Fin 8, IsFin (snk m c (ix1 h))

variable {m c}

theorem kBlk_isFin (hf : FinArgs m c) (b : Fin 2) (n : Fin 64) (r : Fin 128) (k : Fin 2) (d : Fin 64) : IsFin (SwaRef.kBlk (F := Ideal) (arr m c) (ix5 b n r k d)) := by
  rw [SwaRef.kBlk_apply]
  exact emb_isFin _ _ _ (fun d => hf.arr _ _ _ (by show 512 + (k.val * 64 + d.val) < 640; omega)) (cosR_isFin _) (sinR_isFin _) d

theorem qBlk_isFin (hf : FinArgs m c) (b : Fin 2) (n : Fin 64) (r : Fin 128) (k : Fin 2) (g : Fin 4) (d : Fin 64) : IsFin (SwaRef.qBlk (F := Ideal) (arr m c) (ix6 b n r k g d)) := by
  rw [SwaRef.qBlk_apply]
  exact emb_isFin _ _ _ (fun d => hf.arr _ _ _ (by show (k.val * 4 + g.val) * 64 + d.val < 640; omega)) (cosR_isFin _) (sinR_isFin _) d

theorem scoreRow_ne_top (hf : FinArgs m c) (b : Fin 2) (n : Fin 64) (h : Fin 8) (r : Fin 128) (s : Fin 256) : scoreRow m c b n h r s ≠ ⊤ := by
  rw [scoreRow, SwaRef.scores_apply]
  split
  · refine IsFin.ne_top (IsFin.mul (IsFin.sum _ _ fun d => IsFin.mul ?_ (qBlk_isFin hf _ _ _ _ _ _)) ⟨_, scale_eq⟩)
    rw [SwaRef.win_apply]
    split
    · split
      · exact IsFin.zero
      · exact kBlk_isFin hf _ _ _ _ _
    · exact kBlk_isFin hf _ _ _ _ _
  · exact bot_ne_top

variable (m c)

theorem scores_before (t : Fin cfg0.N) (i : Fin 8) (h : Fin 8) (r s : Fin 128) (kp : Vec Ideal S128x128 .bf16) (hkp : t.val % 8 ≠ 0 → kp = keyTile m c (prevPt t)) :
    (if r.val < s.val ∧ (0 < i.val ∨ 0 < t.val % 8) then
        ∑ d : Fin 64, qTile (F := Ideal) (LQ m c t) (iblk m c 4 t) (iblk m c 5 t) (iblk m c 6 t) i ⟨h.val / 2, by omega⟩ (ix2 r ⟨64 * (h.val % 2) + d.val, by omega⟩)
          * before kp (kTile (F := Ideal) (LK m c t) (iblk m c 4 t) (iblk m c 5 t) (iblk m c 6 t)) i (ix2 s ⟨64 * (h.val / 4) + d.val, by omega⟩) else ⊥)
      = lo (scoreRow m c (seqOf t) (blkAt t i) h r) s := by
  unfold lo
  rw [scoreRow, SwaRef.scores_apply]
  have ec : (r.val < s.val ∧ (0 < i.val ∨ 0 < t.val % 8)) = ((s.val ≤ r.val + 128 ∧ r.val < s.val) ∧ (0 < 8 * (t.val % 8) + i.val ∨ 128 ≤ s.val)) := propext (by omega)
  refine if_ctx_congr (Iff.of_eq ec) (fun hc => ?_) fun _ => rfl
  obtain ⟨-, h2⟩ : r.val < s.val ∧ (0 < i.val ∨ 0 < t.val % 8) := by rw [ec]; exact hc
  have h0 : 0 < 8 * (t.val % 8) + i.val := by omega
  rw [← sum_scaled _ _ _ scale_nonneg scale_ne_top]
  refine Finset.sum_congr rfl fun d _ => ?_
  rw [qTile_eq m c t]
  congr 1
  rw [before_eq t i kp (fun t => kTile (F := Ideal) (LK m c t) (iblk m c 4 t) (iblk m c 5 t) (iblk m c 6 t))
    (fun b n => SwaRef.kBlk (F := Ideal) (arr m c) (ix5 b n s ⟨h.val / 4, by omega⟩ d)) (ix2 s ⟨64 * (h.val / 4) + d.val, by omega⟩) (fun t i => kTile_eq m c t i s ⟨h.val / 4, by omega⟩ d) hkp h0]
  rw [SwaRef.win_apply, dif_pos (show s.val < 128 from s.isLt), dif_neg (by show ¬8 * (t.val % 8) + i.val < 1; omega)]

theorem scores_own (t : Fin cfg0.N) (i : Fin 8) (h : Fin 8) (r s : Fin 128) :
    (if s.val ≤ r.val then
        ∑ d : Fin 64, qTile (F := Ideal) (LQ m c t) (iblk m c 4 t) (iblk m c 5 t) (iblk m c 6 t) i ⟨h.val / 2, by omega⟩ (ix2 r ⟨64 * (h.val % 2) + d.val, by omega⟩)
          * kTile (F := Ideal) (LK m c t) (iblk m c 4 t) (iblk m c 5 t) (iblk m c 6 t) i (ix2 s ⟨64 * (h.val / 4) + d.val, by omega⟩) else ⊥)
      = hi (scoreRow m c (seqOf t) (blkAt t i) h r) s := by
  unfold hi
  rw [scoreRow, SwaRef.scores_apply]
  have ec : (s.val ≤ r.val) = ((128 + s.val ≤ r.val + 128 ∧ r.val < 128 + s.val) ∧ (0 < 8 * (t.val % 8) + i.val ∨ 128 ≤ 128 + s.val)) := propext (by omega)
  refine if_ctx_congr (Iff.of_eq ec) (fun hc => ?_) fun _ => rfl
  rw [← sum_scaled _ _ _ scale_nonneg scale_ne_top]
  refine Finset.sum_congr rfl fun d _ => ?_
  rw [qTile_eq m c t, kTile_eq m c t i s ⟨h.val / 4, by omega⟩ d]
  congr 1
  rw [SwaRef.win_apply, dif_neg (by show ¬128 + s.val < 128; omega)]
  congr 2
  exact Fin.ext (by show s.val = 128 + s.val - 128; omega)

theorem values_before (t : Fin cfg0.N) (i : Fin 8) (h : Fin 8) (r s : Fin 128) (d : Fin 64) (vp : Vec Ideal S128x128 .bf16) (hvp : t.val % 8 ≠ 0 → vp = valTile m c (prevPt t)) :
    lo (scoreRow m c (seqOf t) (blkAt t i) h r) s = ⊥
      ∨ before vp (vTile (F := Ideal) (LV m c t)) i (ix2 s ⟨64 * (h.val / 4) + d.val, by omega⟩) = lo (valueLane m c (seqOf t) (blkAt t i) h d) s := by
  by_cases h0 : 0 < 8 * (t.val % 8) + i.val
  · right
    unfold lo
    rw [valueLane, before_eq t i vp (fun t => vTile (F := Ideal) (LV m c t))
      (fun b n => SwaRef.vBlk (F := Ideal) (arr m c) (ix5 b n s ⟨h.val / 4, by omega⟩ d)) (ix2 s ⟨64 * (h.val / 4) + d.val, by omega⟩) (fun t i => vTile_eq m c t i s ⟨h.val / 4, by omega⟩ d) hvp h0]
    rw [SwaRef.win_apply, dif_pos (show s.val < 128 from s.isLt), dif_neg (by show ¬8 * (t.val % 8) + i.val < 1; omega)]
  · left
    unfold lo
    rw [scoreRow, SwaRef.scores_apply, if_neg]
    show ¬((s.val ≤ r.val + 128 ∧ r.val < s.val) ∧ (0 < 8 * (t.val % 8) + i.val ∨ 128 ≤ s.val))
    omega

theorem values_own (t : Fin cfg0.N) (i : Fin 8) (h : Fin 8) (s : Fin 128) (d : Fin 64) :
    vTile (F := Ideal) (LV m c t) i (ix2 s ⟨64 * (h.val / 4) + d.val, by omega⟩) = hi (valueLane m c (seqOf t) (blkAt t i) h d) s := by
  unfold hi
  rw [valueLane, vTile_eq m c t i s ⟨h.val / 4, by omega⟩ d, SwaRef.win_apply, dif_neg (by show ¬128 + s.val < 128; omega)]
  congr 2
  exact Fin.ext (by show s.val = 128 + s.val - 128; omega)

/-- What the reference holds at a row and a lane. -/
theorem ref_at (a : FVec Ideal S2x8192x2824 .f32) (sk : FVec Ideal S8 .f32) (R : Fin 16384) (l : Fin 512) (b : Fin 2) (n : Fin 64) (r : Fin 128) (k : Fin 2) (g : Fin 4) (d : Fin 64)
    (hR : R.val = 8192 * b.val + 128 * n.val + r.val) (hl : l.val = 256 * k.val + 64 * g.val + d.val) :
    SwaRef.weigh (F := Ideal) (SwaRef.soft (SwaRef.withSink (SwaRef.qBlk a) (SwaRef.win (SwaRef.kBlk a)) sk)) (SwaRef.win (SwaRef.vBlk a)) (ix2 R l)
      = ∑ s : Fin 256, SwaRef.win (F := Ideal) (SwaRef.vBlk a) (ix5 b n s k d) *
        (let T := row (fun s => SwaRef.scores (F := Ideal) (SwaRef.qBlk a) (SwaRef.win (SwaRef.kBlk a)) (ix6 b n k g r s)) (sk (ix1 ⟨k.val * 4 + g.val, by omega⟩))
         Ideal.div (Ideal.exp (T ⟨s.val, by omega⟩ - SwaRef.top T)) (0 + ∑ j, Ideal.exp (T j - SwaRef.top T))) := by
  rw [SwaRef.weigh_apply]
  have e0 : (⟨R.val / 8192, by omega⟩ : Fin 2) = b := Fin.ext (by show R.val / 8192 = b.val; omega)
  have e1 : (⟨R.val / 128 % 64, by omega⟩ : Fin 64) = n := Fin.ext (by show R.val / 128 % 64 = n.val; omega)
  have e2 : (⟨R.val % 128, by omega⟩ : Fin 128) = r := Fin.ext (by show R.val % 128 = r.val; omega)
  have e3 : (⟨l.val / 256, by omega⟩ : Fin 2) = k := Fin.ext (by show l.val / 256 = k.val; omega)
  have e4 : (⟨l.val / 64 % 4, by omega⟩ : Fin 4) = g := Fin.ext (by show l.val / 64 % 4 = g.val; omega)
  have e5 : (⟨l.val % 64, by omega⟩ : Fin 64) = d := Fin.ext (by show l.val % 64 = d.val; omega)
  rw [e0, e1, e2, e3, e4, e5]
  have eT : ∀ j, SwaRef.withSink (F := Ideal) (SwaRef.qBlk a) (SwaRef.win (SwaRef.kBlk a)) sk (ix6 b n k g r j)
      = row (fun s => SwaRef.scores (F := Ideal) (SwaRef.qBlk a) (SwaRef.win (SwaRef.kBlk a)) (ix6 b n k g r s)) (sk (ix1 ⟨k.val * 4 + g.val, by omega⟩)) j :=
    fun j => SwaRef.withSink_apply _ _ _ b n k g r j
  refine Finset.sum_congr rfl fun s _ => ?_
  rw [SwaRef.soft_apply]
  simp only [SwaRef.expS_apply, eT]

/-- The kernel's result is the reference's, for finite queries, keys and sinks. -/
theorem result_eq (hf : FinArgs m c) :
    G7 m c = SwaRef.weigh (F := Ideal) (SwaRef.soft (SwaRef.withSink (SwaRef.qBlk (arr m c)) (SwaRef.win (SwaRef.kBlk (arr m c))) (snk m c))) (SwaRef.win (SwaRef.vBlk (arr m c))) := by
  funext j
  obtain ⟨R, l, rfl⟩ : ∃ (R : Fin 16384) (l : Fin 512), j = ix2 R l := ⟨j 0, j 1, by funext a; fin_cases a <;> rfl⟩
  have hN : ∀ x : ℕ, x < 16 → x < cfg0.N := fun x hx => lt_of_lt_of_eq hx N_0.symm
  obtain ⟨t, i, r, h, d, hR, hl⟩ : ∃ (t : Fin cfg0.N) (i : Fin 8) (r : Fin 128) (h : Fin 8) (d : Fin 64), R.val = 1024 * t.val + (128 * i.val + r.val) ∧ l.val = 64 * h.val + d.val :=
    ⟨⟨R.val / 1024, hN _ (by omega)⟩, ⟨R.val / 128 % 8, by omega⟩, ⟨R.val % 128, by omega⟩, ⟨l.val / 64, by omega⟩, ⟨l.val % 64, by omega⟩,
      by show R.val = 1024 * (R.val / 1024) + (128 * (R.val / 128 % 8) + R.val % 128); omega, by show l.val = 64 * (l.val / 64) + l.val % 64; omega⟩
  have ht := lt16 t
  rw [ref_at (arr m c) (snk m c) R l (seqOf t) (blkAt t i) r ⟨h.val / 4, by omega⟩ ⟨h.val % 4, by omega⟩ d
    (by show R.val = 8192 * (t.val / 8) + 128 * (8 * (t.val % 8) + i.val) + r.val; omega) (by show l.val = 256 * (h.val / 4) + 64 * (h.val % 4) + d.val; omega)]
  have eR : R = ⟨1024 * t.val + (⟨128 * i.val + r.val, by omega⟩ : Fin 1024).val, by show 1024 * t.val + (128 * i.val + r.val) < 16384; omega⟩ := Fin.ext hR
  have el : l = ⟨64 * h.val + d.val, by omega⟩ := Fin.ext hl
  refine (congrArg (G7 m c) (congrArg₂ ix2 eR el)).trans ?_
  rw [result_at m c t]
  obtain ⟨kp, vp, hp, hs⟩ := stored m c t i r h d
  rw [hs, outs_at (t.val % 8) (by omega)]
  have ek : (⟨h.val / 4 * 4 + h.val % 4, by omega⟩ : Fin 8) = h := Fin.ext (by show h.val / 4 * 4 + h.val % 4 = h.val; omega)
  simp only [scores_before m c t i h r _ kp fun h => (hp h).1, scores_own m c t, values_own m c t, ek]
  have es : LS m c t h = snk m c (ix1 h) := by rw [LS, ldS_apply, blk_sink m c t]
  rw [es]
  exact rowOut_eq (scoreRow m c (seqOf t) (blkAt t i) h r) (valueLane m c (seqOf t) (blkAt t i) h d) (snk m c (ix1 h)) _ (scoreRow_ne_top hf _ _ _ _) (hf.snk h)
    (fun s => values_before m c t i h r s d vp fun h => (hp h).2)

end Tiles

/-! ## The precondition -/

instance preFacts : Cert.Pre_finite_scores.Facts := by constructor <;> decide

/-- A number whose magnitude is below infinity is finite. -/
theorem isFin_of_abs (x : EReal) (h : Ideal.cmp .olt (max x (-x)) (Ideal.ofBits .f32 0x7F800000#32) = 1#1) : IsFin x := by
  have e : Ideal.ofBits .f32 0x7F800000#32 = (⊤ : EReal) := by simp [Ideal.ofBits, Ideal.ieee]
  rw [e] at h
  induction x using EReal.rec with
  | bot => simp [Ideal.cmp] at h
  | top => simp [Ideal.cmp] at h
  | coe r => exact IsFin.coe r

theorem fn_apply (a : FVec Ideal S2x8192x2824 .f32) (sk : FVec Ideal S8 .f32) (b : Fin 2) (n : Fin 8192) (l : Fin 640) (h : Fin 8) :
    Cert.Pre_finite_scores.fn (F := Ideal) a sk (ix4 b n l h)
      = IntOp.andi (Ideal.cmp .olt (max (a (ix3 b n ⟨l.val, by omega⟩)) (-(a (ix3 b n ⟨l.val, by omega⟩)))) (Ideal.ofBits .f32 0x7F800000#32))
        (Ideal.cmp .olt (max (sk (ix1 h)) (-(sk (ix1 h)))) (Ideal.ofBits .f32 0x7F800000#32)) := by
  pointwise [Cert.Pre_finite_scores.fn]
  rfl

theorem and_one (x y : BitVec 1) (h : IntOp.andi x y = 1#1) : x = 1#1 ∧ y = 1#1 := by
  revert h
  revert x y
  decide

theorem finArgs (m : (ℓ : Loc nD τ sig) → Buf (Elt Ideal) ℓ) (c : Dev nD)
    (h : Cert.Pre_finite_scores.fn (F := Ideal) (arr m c) (snk m c) = fun _ => 1#1) : FinArgs m c := by
  have hh := fun b n l k => and_one _ _ ((fn_apply (arr m c) (snk m c) b n l k).symm.trans (congrFun h (ix4 b n l k)))
  exact ⟨fun b n l hl => isFin_of_abs _ (hh b n ⟨l.val, hl⟩ 0).1, fun k => isFin_of_abs _ (hh 0 0 0 k).2⟩

end Cert.Swa
-- ==== Proof.ExpBody.lean ====
/-
  The experts' kernel body: its run in each case of the number of rows that hold a token.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.TableIdle
public import Idealize.ShloMosaic.Lib.Tactic
public import Idealize.ShloMosaic.Lib.VecWindow
public import Idealize.ShloMosaic.Lib.WordCmp

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

local notation "𝕄" => MT nD τ sig Unit (Elt F) ℕ (UR sig nD τ) ℕ

/-- The word of a table of forty at a grid point's first coordinate. -/
abbrev word (tv : Vec F S40 .i32) (i : grid0.Coords) : BitVec 32 :=
  tv (fun a => ⟨k0_off1 i a, by have h := k0_off1_inb i a; fin_cases a; exact h⟩)

set_option maxHeartbeats 1000000 in
/-- The body's run: the staged blocks stay, and the output's buffer ends at what the run finds. -/
def run (c : Dev nD) (i : grid0.Coords) (arg2 : Memref sig .tc .smem S40 .i32) (harg2 : arg2.IsWhole) (arg3 : Memref sig .tc .smem S40 .i32) (harg3 : arg3.IsWhole) (arg4 : Memref sig .tc .smem S1 .i32) (harg4 : arg4.IsWhole) (arg5 : Memref sig .tc .vmem S1024x1024 .f32) (harg5 : arg5.IsWhole) (arg6 : Memref sig .tc .vmem S1x1x1024x512 .f32) (harg6 : arg6.IsWhole) (arg7 : Memref sig .tc .vmem S1x1x1024x512 .f32) (harg7 : arg7.IsWhole) (arg8 : Memref sig .tc .vmem S1x1x512x1024 .f32) (harg8 : arg8.IsWhole) (arg9 : Memref sig .tc .vmem S1024x1024 .f32) (harg9 : arg9.IsWhole)
    (tv : Vec F S40 .i32) (x : Vec F S1024x1024 .f32) (wg wu : Vec F S1x1x1024x512 .f32) (wd : Vec F S1x1x512x1024 .f32) (y : Vec F S1024x1024 .f32) :
    { out : arg9.view.ty.Contents (Elt F) // ∀ (E : Set ℕ) (K : PUnit → sProp 𝕄),
      iprop(owns (c : Thread nD τ) arg3 fullShare.right tv ∗ owns (c : Thread nD τ) arg5 fullShare x ∗ owns (c : Thread nD τ) arg6 fullShare wg ∗ owns (c : Thread nD τ) arg7 fullShare wu ∗ owns (c : Thread nD τ) arg8 fullShare wd ∗ owns (c : Thread nD τ) arg9 fullShare y
        ∗ (iprop(owns (c : Thread nD τ) arg3 fullShare.right tv ∗ owns (c : Thread nD τ) arg5 fullShare x ∗ owns (c : Thread nD τ) arg6 fullShare wg ∗ owns (c : Thread nD τ) arg7 fullShare wu ∗ owns (c : Thread nD τ) arg8 fullShare wd ∗ (arg9.view.loc (c : Thread nD τ) ↦[arg9.view.set]{fullShare} out)) -∗ K ⟨⟩))
      ⊢ wp frame (wpE (defs₀ (F := F)) Variants.none c none) E (cc0_experts i arg2 harg2 arg3 harg3 arg4 harg4 arg5 harg5 arg6 harg6 arg7 harg7 arg8 harg8 arg9 harg9) K } := by
  refine ⟨?_, fun E K => ?run⟩
  case run =>
    simp only [cc0_experts_eq_skeleton]; unfold cc0_experts_skel
    simp only [k0_part1_eq_skeleton, k0_part2_eq_skeleton, k0_part3_eq_skeleton]
    simp only [owns_eq_rep]
    iintro ⟨H3, H5, H6, H7, H8, H9, Hk⟩
    sl_exec
    sl_step
    iapply Hk
    isplitl [H3]; · iexact H3
    isplitl [H5]; · iexact H5
    isplitl [H6]; · iexact H6
    isplitl [H7]; · iexact H7
    isplitl [H8]; · iexact H8
    iexact H9

/-- The part a half tile's rows get from a block of 512 columns of the hidden layer: its two chunks of 256. -/
def part (x : Vec F S512x1024 .f32) (wg wu : Vec F S1x1x1024x512 .f32) (wd : Vec F S1x1x512x1024 .f32) : FVec F S512x1024 .f32 :=
  addf
    (k0_pay14 x (VecWindow.window wg ![0, 0, 0, 0] S1x1x1024x256.size inb_S1x1x1024x512_S1x1x1024x256_0_0_0_0) (VecWindow.window wu ![0, 0, 0, 0] S1x1x1024x256.size inb_S1x1x1024x512_S1x1x1024x256_0_0_0_0) (VecWindow.window wd ![0, 0, 0, 0] S1x1x256x1024.size inb_S1x1x512x1024_S1x1x256x1024_0_0_0_0))
    (k0_pay14 x (VecWindow.window wg ![0, 0, 0, 256] S1x1x1024x256.size inb_S1x1x1024x512_S1x1x1024x256_0_0_0_256) (VecWindow.window wu ![0, 0, 0, 256] S1x1x1024x256.size inb_S1x1x1024x512_S1x1x1024x256_0_0_0_256) (VecWindow.window wd ![0, 0, 256, 0] S1x1x256x1024.size inb_S1x1x512x1024_S1x1x256x1024_0_0_256_0))

/-- The rows 0 to 511 of a tile. -/
abbrev lo (x : Vec F S1024x1024 .f32) : Vec F S512x1024 .f32 := VecWindow.window x ![0, 0] S512x1024.size inb_S1024x1024_S512x1024_0_0
/-- The rows 512 to 1023 of a tile. -/
abbrev hi (x : Vec F S1024x1024 .f32) : Vec F S512x1024 .f32 := VecWindow.window x ![512, 0] S512x1024.size inb_S1024x1024_S512x1024_512_0

/-- A tile with the part of its rows 0 to 511 added. -/
def addLo (x : Vec F S1024x1024 .f32) (wg wu : Vec F S1x1x1024x512 .f32) (wd : Vec F S1x1x512x1024 .f32) (y : Vec F S1024x1024 .f32) : Vec F S1024x1024 .f32 :=
  VecWindow.put y ![0, 0] S512x1024.size (addf (shapeCast S512x1024 (lo y) shapeCasts_S512x1024_S512x1024) (part (lo x) wg wu wd) : FVec F S512x1024 .f32)
/-- A tile with the parts of both its halves added. -/
def addBoth (x : Vec F S1024x1024 .f32) (wg wu : Vec F S1x1x1024x512 .f32) (wd : Vec F S1x1x512x1024 .f32) (y : Vec F S1024x1024 .f32) : Vec F S1024x1024 .f32 :=
  VecWindow.put (addLo x wg wu wd y) ![512, 0] S512x1024.size (addf (shapeCast S512x1024 (hi y) shapeCasts_S512x1024_S512x1024) (part (hi x) wg wu wd) : FVec F S512x1024 .f32)

/-- What the body leaves of a tile it finds at `y`, by the tile's word. -/
def step (i : grid0.Coords) (w : BitVec 32) (x : Vec F S1024x1024 .f32) (wg wu : Vec F S1x1x1024x512 .f32) (wd : Vec F S1x1x512x1024 .f32) (y : Vec F S1024x1024 .f32) : Vec F S1024x1024 .f32 :=
  have y0 := if k0_cond1 i = 1#1 then k0_pay1 else y
  have y1 := if k0_cond2 w = 1#1 then addLo x wg wu wd y0 else y0
  if k0_cond3 w = 1#1 then addBoth x wg wu wd y1 else y1

/-- What the run finds, read as a tile. -/
theorem run_read (c : Dev nD) (i : grid0.Coords) (arg2 : Memref sig .tc .smem S40 .i32) (harg2 : arg2.IsWhole) (arg3 : Memref sig .tc .smem S40 .i32) (harg3 : arg3.IsWhole) (arg4 : Memref sig .tc .smem S1 .i32) (harg4 : arg4.IsWhole) (arg5 : Memref sig .tc .vmem S1024x1024 .f32) (harg5 : arg5.IsWhole) (arg6 : Memref sig .tc .vmem S1x1x1024x512 .f32) (harg6 : arg6.IsWhole) (arg7 : Memref sig .tc .vmem S1x1x1024x512 .f32) (harg7 : arg7.IsWhole) (arg8 : Memref sig .tc .vmem S1x1x512x1024 .f32) (harg8 : arg8.IsWhole) (arg9 : Memref sig .tc .vmem S1024x1024 .f32) (harg9 : arg9.IsWhole)
    (tv : Vec F S40 .i32) (x : Vec F S1024x1024 .f32) (wg wu : Vec F S1x1x1024x512 .f32) (wd : Vec F S1x1x512x1024 .f32) (y : Vec F S1024x1024 .f32) :
    arg9.view.read (Elt F) (run c i arg2 harg2 arg3 harg3 arg4 harg4 arg5 harg5 arg6 harg6 arg7 harg7 arg8 harg8 arg9 harg9 tv x wg wu wd y).1
      = step i (word tv i) x wg wu wd y := by
  have hw : run.sl.r i arg3 tv = word tv i := by
    unfold run.sl.r
    rw [View.readAt_rep]
    refine congrArg tv (funext fun a => Fin.ext ?_)
    fin_cases a
    simp [LoadRect.idx, Rect.unit, Rect.toLoadRect, Shape.Idx.first]
  have hr : ∀ {sh : Shape} {e : EltTy} (v : View sig .tc .vmem sh e) (f : v.ty.Contents (Elt F)) {off size : Fin sh.rank → ℕ} (inb : ∀ a, off a + size a ≤ sh.size a),
      v.readAt (Elt F) (Rect.unit off size inb).toLoadRect f = VecWindow.window (v.read (Elt F) f) off size inb := fun v f _ _ inb => rfl
  have hb : arg9.view.read (Elt F) (if hc : k0_cond1 i = 1#1 then
        arg9.view.writes (Elt F) (arg9.view.rep y) [⟨Rect.unit ![0, 0] ![1024, 1024] inb_S1024x1024_S1024x1024_0_0, k0_pay1⟩]
      else arg9.view.rep y) = if k0_cond1 i = 1#1 then k0_pay1 else y := by
    by_cases h1 : k0_cond1 i = 1#1
    · rw [dif_pos h1, if_pos h1]; exact View.read_writes_full _ _ _ _ _
    · rw [dif_neg h1, if_neg h1]; exact View.read_rep _ _
  unfold run step
  dsimp only
  unfold run.sl.v79 run.sl.v83 run.sl.v56
  rw [hw, ← hb]
  generalize (if hc : k0_cond1 i = 1#1 then
        arg9.view.writes (Elt F) (arg9.view.rep y) [⟨Rect.unit ![0, 0] ![1024, 1024] inb_S1024x1024_S1024x1024_0_0, k0_pay1⟩]
      else arg9.view.rep y) = f1
  generalize hP : k0_pay2 (F := F) _ _ _ _ _ _ = P
  have hP' : P = (addf (shapeCast S512x1024 (lo (arg9.view.read (Elt F) f1)) shapeCasts_S512x1024_S512x1024) (part (lo x) wg wu wd) : FVec F S512x1024 .f32) := by
    rw [← hP]
    unfold run.sl.r_1 run.sl.r_2 run.sl.r_3 run.sl.r_4 run.sl.r_5
    simp only [hr, View.read_rep]
    rfl
  have hl : arg9.view.read (Elt F) (if hc : k0_cond2 (word tv i) = 1#1 then
            arg9.view.writes (Elt F) f1
              [⟨Rect.unit ![0, 0] ![512, 1024] inb_S1024x1024_S512x1024_0_0, P⟩]
          else f1) = if k0_cond2 (word tv i) = 1#1 then addLo x wg wu wd (arg9.view.read (Elt F) f1)
            else arg9.view.read (Elt F) f1 := by
    by_cases h2 : k0_cond2 (word tv i) = 1#1
    · rw [dif_pos h2, if_pos h2]
      refine (View.read_writes_cons_put _ _ _ _ _ rfl).trans ?_
      rw [View.writes_nil, hP']
      rfl
    · rw [dif_neg h2, if_neg h2]
  rw [← hl]
  generalize (if hc : k0_cond2 (word tv i) = 1#1 then
            arg9.view.writes (Elt F) f1
              [⟨Rect.unit ![0, 0] ![512, 1024] inb_S1024x1024_S512x1024_0_0, P⟩]
          else f1) = f2
  by_cases h3 : k0_cond3 (word tv i) = 1#1
  · rw [dif_pos h3, if_pos h3]
    refine (View.read_writes_cons_put _ _ _ _ _ rfl).trans ?_
    rw [View.read_writes_cons_put _ _ _ _ _ rfl, View.writes_nil]
    unfold run.sl.r_6 run.sl.r_8 run.sl.r_10 run.sl.r_7 run.sl.r_9
    simp only [hr, View.read_rep]
    rfl
  · rw [dif_neg h3, if_neg h3]

end Cert.Experts

end
-- ==== Proof.ExpHost.lean ====
/-
  What the host code hands the experts' kernel: the tile tables it computes from the counts of tokens, as terms of the counts.
-/
module

public import proofs.«01_k».proof.Proof.Gen.Kernel2Ideal.Launch
public import Idealize.ShloMosaic.Lib.Pipeline.FrameBody
public import Idealize.ShloMosaic.Lib.Tactic

@[expose] public section

set_option maxRecDepth 16384

noncomputable section

open Idealize.ShloMosaic Idealize.ShloMosaic.TcCoe Idealize.ShloMosaic.StableHlo
open Idealize.SL Idealize.SL.RA
open Cert.Kernel2Ideal Cert.Kernel2Ideal.Gen

namespace Cert.Experts

variable {F : FTy → Type} [FloatOps F]

/-- One word for all eight experts. -/
abbrev all8 (v : IVec S_ 32) : IVec S8 32 := broadcastInDim S8 ![] bcast_S_S8 v
/-- One word for all forty tiles. -/
abbrev all40 (v : IVec S_ 32) : IVec S40 32 := broadcastInDim S40 ![] bcast_S_S40 v

/-- The counts, raised so that the quotient by 1024 rounds up. -/
def raised (n : IVec S8 32) : IVec S8 32 := subi (addi n (all8 (constantI S_ 32 1024#32))) (all8 (constantI S_ 32 1#32))
/-- The number of tiles of each expert. -/
def tiles (v : IVec S8 32) : IVec S8 32 :=
  select (andi (cmpi .ne (signi v) (all8 (signi (constantI S_ 32 1024#32)))) (cmpi .ne (Host.remsi v (all8 (constantI S_ 32 1024#32))) (all8 (constantI S_ 32 0#32))))
    (subi (Host.divsi v (all8 (constantI S_ 32 1024#32))) (all8 (constantI S_ 32 1#32))) (Host.divsi v (all8 (constantI S_ 32 1024#32)))
/-- The number of tiles up to each expert's last. -/
def ends (q : IVec S8 32) : IVec S8 32 :=
  Host.reduceWindow IntOp.addi ![8] ![1] ![7] ![0] q (broadcastInDim S_ ![] bcast_S_S_ (constantI S_ 32 0#32)) reduceWindows_S8_S8_w8s1p7_0 h_S_
/-- The number of tiles in use. -/
def used (e : IVec S8 32) : IVec S_ 32 := shapeCast S_ (extractStridedSlice S1 ![7] e slices_S8_S1_7) shapeCasts_S1_S_
/-- Each tile's expert: how many experts end at or before it. -/
def expert (e : IVec S8 32) : IVec S40 32 :=
  Host.reduce IntOp.addi (extui 32 (cmpi .sge (broadcastInDim S40x8 ![0, 1] bcast_S40x1_S40x8_0_1 (broadcastInDim S40x1 ![0] bcast_S40_S40x1_0
      (minsi (iotaInDim S40 32 0) (all40 (subi (used e) (constantI S_ 32 1#32))))))
    (broadcastInDim S40x8 ![0, 1] bcast_S1x8_S40x8_0_1 (broadcastInDim S1x8 ![1] bcast_S8_S1x8_1 e))) natLt_1_32) (constantI S_ 32 0#32) reducesTo_S40x8_S40_d1 h_S_
/-- A tile's expert as the gathers take it. -/
def pick (t : IVec S40 32) : IVec S40x1 32 :=
  broadcastInDim S40x1 ![0] bcast_S40_S40x1_0 (select (cmpi .slt t (all40 (constantI S_ 32 0#32))) (addi t (all40 (constantI S_ 32 8#32))) t)
/-- The rows of each tile's expert from the tile's first row on. -/
def left (n e q : IVec S8 32) (t : IVec S40 32) : IVec S40 32 :=
  subi (Host.gather gather_S8_S40x1_S40_n_0_n_n_0_1_1 n (pick t))
    (muli (subi (iotaInDim S40 32 0) (Host.gather gather_S8_S40x1_S40_n_0_n_n_0_1_1 (subi e q) (pick t))) (all40 (constantI S_ 32 1024#32)))
/-- The rows in use of each tile. -/
def valid (u : IVec S_ 32) (l : IVec S40 32) : IVec S40 32 :=
  select (cmpi .slt (iotaInDim S40 32 0) (all40 u)) (minsi (all40 (constantI S_ 32 1024#32)) (maxsi (all40 (constantI S_ 32 0#32)) l)) (all40 (constantI S_ 32 0#32))

section Reads
variable (W : Valuation τ sig (Elt F))

theorem ops0_v3 : after hostOps0 W (Proc.devRef .tc main_v3) = raised (W (Proc.devRef .tc main_arg1)) := by
  after_results_simp
  all_goals rfl
theorem ops0_c1 : after hostOps0 W (Proc.devRef .tc main_c_1) = constantI S_ 32 1024#32 := by
  after_results_simp
  all_goals rfl
theorem ops1_v4 (h : W (Proc.devRef .tc main_c_1) = constantI S_ 32 1024#32) : after hostOps0_1 W (Proc.devRef .tc main_v4) = tiles (W (Proc.devRef .tc main_v3)) := by
  simp only [hostOps0_1, TRef.binary, TRef.nullary, TRef.ternary, TRef.unary, TRef.toBuf, TRef.ofBuf, cast_eq]
  after_results_simp
  rw [h]
  rfl
theorem ops2_v5 : after hostOps0_2 W (Proc.devRef .tc main_v5) = ends (W (Proc.devRef .tc main_v4)) := by
  simp only [hostOps0_2, TRef.binary, TRef.nullary, TRef.ternary, TRef.unary, TRef.toBuf, TRef.ofBuf, cast_eq]
  after_results_simp
  all_goals rfl
theorem ops3_v8 : after hostOps0_3 W (Proc.devRef .tc main_v8) = used (W (Proc.devRef .tc main_v5)) := by
  after_results_simp
  all_goals rfl
theorem ops3_v9 : after hostOps0_3 W (Proc.devRef .tc main_v9) = iotaInDim S40 32 0 := by
  after_results_simp
theorem ops3_v19 : after hostOps0_3 W (Proc.devRef .tc main_v19) = expert (W (Proc.devRef .tc main_v5)) := by
  after_results_simp
  all_goals rfl
theorem ops3_v37 : after hostOps0_3 W (Proc.devRef .tc main_v37) = left (W (Proc.devRef .tc main_arg1)) (W (Proc.devRef .tc main_v5)) (W (Proc.devRef .tc main_v4)) (expert (W (Proc.devRef .tc main_v5))) := by
  after_results_simp
  all_goals rfl
theorem ops3_c9 : after hostOps0_3 W (Proc.devRef .tc main_c_9) = constantI S_ 32 0#32 := by
  after_results_simp
theorem ops3_c10 : after hostOps0_3 W (Proc.devRef .tc main_c_10) = constantI S_ 32 1024#32 := by
  after_results_simp
theorem ops4_v38 (h9 : W (Proc.devRef .tc main_c_9) = constantI S_ 32 0#32) (h10 : W (Proc.devRef .tc main_c_10) = constantI S_ 32 1024#32) :
    after hostOps0_4 W (Proc.devRef .tc main_v38) = minsi (all40 (constantI S_ 32 1024#32)) (maxsi (all40 (constantI S_ 32 0#32)) (W (Proc.devRef .tc main_v37))) := by
  simp only [hostOps0_4, TRef.binary, TRef.nullary, TRef.ternary, TRef.unary, TRef.toBuf, TRef.ofBuf, cast_eq]
  after_results_simp
  rw [h9, h10]
  rfl
theorem ops5_v40 : after hostOps0_5 W (Proc.devRef .tc main_v40) = cmpi .slt (W (Proc.devRef .tc main_v9)) (all40 (W (Proc.devRef .tc main_v8))) := by
  after_results_simp
  all_goals rfl
theorem ops5_c11 : after hostOps0_5 W (Proc.devRef .tc main_c_11) = constantI S_ 32 0#32 := by
  after_results_simp
theorem ops6_v41 (h : W (Proc.devRef .tc main_c_11) = constantI S_ 32 0#32) :
    after hostOps0_6 W (Proc.devRef .tc main_v41) = select (W (Proc.devRef .tc main_v40)) (W (Proc.devRef .tc main_v38)) (all40 (constantI S_ 32 0#32)) := by
  simp only [hostOps0_6, TRef.binary, TRef.nullary, TRef.ternary, TRef.unary, TRef.toBuf, TRef.ofBuf, cast_eq]
  after_results_simp
  rw [h]
  rfl
theorem ops7_v42 : after hostOps0_7 W (Proc.devRef .tc main_v42) = shapeCast S1 (W (Proc.devRef .tc main_v8)) shapeCasts_S_S1 := by
  after_results_simp
  all_goals rfl
end Reads

/-- The buffers stretch 0 of the host code writes. -/
abbrev written0 : List (Ref sig .tc) := [main_c, main_v0, main_v1, main_c_0, main_v2, main_v3, main_c_1]
theorem ops0_keep (W : Valuation τ sig (Elt F)) (r : Ref sig .tc) (h : r ∉ written0) : after hostOps0 W (Proc.devRef .tc r) = W (Proc.devRef .tc r) :=
  after_of_writes_sub (W := written0) hostOps0 W (by
    simp only [hostOps0, List.Forall, nullary_writes, unary_writes, binary_writes, ternary_writes, reshape_writes, Finset.singleton_subset_iff, List.mem_toFinset]
    repeat' apply And.intro
    all_goals exact List.mem_map_of_mem (by decide)) h
/-- The buffers stretch 1 of the host code writes. -/
abbrev written1 : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v4]
theorem ops1_keep (W : Valuation τ sig (Elt F)) (r : Ref sig .tc) (h : r ∉ written1) : after hostOps0_1 W (Proc.devRef .tc r) = W (Proc.devRef .tc r) :=
  after_of_writes_sub (W := written1) hostOps0_1 W (by
    simp only [hostOps0_1, TRef.binary, TRef.nullary, TRef.ternary, TRef.unary, List.Forall, nullary_writes, unary_writes, binary_writes, ternary_writes, reshape_writes, Finset.singleton_subset_iff, List.mem_toFinset]
    repeat' apply And.intro
    all_goals exact List.mem_map_of_mem (by decide)) h
/-- The buffers stretch 2 of the host code writes. -/
abbrev written2 : List (Ref sig .tc) := [main_call1_call0_c, main_call1_call0_v0, main_v5]
theorem ops2_keep (W : Valuation τ sig (Elt F)) (r : Ref sig .tc) (h : r ∉ written2) : after hostOps0_2 W (Proc.devRef .tc r) = W (Proc.devRef .tc r) :=
  after_of_writes_sub (W := written2) hostOps0_2 W (by
    simp only [hostOps0_2, TRef.binary, TRef.nullary, TRef.ternary, TRef.unary, List.Forall, nullary_writes, unary_writes, binary_writes, ternary_writes, reshape_writes, Finset.singleton_subset_iff, List.mem_toFinset]
    repeat' apply And.intro
    all_goals exact List.mem_map_of_mem (by decide)) h
/-- The buffers stretch 3 of the host code writes. -/
abbrev written3 : List (Ref sig .tc) := [main_v6, main_v7, main_v8, main_v9, main_c_2, main_v10, main_v11, main_v12, main_v13, main_v14, main_v15, main_v16, main_v17, main_v18, main_c_3, main_v19, main_c_4, main_v20, main_v21, main_c_5, main_v22, main_v23, main_v24, main_v25, main_v26, main_c_6, main_v27, main_v28, main_c_7, main_v29, main_v30, main_v31, main_v32, main_v33, main_v34, main_c_8, main_v35, main_v36, main_v37, main_c_9, main_c_10]
theorem ops3_keep (W : Valuation τ sig (Elt F)) (r : Ref sig .tc) (h : r ∉ written3) : after hostOps0_3 W (Proc.devRef .tc r) = W (Proc.devRef .tc r) :=
  after_of_writes_sub (W := written3) hostOps0_3 W (by
    simp only [hostOps0_3, List.Forall, nullary_writes, unary_writes, binary_writes, ternary_writes, reshape_writes, Finset.singleton_subset_iff, List.mem_toFinset]
    repeat' apply And.intro
    all_goals exact List.mem_map_of_mem (by decide)) h
/-- The buffers stretch 4 of the host code writes. -/
abbrev written4 : List (Ref sig .tc) := [main_call2_v0, main_call2_v1, main_call2_v2, main_call2_v3, main_call2_v4, main_v38]
theorem ops4_keep (W : Valuation τ sig (Elt F)) (r : Ref sig .tc) (h : r ∉ written4) : after hostOps0_4 W (Proc.devRef .tc r) = W (Proc.devRef .tc r) :=
  after_of_writes_sub (W := written4) hostOps0_4 W (by
    simp only [hostOps0_4, TRef.binary, TRef.nullary, TRef.ternary, TRef.unary, List.Forall, nullary_writes, unary_writes, binary_writes, ternary_writes, reshape_writes, Finset.singleton_subset_iff, List.mem_toFinset]
    repeat' apply And.intro
    all_goals exact List.mem_map_of_mem (by decide)) h
/-- The buffers stretch 5 of the host code writes. -/
abbrev written5 : List (Ref sig .tc) := [main_v39, main_v40, main_c_11]
theorem ops5_keep (W : Valuation τ sig (Elt F)) (r : Ref sig .tc) (h : r ∉ written5) : after hostOps0_5 W (Proc.devRef .tc r) = W (Proc.devRef .tc r) :=
  after_of_writes_sub (W := written5) hostOps0_5 W (by
    simp only [hostOps0_5, List.Forall, nullary_writes, unary_writes, binary_writes, ternary_writes, reshape_writes, Finset.singleton_subset_iff, List.mem_toFinset]
    repeat' apply And.intro
    all_goals exact List.mem_map_of_mem (by decide)) h
/-- The buffers stretch 6 of the host code writes. -/
abbrev written6 : List (Ref sig .tc) := [main_call3_v0, main_call3_v1, main_v41]
theorem ops6_keep (W : Valuation τ sig (Elt F)) (r : Ref sig .tc) (h : r ∉ written6) : after hostOps0_6 W (Proc.devRef .tc r) = W (Proc.devRef .tc r) :=
  after_of_writes_sub (W := written6) hostOps0_6 W (by
    simp only [hostOps0_6, TRef.binary, TRef.nullary, TRef.ternary, TRef.unary, List.Forall, nullary_writes, unary_writes, binary_writes, ternary_writes, reshape_writes, Finset.singleton_subset_iff, List.mem_toFinset]
    repeat' apply And.intro
    all_goals exact List.mem_map_of_mem (by decide)) h
/-- The buffers stretch 7 of the host code writes. -/
abbrev written7 : List (Ref sig .tc) := [main_v42]
theorem ops7_keep (W : Valuation τ sig (Elt F)) (r : Ref sig .tc) (h : r ∉ written7) : after hostOps0_7 W (Proc.devRef .tc r) = W (Proc.devRef .tc r) :=
  after_of_writes_sub (W := written7) hostOps0_7 W (by
    simp only [hostOps0_7, List.Forall, nullary_writes, unary_writes, binary_writes, ternary_writes, reshape_writes, Finset.singleton_subset_iff, List.mem_toFinset]
    repeat' apply And.intro
    all_goals exact List.mem_map_of_mem (by decide)) h

variable (m : (ℓ : Loc nD τ sig) → Buf (Elt F) ℓ) (c : Dev nD)

/-- The stretches of the host code before the kernel. -/
abbrev prefixOps : List (List (HloOp τ sig (Elt F))) := [hostOps0, hostOps0_1, hostOps0_2, hostOps0_3, hostOps0_4, hostOps0_5, hostOps0_6, hostOps0_7]
/-- The buffers when the kernel is entered. -/
def V (c : Dev nD) (b : Ref sig .tc) : Buf (Elt F) ((c : Thread nD τ).loc b) := after (prefixOps (F := F)).flatten (fun b => m (c, b)) b

theorem V_eq (b : Ref sig .tc) : V m c b = after hostOps0_7 (after hostOps0_6 (after hostOps0_5 (after hostOps0_4 (after hostOps0_3 (after hostOps0_2 (after hostOps0_1 (after hostOps0 (fun b => m (c, b))))))))) (Proc.devRef .tc b) := by
  unfold V
  simp only [prefixOps, List.flatten_cons, List.flatten_nil, List.append_nil, after_append]

theorem V_keep (r : Ref sig .tc) (h0 : r ∉ written0) (h1 : r ∉ written1) (h2 : r ∉ written2) (h3 : r ∉ written3) (h4 : r ∉ written4) (h5 : r ∉ written5) (h6 : r ∉ written6) (h7 : r ∉ written7) :
    V m c r = m ((c : Thread nD τ).loc r) := by
  rw [V_eq, ops7_keep _ r h7, ops6_keep _ r h6, ops5_keep _ r h5, ops4_keep _ r h4, ops3_keep _ r h3, ops2_keep _ r h2, ops1_keep _ r h1, ops0_keep _ r h0]
theorem V_arg0 : V m c main_arg0 = m ((c : Thread nD τ).loc main_arg0) := V_keep m c _ (by decide) (by decide) (by decide) (by decide) (by decide) (by decide) (by decide) (by decide)
theorem V_arg1 : V m c main_arg1 = m ((c : Thread nD τ).loc main_arg1) := V_keep m c _ (by decide) (by decide) (by decide) (by decide) (by decide) (by decide) (by decide) (by decide)
theorem V_arg2 : V m c main_arg2 = m ((c : Thread nD τ).loc main_arg2) := V_keep m c _ (by decide) (by decide) (by decide) (by decide) (by decide) (by decide) (by decide) (by decide)
theorem V_arg3 : V m c main_arg3 = m ((c : Thread nD τ).loc main_arg3) := V_keep m c _ (by decide) (by decide) (by decide) (by decide) (by decide) (by decide) (by decide) (by decide)
theorem V_arg4 : V m c main_arg4 = m ((c : Thread nD τ).loc main_arg4) := V_keep m c _ (by decide) (by decide) (by decide) (by decide) (by decide) (by decide) (by decide) (by decide)

/-- The counts of tokens as launched. -/
abbrev counts : IVec S8 32 := m ((c : Thread nD τ).loc main_arg1)
/-- Each expert's tiles. -/
abbrev tilesOf (n : IVec S8 32) : IVec S8 32 := tiles (raised n)
/-- The first table: each tile's expert. -/
abbrev expertOf (n : IVec S8 32) : IVec S40 32 := expert (ends (tilesOf n))
/-- The third: the tiles in use. -/
abbrev usedOf (n : IVec S8 32) : IVec S_ 32 := used (ends (tilesOf n))
/-- The second: each tile's rows in use. -/
abbrev validOf (n : IVec S8 32) : IVec S40 32 := valid (usedOf n) (left n (ends (tilesOf n)) (tilesOf n) (expertOf n))

theorem V_v19 : V m c main_v19 = expertOf (counts m c) := by
  rw [V_eq, ops7_keep _ _ (by decide), ops6_keep _ _ (by decide), ops5_keep _ _ (by decide), ops4_keep _ _ (by decide), ops3_v19, ops2_v5, ops1_v4 _ (ops0_c1 _), ops0_v3]
theorem V_v42 : V m c main_v42 = (shapeCast S1 (usedOf (counts m c)) shapeCasts_S_S1 : IVec S1 32) := by
  rw [V_eq, ops7_v42, ops6_keep _ _ (by decide), ops5_keep _ _ (by decide), ops4_keep _ _ (by decide), ops3_v8, ops2_v5, ops1_v4 _ (ops0_c1 _), ops0_v3]
theorem V_v41 : V m c main_v41 = validOf (counts m c) := by
  rw [V_eq, ops7_keep _ _ (by decide), ops6_v41 _ (ops5_c11 _), ops5_v40, ops5_keep _ main_v38 (by decide), ops4_v38 _ (ops3_c9 _) (ops3_c10 _), ops4_keep _ main_v9 (by decide), ops4_keep _ main_v8 (by decide),
    ops3_v9, ops3_v8, ops3_v37, ops2_v5, ops2_keep _ main_v4 (by decide), ops2_keep _ main_arg1 (by decide), ops1_v4 _ (ops0_c1 _), ops1_keep _ main_arg1 (by decide), ops0_v3, ops0_keep _ main_arg1 (by decide)]
  rfl

end Cert.Experts

end
-- ==== Proof.ExpTab.lean ====
/-
  The tile tables for any counts: a tile's expert is one of the eight, so that every block the tables name lies inside its array.
-/
module

public import proofs.«01_k».proof.Proof.ExpHost
public import Idealize.ShloMosaic.Lib.Pointwise
public import Idealize.ShloMosaic.Lib.WordCmp
public import Idealize.ShloMosaic.Lib.Routing.OpsOne
public import Idealize.ShloMosaic.Lib.Routing.OpsSearch
public import Idealize.ShloMosaic.Lib.Routing.Words

@[expose] public section

set_option maxRecDepth 16384

noncomputable section

open Idealize.ShloMosaic Idealize.ShloMosaic.TcCoe Idealize.ShloMosaic.Pointwise
open Cert.Kernel2Ideal Cert.Kernel2Ideal.Gen

namespace Cert.Experts

/-- A word within `B` of zero, signed. -/
def Near (B : ℤ) (w : BitVec 32) : Prop := ∃ k : ℤ, -B ≤ k ∧ k ≤ B ∧ w = BitVec.ofInt 32 k

theorem near_add {B C : ℤ} {v w : BitVec 32} (hv : Near B v) (hw : Near C w) : Near (B + C) (v + w) := by
  obtain ⟨k, h1, h2, rfl⟩ := hv
  obtain ⟨l, h3, h4, rfl⟩ := hw
  exact ⟨k + l, by omega, by omega, (BitVec.ofInt_add ..).symm⟩

theorem near_toInt {B : ℤ} {w : BitVec 32} (hB : B < 2 ^ 31) (hw : Near B w) : -B ≤ w.toInt ∧ w.toInt ≤ B := by
  obtain ⟨k, h1, h2, rfl⟩ := hw
  rw [BitVec.toInt_ofInt, Int.bmod_def]
  omega

/-- The counts of tiles are small, whatever the counts of tokens. -/
theorem tiles_near (v : IVec S8 32) (j : Fin 8) : Near (2 ^ 22) (tiles v (ix1 j)) := by
  have hd : Near (2 ^ 21) (Host.divsi v (all8 (constantI S_ 32 1024#32)) (ix1 j)) := by
    have e : all8 (constantI S_ 32 1024#32) (ix1 j) = 1024#32 := by pointwise
    rw [Host.divsi_apply, e]
    generalize v (ix1 j) = x
    have hc : ¬ IntOp.SDivCorner x 1024#32 := by
      rintro (h | ⟨_, h⟩)
      · exact absurd h (by decide)
      · exact absurd h (by decide)
    have : IntOp.divsi ArithUnit.host x 1024#32 = x.sdiv 1024#32 := by
      unfold IntOp.divsi
      rw [if_neg hc]
    rw [this]
    refine ⟨(x.sdiv 1024#32).toInt, ?_, ?_, (BitVec.ofInt_toInt).symm⟩
    all_goals
      rw [BitVec.toInt_sdiv]
      have h1 := BitVec.toInt_lt (x := x)
      have h2 := BitVec.le_toInt (x := x)
      have e2 : (1024#32 : BitVec 32).toInt = 1024 := by decide
      rw [e2, Int.bmod_def]
      norm_num at h1 h2 ⊢
      rcases le_or_gt 0 x.toInt with h0 | h0
      · rw [Int.tdiv_eq_ediv_of_nonneg h0]; omega
      · have e3 : x.toInt.tdiv 1024 = - ((-x.toInt) / 1024) := by
          rw [← Int.tdiv_eq_ediv_of_nonneg (by omega), Int.neg_tdiv, neg_neg]
        rw [e3]; omega
  have e : tiles v (ix1 j) = Scalar.select (andi (cmpi .ne (signi v) (all8 (signi (constantI S_ 32 1024#32)))) (cmpi .ne (Host.remsi v (all8 (constantI S_ 32 1024#32))) (all8 (constantI S_ 32 0#32))) (ix1 j))
      (Host.divsi v (all8 (constantI S_ 32 1024#32)) (ix1 j) + BitVec.ofInt 32 (-1)) (Host.divsi v (all8 (constantI S_ 32 1024#32)) (ix1 j)) := by
    have h1 : Host.divsi v (all8 (constantI S_ 32 1024#32)) (ix1 j) + BitVec.ofInt 32 (-1) =
        subi (Host.divsi v (all8 (constantI S_ 32 1024#32))) (all8 (constantI S_ 32 1#32)) (ix1 j) := by
      have h2 : all8 (constantI S_ 32 1#32) (ix1 j) = 1#32 := by pointwise
      refine Eq.trans ?_ (congrArg (fun b => IntOp.subi (Host.divsi v (all8 (constantI S_ 32 1024#32)) (ix1 j)) b) h2.symm)
      unfold IntOp.subi
      rw [show BitVec.ofInt 32 (-1) = - 1#32 by decide, ← BitVec.sub_eq_add_neg]
    rw [h1]
    rfl
  rw [e]
  obtain ⟨k, h1, h2, h3⟩ := hd
  unfold Scalar.select
  split
  · rw [h3]; exact ⟨k + -1, by omega, by omega, (BitVec.ofInt_add ..).symm⟩
  · rw [h3]; exact ⟨k, by omega, by omega, rfl⟩

theorem ends_sum (q : IVec S8 32) (j : Fin 8) : ends q (ix1 j) = ∑ i : Fin 8, if i ≤ j then q (ix1 i) else 0 :=
  Routing.cumsum_vec (N := 8) (Nm1 := 7) rfl q (broadcastInDim S_ ![] bcast_S_S_ (constantI S_ 32 0#32)) (by pointwise) reduceWindows_S8_S8_w8s1p7_0 h_S_ j

theorem ends_near (v : IVec S8 32) (j : Fin 8) : Near (2 ^ 25) (ends (tiles v) (ix1 j)) := by
  rw [ends_sum]
  have h : ∀ i : Fin 8, Near (2 ^ 22) (if i ≤ j then tiles v (ix1 i) else 0) := fun i => by
    split
    · exact tiles_near v i
    · exact ⟨0, by norm_num, by norm_num, rfl⟩
  rw [Fin.sum_univ_eight]
  have := near_add (near_add (near_add (near_add (near_add (near_add (near_add (h 0) (h 1)) (h 2)) (h 3)) (h 4)) (h 5)) (h 6)) (h 7)
  norm_num at this ⊢
  exact this

/-- A tile's place among the tiles in use. -/
def place (e : IVec S8 32) (t : Fin 40) : BitVec 32 := IntOp.minsi (BitVec.ofNat 32 t.val) (e (ix1 7) - 1#32)

theorem place_eq (e : IVec S8 32) (t : Fin 40) : minsi (iotaInDim S40 32 0) (all40 (subi (used e) (constantI S_ 32 1#32))) (ix1 t) = place e t := by
  pointwise [used, place]
  rfl

/-- A tile's expert counts the experts whose tiles end at or before the tile's place. -/
theorem expert_count (e : IVec S8 32) (t : Fin 40) (Q : Nat → Prop) [DecidablePred Q] (hQ : ∀ q : Fin 8, (e (ix1 q)).sle (place e t) = true ↔ Q q.val) :
    expert e (ix1 t) = BitVec.ofNat 32 (Nat.count Q 8) :=
  Routing.reduce_count (n := 40) (m := 8) (by norm_num) _ natLt_1_32 reducesTo_S40x8_S40_d1 h_S_ t Q fun q => by
    rw [← hQ q, ← place_eq]
    have : ∀ a b : BitVec 32, IntOp.cmpi .sge a b = 1#1 ↔ b.sle a = true := fun a b => by
      unfold IntOp.cmpi
      cases h : b.sle a <;> simp [h]
    refine Iff.trans (Eq.to_iff (congrArg (· = 1#1) ?_)) (this _ _)
    pointwise

/-- A tile's expert is one of the eight. -/
theorem expert_le (v : IVec S8 32) (t : Fin 40) : (expert (ends (tiles v)) (ix1 t)).toNat ≤ 7 := by
  have h7 := near_toInt (by norm_num) (ends_near v 7)
  generalize ends (tiles v) = e at *
  let Q : Nat → Prop := fun q => if h : q < 8 then (e (ix1 ⟨q, h⟩)).sle (place e t) = true else False
  have hQ : DecidablePred Q := fun q => by unfold Q; infer_instance
  rw [expert_count e t Q fun q => by unfold Q; rw [dif_pos q.isLt]]
  have hc : Nat.count Q 8 ≤ 7 := by
    have h7' : ¬ Q 7 := by
      unfold Q
      rw [dif_pos (by norm_num), BitVec.sle_iff_toInt_le]
      have e1 : (e (ix1 7) - 1#32).toInt = (e (ix1 7)).toInt - 1 := by
        rw [BitVec.toInt_sub, Int.bmod_def]
        have : (1#32 : BitVec 32).toInt = 1 := by decide
        rw [this]
        norm_num at h7 ⊢
        omega
      have e2 : (place e t).toInt ≤ (e (ix1 7) - 1#32).toInt := by
        unfold place IntOp.minsi
        split
        · next h => exact le_of_lt (BitVec.slt_iff_toInt_lt.mp h)
        · exact le_refl _
      have e3 : e (ix1 ⟨7, by norm_num⟩) = e (ix1 7) := rfl
      rw [e3]
      omega
    rw [Nat.count_succ, if_neg h7']
    exact Nat.count_le Q
  rw [BitVec.toNat_ofNat]
  omega

end Cert.Experts

end
-- ==== Proof.ExpOk.lean ====
/-
  Where the experts' kernel reads its blocks: the index maps as words, inside the arrays for every table whose experts are at most seven.
-/
module

public import proofs.«01_k».proof.Proof.ExpTab

@[expose] public section

set_option maxRecDepth 16384

noncomputable section

open Idealize.ShloMosaic Idealize.ShloMosaic.TcCoe Idealize.ShloMosaic.StableHlo
open Idealize.SL Idealize.SL.RA
open Cert.Kernel2Ideal Cert.Kernel2Ideal.Gen

namespace Cert.Experts

variable {F : FTy → Type} [FloatOps F]

/-- A tile's number held at the last tile in use. -/
def held (u t : BitVec 32) : BitVec 32 := Scalar.minsi t (Scalar.maxsi (Scalar.subi u 1#32) 0#32)

/-- A column block's number, back and forth by the parity of the tile. -/
def turn (k j : BitVec 32) : BitVec 32 :=
  Scalar.addi j (Scalar.muli (Scalar.select
    (Scalar.andi (Scalar.xori (Scalar.cmpi .slt (Scalar.remsi k (Scalar.select (Scalar.cmpi .eq 2#32 0#32) 1#32 2#32)) 0#32) (Scalar.cmpi .slt (Scalar.select (Scalar.cmpi .eq 2#32 0#32) 1#32 2#32) 0#32))
      (Scalar.cmpi .ne (Scalar.remsi k (Scalar.select (Scalar.cmpi .eq 2#32 0#32) 1#32 2#32)) 0#32))
    (Scalar.addi (Scalar.remsi k (Scalar.select (Scalar.cmpi .eq 2#32 0#32) 1#32 2#32)) (Scalar.select (Scalar.cmpi .eq 2#32 0#32) 1#32 2#32)) (Scalar.remsi k (Scalar.select (Scalar.cmpi .eq 2#32 0#32) 1#32 2#32)))
    (Scalar.subi 6#32 (Scalar.muli 2#32 j)))

/-- The column block a point reads. -/
def block (u t j : BitVec 32) : BitVec 32 := turn (held u t) (Scalar.select (Scalar.cmpi .slt t u) j 6#32)

theorem held_le (u : BitVec 32) (t : Fin 40) : ∃ k : Fin 40, k.val ≤ t.val ∧ held u (BitVec.ofNat 32 t.val) = BitVec.ofNat 32 k.val := by
  have ht := t.isLt
  have hm : 0 ≤ (Scalar.maxsi (Scalar.subi u 1#32) 0#32 : BitVec 32).toInt := by
    show 0 ≤ (IntOp.maxsi (Scalar.subi u 1#32) 0#32 : BitVec 32).toInt
    unfold IntOp.maxsi
    split
    · next h => exact le_of_lt (BitVec.slt_iff_toInt_lt.mp h)
    · exact le_of_eq (by decide)
  unfold held
  generalize (Scalar.maxsi (Scalar.subi u 1#32) 0#32 : BitVec 32) = b at hm
  show ∃ k : Fin 40, k.val ≤ t.val ∧ IntOp.minsi (BitVec.ofNat 32 t.val) b = BitVec.ofNat 32 k.val
  unfold IntOp.minsi
  split
  · exact ⟨t, le_refl _, rfl⟩
  · next h =>
    have h' : b.toInt ≤ (BitVec.ofNat 32 t.val).toInt := not_lt.mp fun h' => h (BitVec.slt_iff_toInt_lt.mpr h')
    have e : (BitVec.ofNat 32 t.val).toInt = t.val := by
      rw [BitVec.toInt_eq_toNat_cond, BitVec.toNat_ofNat]; split <;> omega
    have e2 := BitVec.toInt_eq_toNat_cond b
    have hb := b.isLt
    have h3 : b.toNat ≤ t.val := by
      rw [e] at h'
      split at e2 <;> omega
    exact ⟨⟨b.toNat, by omega⟩, h3, BitVec.eq_of_toNat_eq (by rw [BitVec.toNat_ofNat]; exact (Nat.mod_eq_of_lt hb).symm)⟩

theorem turn_eq : ∀ k : Fin 40, ∀ j : Fin 7, turn (BitVec.ofNat 32 k.val) (BitVec.ofNat 32 j.val) = BitVec.ofNat 32 (if k.val % 2 = 0 then j.val else 6 - j.val) := by
  decide +kernel

theorem block_le (u : BitVec 32) (t : Fin 40) (j : Fin 7) : (block u (BitVec.ofNat 32 t.val) (BitVec.ofNat 32 j.val)).toNat ≤ 6 := by
  obtain ⟨k, _, hk⟩ := held_le u t
  have hj : ∃ j' : Fin 7, (Scalar.select (Scalar.cmpi .slt (BitVec.ofNat 32 t.val) u) (BitVec.ofNat 32 j.val) 6#32 : BitVec 32) = BitVec.ofNat 32 j'.val := by
    unfold Scalar.select
    split
    · exact ⟨j, rfl⟩
    · exact ⟨6, rfl⟩
  obtain ⟨j', hj'⟩ := hj
  unfold block
  rw [hk, hj', turn_eq, BitVec.toNat_ofNat]
  have := j'.isLt
  split <;> omega

/-- The word of the table of experts at a tile. -/
abbrev expertAt (pf : pre0.Contents (Elt F)) (t : Fin 40) : BitVec 32 := pf 0 (ix1 t)
/-- The word of the number of tiles in use. -/
abbrev usedAt (pf : pre0.Contents (Elt F)) : BitVec 32 := pf 2 (ix1 (0 : Fin 1))

theorem at_expert (pf : pre0.Contents (Elt F)) (i : grid0.Coords) :
    pf.at 0 (Rect.unit (s := S40) ![(Scalar.indexCast (BitVec.ofNat 32 (i 0).val) : Index).toNat] S1.size (k0_off1_inb i)) numel1_S1 = expertAt pf (i 0) := by
  refine congrArg (pf 0) (funext fun a => Fin.ext ?_)
  fin_cases a
  have h : (i 0).val < 40 := (i 0).isLt
  simp [Rect.emb, LoadRect.idx, Rect.unit, Rect.toLoadRect, Shape.Idx.first, Scalar.indexCast]
  show (i 0).val % 4294967296 = _
  omega

theorem at_used (pf : pre0.Contents (Elt F)) : pf.at 2 (Rect.unit (s := S1) ![0] S1.size inb_S1_S1_0) numel1_S1 = usedAt pf := by
  refine congrArg (pf 2) (funext fun a => Fin.ext ?_)
  fin_cases a
  simp [Rect.emb, LoadRect.idx, Rect.unit, Rect.toLoadRect, Shape.Idx.first]
  rfl

theorem map0 (pf : pre0.Contents (Elt F)) (i : grid0.Coords) : cc0_transform_0 inb_S1_S1_0 numel1_S1 pf i = ![(held (usedAt pf) (BitVec.ofNat 32 (i 0).val)).toNat, 0] := by
  rw [← at_used]; rfl
theorem map1 (pf : pre0.Contents (Elt F)) (i : grid0.Coords) : cc0_transform_1 k0_off1_inb numel1_S1 inb_S1_S1_0 pf i = ![0, (expertAt pf (i 0)).toNat, 0, (block (usedAt pf) (BitVec.ofNat 32 (i 0).val) (BitVec.ofNat 32 (i 1).val)).toNat] := by
  rw [← at_used, ← at_expert]; rfl
theorem map2 (pf : pre0.Contents (Elt F)) (i : grid0.Coords) : cc0_transform_2 k0_off1_inb numel1_S1 inb_S1_S1_0 pf i = ![0, (expertAt pf (i 0)).toNat, 0, (block (usedAt pf) (BitVec.ofNat 32 (i 0).val) (BitVec.ofNat 32 (i 1).val)).toNat] := by
  rw [← at_used, ← at_expert]; rfl
theorem map3 (pf : pre0.Contents (Elt F)) (i : grid0.Coords) : cc0_transform_3 k0_off1_inb numel1_S1 inb_S1_S1_0 pf i = ![0, (expertAt pf (i 0)).toNat, (block (usedAt pf) (BitVec.ofNat 32 (i 0).val) (BitVec.ofNat 32 (i 1).val)).toNat, 0] := by
  rw [← at_used, ← at_expert]; rfl

/-- Every block is inside its array. -/
theorem ok_of (pf : pre0.Contents (Elt F)) (h : ∀ t : Fin 40, (expertAt pf t).toNat ≤ 7) : ok0 pf := by
  refine ⟨fun i => ⟨?_, .inl rfl⟩, fun i => ⟨?_, .inl rfl⟩, fun i => ⟨?_, .inl rfl⟩, fun i => ⟨?_, .inl rfl⟩⟩
  · obtain ⟨k, hk, e⟩ := held_le (usedAt pf) (i 0)
    have hk' := k.isLt
    intro a
    rw [map0, e, BitVec.toNat_ofNat]
    fin_cases a <;> simp <;> omega
  all_goals
    have h1 := h (i 0)
    have h2 := block_le (usedAt pf) (i 0) (i 1)
    intro a
  · rw [map1]
    fin_cases a <;> simp <;> omega
  · rw [map2]
    fin_cases a <;> simp <;> omega
  · rw [map3]
    fin_cases a <;> simp <;> omega

end Cert.Experts

end
-- ==== Proof.ExpFrame.lean ====
/-
  The experts' launch: what every tile holds after every grid point, and the run from any memory.
-/
module

public import proofs.«01_k».proof.Proof.ExpBody
public import proofs.«01_k».proof.Proof.ExpOk

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ)

/-! ## The tables -/

/-- The tables when the kernel is entered. -/
def tables : pre0.Contents (Elt F) := fun k => V m 0 (pre0.ref k)

theorem tables_ok : (pcfg0 (F := F)).ok (tables m) := by
  refine ok_of _ fun t => ?_
  have e : expertAt (tables m) t = expertOf (counts m 0) (ix1 t) := congrFun (V_v19 m 0) (ix1 t)
  rw [e]
  exact expert_le _ t

/-- The tables, every block they name inside its array. -/
def adm (_ : Fin 1) : (pcfg0 (F := F)).Adm := ⟨tables m, tables_ok m⟩

theorem adm_val : (adm m 0).1 = tables m := rfl

/-- The launch at its tables. -/
abbrev cfgT : Pipeline.Cfg sig Λ₀ := cfg0 (adm m 0)

theorem coords_val : ∀ t : Fin grid0.N, (grid0.coords t 0).val = t.val / 7 ∧ (grid0.coords t 1).val = t.val % 7 := by
  decide +kernel

/-- The word of the rows in use at a grid point. -/
abbrev rows (t : Fin grid0.N) : BitVec 32 := word (F := F) (tables m 1) (grid0.coords t)

/-! ## What the staging buffers hold -/

/-- A window's block at a point, read off its array as the launch finds it. -/
def iblk (c : Dev nD) (w : Fin (cfgT m).W) (t : Fin (cfgT m).N) : (((cfgT m).win w).xblock ((cfgT m).grid.coords t)).Idx → Elt F ((cfgT m).win w).elt :=
  (((cfgT m).win w).blk t).view.read (Elt F) (V m c (Pipeline.arrRef spec0 w))

abbrev xAt (c : Dev nD) (t : Fin grid0.N) : Vec F S1024x1024 .f32 := iblk m c 0 t
abbrev wgAt (c : Dev nD) (t : Fin grid0.N) : Vec F S1x1x1024x512 .f32 := iblk m c 1 t
abbrev wuAt (c : Dev nD) (t : Fin grid0.N) : Vec F S1x1x1024x512 .f32 := iblk m c 2 t
abbrev wdAt (c : Dev nD) (t : Fin grid0.N) : Vec F S1x1x512x1024 .f32 := iblk m c 3 t

/-- What a point makes of the tile. -/
def stepAt (c : Dev nD) (t : Fin grid0.N) (y : Vec F S1024x1024 .f32) : Vec F S1024x1024 .f32 :=
  step (grid0.coords t) (rows m t) (xAt m c t) (wgAt m c t) (wuAt m c t) (wdAt m c t) y

/-- The tile after each point. -/
def outsAt (c : Dev nD) : (n : ℕ) → n < grid0.N → Vec F S1024x1024 .f32
  | 0, h => stepAt m c ⟨0, h⟩ k0_pay1
  | n + 1, h => stepAt m c ⟨n + 1, h⟩ (outsAt c n (Nat.lt_of_succ_lt h))

theorem outsAt_pos (c : Dev nD) (t : Fin grid0.N) (h : t.val ≠ 0) (h' : t.val - 1 < grid0.N) : outsAt m c t.val t.isLt = stepAt m c t (outsAt m c (t.val - 1) h') := by
  obtain ⟨n, hn⟩ := t
  cases n with
  | zero => exact absurd rfl h
  | succ n => rfl

/-- The first point of a tile does not look at what the buffer held. -/
theorem step_first (c : Dev nD) (t : Fin grid0.N) (h : t.val % 7 = 0) (y y' : Vec F S1024x1024 .f32) : stepAt m c t y = stepAt m c t y' := by
  have h1 : k0_cond1 (grid0.coords t) = 1#1 := by
    have : (grid0.coords t 1).val = 0 := (coords_val t).2.trans h
    unfold k0_cond1
    rw [this]
    rfl
  unfold stepAt step
  simp only [h1, if_true]

/-- When a point is idle. -/
theorem idle_at (a : (pcfg0 (F := F)).Adm) (i : grid0.Coords) : (cfg0 a).idle 4 i = (!(k0_cond1 i == 1#1) && !(k0_cond2 (a.1.atD 1 (k0_off1 i)) == 1#1) && !(k0_cond3 (a.1.atD 1 (k0_off1 i)) == 1#1)) := rfl

theorem atD_word (pf : pre0.Contents (Elt F)) (i : grid0.Coords) : pf.atD 1 (k0_off1 i) = word (F := F) (pf 1) i := by
  unfold Pipeline.Prefetch.Contents.atD
  rw [dif_pos (fun a => by have h := k0_off1_inb i a; fin_cases a; exact h)]
  rfl

/-- A point that is idle leaves the tile. -/
theorem step_idle (c : Dev nD) (t : Fin grid0.N) (h : (cfgT m).idle 4 ((cfgT m).grid.coords t) = true) (y : Vec F S1024x1024 .f32) : stepAt m c t y = y ∧ t.val % 7 ≠ 0 := by
  have h' := (idle_at (adm m 0) (grid0.coords t)).symm.trans h
  rw [atD_word, congrArg (fun pf : pre0.Contents (Elt F) => word (F := F) (pf 1) (grid0.coords t)) (adm_val m)] at h'
  simp only [Bool.and_eq_true, Bool.not_eq_true', beq_eq_false_iff_ne] at h'
  obtain ⟨⟨h1, h2⟩, h3⟩ := h'
  refine ⟨?_, fun h0 => h1 ?_⟩
  · unfold stepAt step
    simp only [if_neg h1, if_neg h2, if_neg h3]
  · have : (grid0.coords t 1).val = 0 := (coords_val t).2.trans h0
    unfold k0_cond1
    rw [this]
    rfl

/-! ## The proof data -/

/-- The launch's proof data. -/
def dats (_ : Fin 1) (c : Dev nD) : Dat τ (Elt F) Unit ℕ (UR sig nD τ) ℕ (cfgT m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t.val t.isLt
  Φ _ := iprop(Pipeline.ΦA spec0 c ∗ Pipeline.ΦT pre0 (tables m) c)
  q w := Pipeline.shareOf spec0 w
  owed _ := 0

theorem A_eq (c : Dev nD) (w : Fin (cfgT m).W) : (dats m 0 c).A w = V m c (Pipeline.arrRef spec0 w) := by
  dsimp only [dats]

theorem after_0 (c : Dev nD) (t : Fin (cfgT m).N) : (dats m 0 c).after 0 t = iblk m c 0 t := by dsimp only [dats]; rfl
theorem after_1 (c : Dev nD) (t : Fin (cfgT m).N) : (dats m 0 c).after 1 t = iblk m c 1 t := by dsimp only [dats]; rfl
theorem after_2 (c : Dev nD) (t : Fin (cfgT m).N) : (dats m 0 c).after 2 t = iblk m c 2 t := by dsimp only [dats]; rfl
theorem after_3 (c : Dev nD) (t : Fin (cfgT m).N) : (dats m 0 c).after 3 t = iblk m c 3 t := by dsimp only [dats]; rfl
theorem after_4 (c : Dev nD) (t : Fin (cfgT m).N) : (dats m 0 c).after 4 t = outsAt m c t.val t.isLt := by dsimp only [dats]; rfl

theorem before_0 (c : Dev nD) (t : Fin (cfgT m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgT m).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgT m).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgT m).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- The output's block moves on only after a tile's last point. -/
theorem flush_out (t : Fin (cfgT m).N) (h : t.val % 7 ≠ 6) : ((cfgT m).win 4).flush t = false := by
  have ht : t.val < 280 := lt_of_lt_of_eq t.isLt N_0
  unfold Pipeline.Window.flush
  rw [Bool.and_eq_false_iff]
  refine .inr ?_
  rw [Bool.or_eq_false_iff]
  refine ⟨decide_eq_false ?_, decide_eq_false ?_⟩
  · intro e
    have : t.val + 1 = 280 := e.trans N_0
    omega
  · rintro ⟨h1, h2⟩
    refine h2 ?_
    show cc0_transform_4 (grid0.coords ⟨t.val + 1, h1⟩) = cc0_transform_4 (grid0.coords t)
    have e : (grid0.coords ⟨t.val + 1, h1⟩ 0).val = (grid0.coords t 0).val := by
      rw [(coords_val _).1, (coords_val _).1]
      show (t.val + 1) / 7 = t.val / 7
      omega
    unfold cc0_transform_4
    rw [e]

/-- The output's buffer is fresh only at a tile's first point. -/
theorem fresh_out : ∀ n : ℕ, n < (cfgT m).N → n % 7 ≠ 0 → (cfgT m).fresh 4 n = false
  | 0, _, h => absurd rfl h
  | n + 1, hn, h => by
    have hn' : n < (cfgT m).N := Nat.lt_of_succ_lt hn
    rw [Pipeline.Cfg.fresh_succ _ _ _ hn', flush_out m ⟨n, hn'⟩ (by show n % 7 ≠ 6; omega), Bool.false_or, Bool.and_eq_false_iff]
    by_cases h0 : n % 7 = 0
    · refine .inl (Bool.eq_false_iff.mpr fun hi => (step_idle m 0 ⟨n, hn'⟩ hi k0_pay1).2 h0)
    · exact .inr (fresh_out n hn' h0)

/-- From what the body finds, a point makes what the proof data say. -/
theorem step_before (c : Dev nD) (t : Fin (cfgT m).N) (d) : stepAt m c t ((dats m 0 c).before 4 t d) = outsAt m c t.val t.isLt := by
  by_cases h : t.val % 7 = 0
  · by_cases h0 : t.val = 0
    · obtain ⟨n, hn⟩ := t
      simp only at h0
      subst h0
      exact step_first m c _ h _ _
    · rw [outsAt_pos m c t h0 (lt_of_le_of_lt (Nat.sub_le _ _) t.isLt)]
      exact step_first m c t h _ _
  · have h0 : t.val ≠ 0 := fun e => h (by rw [e])
    rw [outsAt_pos m c t h0 (lt_of_le_of_lt (Nat.sub_le _ _) t.isLt)]
    refine congrArg (stepAt m c t) ?_
    refine ((dats m 0 c).before_out_traj 4 rfl (fun _ _ => rfl) (fun t ht hi hf => ?_) t.val t rfl d).trans ?_
    · rw [after_4, after_4, outsAt_pos m c t ht (lt_of_le_of_lt (Nat.sub_le _ _) t.isLt)]
      exact (step_idle m c t hi _).1
    · rw [fresh_out m t.val t.isLt h, if_neg Bool.false_ne_true, after_4]

/-! ## The body obligation -/

/-- The tables' halves the body is handed, one by one. -/
theorem PhiT_eq (c : Dev nD) (pf : pre0.Contents (Elt F)) : (Pipeline.ΦT pre0 pf c : sProp 𝕄)
    = iprop(owns (c : Thread nD τ) (Memref.whole main_v19) fullShare.right (pf 0) ∗ owns (c : Thread nD τ) (Memref.whole main_v41) fullShare.right (pf 1) ∗ owns (c : Thread nD τ) (Memref.whole main_v42) fullShare.right (pf 2)) := by
  unfold Pipeline.ΦT Pipeline.prefHeld
  rw [show (Finset.univ : Finset (Fin 3)) = insert 0 (insert 1 {2}) from by decide, bigSep_insert (by decide), bigSep_insert (by decide), bigSep_singleton]
  exact congrArg₂ BI.sep (owns_whole (c : Thread nD τ) main_v19 fullShare.right (pf 0)).symm
    (congrArg₂ BI.sep (owns_whole (c : Thread nD τ) main_v41 fullShare.right (pf 1)).symm (owns_whole (c : Thread nD τ) main_v42 fullShare.right (pf 2)).symm)

/-- Each window's staging buffer at a point. -/
abbrev ms0 (t : Fin (cfgT m).N) : Memref sig .tc .vmem S1024x1024 .f32 := spec0_0.stage ((cfgT m).slots t 0)
abbrev ms1 (t : Fin (cfgT m).N) : Memref sig .tc .vmem S1x1x1024x512 .f32 := spec0_1.stage ((cfgT m).slots t 1)
abbrev ms2 (t : Fin (cfgT m).N) : Memref sig .tc .vmem S1x1x1024x512 .f32 := spec0_2.stage ((cfgT m).slots t 2)
abbrev ms3 (t : Fin (cfgT m).N) : Memref sig .tc .vmem S1x1x512x1024 .f32 := spec0_3.stage ((cfgT m).slots t 3)
abbrev ms4 (t : Fin (cfgT m).N) : Memref sig .tc .vmem S1024x1024 .f32 := spec0_4.stage ((cfgT m).slots t 4)

/-- The body at a point. -/
abbrev bodyAt (t : Fin (cfgT m).N) : Prog (TpuEff nD τ sig (Elt F) Λ₀ .tc) PUnit :=
  cc0_experts (grid0.coords t) (Memref.whole main_v19) (Memref.isWhole_whole _) (Memref.whole main_v41) (Memref.isWhole_whole _) (Memref.whole main_v42) (Memref.isWhole_whole _)
    (ms0 m t) (hstage0_0 (((cfgT m).slots t 0).cast nbuf0_0)) (ms1 m t) (hstage0_1 (((cfgT m).slots t 1).cast nbuf0_1)) (ms2 m t) (hstage0_2 (((cfgT m).slots t 2).cast nbuf0_2))
    (ms3 m t) (hstage0_3 (((cfgT m).slots t 3).cast nbuf0_3)) (ms4 m t) (hstage0_4 (((cfgT m).slots t 4).cast nbuf0_4))

def bodyPre (c : Dev nD) (t : Fin (cfgT m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d)))

/-- What the output's buffer is left at. -/
def leftOut (c : Dev nD) (t : Fin (cfgT m).N) : sProp 𝕄 :=
  match (cfgT m).idle 4 ((cfgT m).grid.coords t) with
  | true =>
    match ((cfgT m).win 4).flush t with
    | false => iprop(∃ d, owns (c : Thread nD τ) (ms4 m t) fullShare ((dats m 0 c).before 4 t d))
    | true => owns (c : Thread nD τ) (ms4 m t) fullShare ((dats m 0 c).after 4 t)
  | false => owns (c : Thread nD τ) (ms4 m t) fullShare ((dats m 0 c).after 4 t)

def bodyPost (c : Dev nD) (t : Fin (cfgT m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ leftOut m c t)

theorem owns_of_eq (c : Dev nD) (r : Memref sig .tc .vmem S1024x1024 .f32) (X Y : Vec F S1024x1024 .f32) (h : X = Y) :
    (owns (c : Thread nD τ) r fullShare X : sProp 𝕄) ⊢ owns (c : Thread nD τ) r fullShare Y := by
  rw [h]

/-- The output's buffer as a point leaves it is what the obligation asks. -/
theorem left_of (c : Dev nD) (t : Fin (cfgT m).N) (d) :
    (owns (c : Thread nD τ) (ms4 m t) fullShare (stepAt m c t ((dats m 0 c).before 4 t d)) : sProp 𝕄) ⊢ leftOut m c t := by
  have ha : stepAt m c t ((dats m 0 c).before 4 t d) = (dats m 0 c).after 4 t := (step_before m c t d).trans (after_4 m c t).symm
  unfold leftOut
  split
  · next hi =>
    split
    · iintro H
      iexists d
      iapply (owns_of_eq c (ms4 m t) _ _ (step_idle m c t hi _).1)
      iexact H
    · exact owns_of_eq c (ms4 m t) _ _ ha
  · exact owns_of_eq c (ms4 m t) _ _ ha

set_option maxHeartbeats 1600000 in
theorem sound_body (c : Dev nD) (t : Fin (cfgT m).N) :
    bodyPre m c t ⊢ wp frame (wpE (defs₀ (F := F)) Variants.none c none) Set.univ (bodyAt m t) (fun _ => bodyPost m c t) := by
  unfold bodyPre bodyPost
  simp only [before_0, before_1, before_2, before_3]
  rw [show (dats m 0 c).owesAt () t.succ = (dats m 0 c).owesAt () t.castSucc from rfl, after_0, after_1, after_2, after_3,
    show (dats m 0 c).Φ t.succ = iprop(Pipeline.ΦA spec0 c ∗ Pipeline.ΦT pre0 (tables m) c) from rfl,
    show (dats m 0 c).Φ t.castSucc = iprop(Pipeline.ΦA spec0 c ∗ Pipeline.ΦT pre0 (tables m) c) from rfl, PhiT_eq]
  iintro ⟨⟨Ha, Ht0, Ht1, Ht2⟩, Ho, ⟨%d0, H0⟩, ⟨%d1, H1⟩, ⟨%d2, H2⟩, ⟨%d3, H3⟩, ⟨%d4, H4⟩⟩
  iapply ((run c (grid0.coords t) _ _ _ _ _ _ _ _ _ _ _ _ _ _ _ _ (tables m 1) (xAt m c t) (wgAt m c t) (wuAt m c t) (wdAt m c t) ((dats m 0 c).before 4 t d4)).2 Set.univ _)
  isplitl [Ht1]; · iexact Ht1
  isplitl [H0]; · iexact H0
  isplitl [H1]; · iexact H1
  isplitl [H2]; · iexact H2
  isplitl [H3]; · iexact H3
  isplitl [H4]; · iexact H4
  iintro ⟨Ht1, H0, H1, H2, H3, H4⟩
  isplitl [Ha Ht0 Ht1 Ht2]
  · isplitl [Ha]; · iexact Ha
    isplitl [Ht0]; · iexact Ht0
    isplitl [Ht1]; · iexact Ht1
    iexact Ht2
  isplitl [Ho]; · iexact Ho
  isplitl [H0]; · iexact H0
  isplitl [H1]; · iexact H1
  isplitl [H2]; · iexact H2
  isplitl [H3]; · iexact H3
  iapply (left_of m c t d4)
  unfold owns; iexists _; isplitr
  swap; · iexact H4
  ipureintro; exact run_read c _ _ _ _ _ _ _ _ _ _ _ _ _ _ _ _ _ _ _ _ _ _ _

theorem defs₀_row (t : Fin (cfgT m).N) :
    defs₀ (F := F) .tc (cfgT m).body ((cfgT m).bodyArgs t ((cfgT m).slots t)) = bodyAt m t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.Experts

end
-- ==== Proof.ExpRun.lean ====
/-
  The experts' launch from any memory: it ends, the arguments are as they were, every counter reads zero, and the
  output array is what the proof data say.
-/
module

public import proofs.«01_k».proof.Proof.ExpFrame

@[expose] public section

set_option maxRecDepth 16384

noncomputable section

namespace Cert.Experts

open Idealize.ShloMosaic Idealize.ShloMosaic.TcCoe Idealize.ShloMosaic.Tactic
open Idealize.SL Idealize.SL.RA Idealize.SL.BI Idealize.SL.Sem
open Idealize.ShloMosaic.Pipeline (Dat)
open Cert.Kernel2Ideal Cert.Kernel2Ideal.Gen

variable {F : FTy → Type} [FloatOps F]

variable (m : (ℓ : Loc nD τ sig) → Buf (Elt F) ℓ) (ρ : Dev nD → PrngReg)

/-- The host operations before the launch claim no buffer of their own. -/
theorem fresh_none : (prefixOps (F := F)).Forall fun ops => ops.Forall fun op => op.fresh = ∅ := by
  simp only [List.Forall, prefixOps]; repeat' constructor

theorem hmain : Pipeline.HMainP (Ix := Unit) (Name := ℕ) (U := UR sig nD τ) (Lvl := ℕ) pcfgs 0 defs₀ Variants.none m (main (F := F)) (V m) :=
  Pipeline.hmainP_prefixes pcfgs 0 defs₀ Variants.none m main prefixOps
    ⟨hostOps0_sub, hostOps0_1_sub, hostOps0_2_sub, hostOps0_3_sub, hostOps0_4_sub, hostOps0_5_sub, hostOps0_6_sub, hostOps0_7_sub⟩
    fresh_none main_chain

theorem share_all (c : Dev nD) (w : Fin (cfgT m).W) : (dats m 0 c).share w = fullShare := by
  fin_cases w <;> rfl

theorem held_tables (c : Dev nD) (k) : V m c (pre0.ref k) = (adm m 0).1 k := by
  obtain rfl : c = 0 := Subsingleton.elim _ _
  rfl

set_option backward.isDefEq.respectTransparency.types false in
theorem run_main : θ_run defs (onTc (τ := τ) (main (F := F))) ⟨m, fun _ => 0, ρ⟩
    (fun r => Pipeline.FramePost (Pipeline.pin pcfgs (adm m)) (dats m) 0 (V m) r ∧ r.2.sem = fun _ => 0) :=
  Pipeline.θ_run_frameP (Q' := _) pcfgs (adm m) (dats m) (0 : Fin 1) launch0 defs₀ Variants.none m ρ main
    (hbody := fun c => (body_obligation m c).loose) (hshare := share_all m)
    (howed := fun _ _ => rfl) (V := V m) (hmain := hmain m) (hA := A_eq m) (hpf := held_tables m) (hΦ := fun _ _ => rfl)

theorem args_of (r : PUnit × MemSt nD τ sig (Elt F)) (h : Pipeline.FramePost (Pipeline.pin pcfgs (adm m)) (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans ((A_eq m c 0).trans (V_arg0 m c))),
    ((h c).2 main_arg1 (Pipeline.mem_restRefs_of (win := spec0) main_arg1 (by decide) (by decide))).trans (V_arg1 m c),
    ((h c).1 1).trans (((dats m 0 c).arrAt_in 1 rfl _).trans ((A_eq m c 1).trans (V_arg2 m c))),
    ((h c).1 2).trans (((dats m 0 c).arrAt_in 2 rfl _).trans ((A_eq m c 2).trans (V_arg3 m c))),
    ((h c).1 3).trans (((dats m 0 c).arrAt_in 3 rfl _).trans ((A_eq m c 3).trans (V_arg4 m c)))⟩

/-- The run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨args_of m r h.1, h.2⟩) (run_main m ρ)

/-- The run ends with the output array as the proof data say, the arguments unchanged. -/
theorem run_out : θ_run defs (onTc (τ := τ) (main (F := F))) ⟨m, fun _ => 0, ρ⟩ (fun r => ∀ c : Dev nD,
      r.2.mem ((c.tc : Thread nD τ).loc main_v43) = (dats m 0 c).arrAt 4 (cfgT m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c).1 4, args_of m r h.1 c⟩) (run_main m ρ)

end Cert.Experts

end
-- ==== Proof.ExpBits.lean ====
/-
  The launch at the machine's own numbers: the same program, so the same run.
-/
module

public import proofs.«01_k».proof.Proof.ExpRun
public import proofs.«01_k».proof.Proof.Gen.Kernel2.Launch
public import proofs.«01_k».proof.Defs
public import Idealize.ShloMosaic.Lib.Tactic

@[expose] public section
set_option maxRecDepth 65536
noncomputable section
open Idealize.ShloMosaic Idealize.SL.Sem

namespace Cert.Experts

/-- What the run at these numbers says of the one program is what it says of the other. -/
theorem bits_same : (∀ (m : (ℓ : Loc Cert.Kernel2Ideal.nD Cert.Kernel2Ideal.τ Cert.Kernel2Ideal.sig) → Buf (Elt Bits) ℓ) (g : Dev Cert.Kernel2Ideal.nD → PrngReg),
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0))
    = (∀ (m : (ℓ : Loc Cert.Kernel2.nD Cert.Kernel2.τ Cert.Kernel2.sig) → Buf (Elt Bits) ℓ) (g : Dev Cert.Kernel2.nD → PrngReg),
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)) := by
  sl_kernel_rfl

/-- The frame of the launch at the machine's own numbers. -/
theorem frame_bits : Cert.quiescent_Kernel2 (hKernel2 := Cert.Kernel2.Gen.facts) := fun m g _ => by
  have h := fun m g => frame (F := Bits) m g
  rw [bits_same] at h
  exact h m g

end Cert.Experts
end
-- ==== Proof.ExpPart.lean ====
/-
  What a grid point adds to a row: the part of the gated layer its block of 512 hidden columns makes, at an index.
-/
module

public import proofs.«01_k».proof.Proof.ExpBody
public import Idealize.ShloMosaic.Lib.Pointwise
public import Idealize.ShloMosaic.Lib.IdealHost

@[expose] public section

set_option maxRecDepth 16384

noncomputable section

open Idealize.ShloMosaic Idealize.ShloMosaic.TcCoe Idealize.ShloMosaic.Pointwise
open Cert.Kernel2Ideal Cert.Kernel2Ideal.Gen

namespace Cert.Experts

/-- The kernel's gate: half the value, plus half of it times the tangent of that half. -/
def gate (x : EReal) : EReal :=
  Ideal.ofBits .f32 0x3F000000#32 * x + Ideal.ofBits .f32 0x3F000000#32 * x * Ideal.tanh (Ideal.ofBits .f32 0x3F000000#32 * x)

/-- What one hidden column adds. -/
def lane (x wg wu : Fin 1024 → EReal) (wd : EReal) : EReal := gate (∑ k, x k * wg k) * (∑ k, x k * wu k) * wd

/-- A row of zeros gets nothing. -/
theorem lane_zero (wg wu : Fin 1024 → EReal) (wd : EReal) : lane (fun _ => 0) wg wu wd = 0 := by
  unfold lane
  simp only [zero_mul, Finset.sum_const_zero, mul_zero]

theorem half_word : Ideal.ofBits .f32 0x3F000000#32 = ((1 / 2 : ℝ) : EReal) := by
  simp [Ideal.ofBits, Ideal.ieee, -EReal.coe_mul]; norm_num

/-- At a finite value the gate is the value over one plus the exponential of its negative. -/
theorem gate_coe (r : ℝ) : gate (r : EReal) = (r : EReal) * Ideal.div 1 (1 + Ideal.exp (-(r : EReal))) := by
  show _ = (r : EReal) * Ideal.logistic (r : EReal)
  unfold gate
  rw [half_word, Ideal.logistic_coe, ← EReal.coe_mul, Ideal.tanh_coe, ← EReal.coe_mul, ← EReal.coe_add, ← EReal.coe_mul]
  refine congrArg _ ?_
  have ha : Real.exp (-r) = Real.exp (-(1 / 2 * r)) * Real.exp (-(1 / 2 * r)) := by rw [← Real.exp_add]; congr 1; ring
  have hb : Real.exp (1 / 2 * r) * Real.exp (-(1 / 2 * r)) = 1 := by rw [← Real.exp_add]; simp
  rw [Real.tanh_eq_sinh_div_cosh, Real.sinh_eq, Real.cosh_eq, ha]
  have h1 := Real.exp_pos (1 / 2 * r)
  have h2 := Real.exp_pos (-(1 / 2 * r))
  generalize Real.exp (1 / 2 * r) = a at *
  generalize Real.exp (-(1 / 2 * r)) = b at *
  have h3 : a + b ≠ 0 := by positivity
  have h4 : 1 + b * b ≠ 0 := by positivity
  field_simp
  linear_combination 2 * r * b * hb

theorem pay_apply (x : Vec Ideal S512x1024 .f32) (wg wu : Vec Ideal S1x1x1024x256 .f32) (wd : Vec Ideal S1x1x256x1024 .f32) (r : Fin 512) (n : Fin 1024) :
    k0_pay14 x wg wu wd (ix2 r n) = ∑ j : Fin 256, lane (fun k => x (ix2 r k)) (fun k => wg (ix4 0 0 k j)) (fun k => wu (ix4 0 0 k j)) (wd (ix4 0 0 j n)) := by
  pointwise [k0_pay14, k0_pay9, k0_pay11, k0_pay12, k0_pay13, lane, gate]

/-- What a block of 512 hidden columns adds to a row, at one output column. -/
def block512 (x : Fin 1024 → EReal) (wg wu : Vec Ideal S1x1x1024x512 .f32) (wd : Vec Ideal S1x1x512x1024 .f32) (n : Fin 1024) : EReal :=
  ∑ j : Fin 512, lane x (fun k => wg (ix4 0 0 k j)) (fun k => wu (ix4 0 0 k j)) (wd (ix4 0 0 j n))

theorem part_apply (x : Vec Ideal S512x1024 .f32) (wg wu : Vec Ideal S1x1x1024x512 .f32) (wd : Vec Ideal S1x1x512x1024 .f32) (r : Fin 512) (n : Fin 1024) :
    part x wg wu wd (ix2 r n) = block512 (fun k => x (ix2 r k)) wg wu wd n := by
  have e : ∀ a b : FVec Ideal S512x1024 .f32, addf a b (ix2 r n) = (a (ix2 r n) + b (ix2 r n) : EReal) := fun _ _ => rfl
  unfold part block512
  rw [e, pay_apply, pay_apply]
  refine Eq.trans ?_ (Fin.sum_univ_add (a := 256) (b := 256) _).symm
  refine congrArg₂ (· + ·) (Finset.sum_congr rfl fun j _ => ?_) (Finset.sum_congr rfl fun j _ => ?_)
  all_goals
    unfold VecWindow.window
    congr 1
    · funext k
      refine congrArg wg (funext fun a => Fin.ext ?_)
      fin_cases a <;> simp [Rect.emb, Rect.unit] <;> first | rfl | exact Nat.add_comm _ _
    · funext k
      refine congrArg wu (funext fun a => Fin.ext ?_)
      fin_cases a <;> simp [Rect.emb, Rect.unit] <;> first | rfl | exact Nat.add_comm _ _
    · refine congrArg wd (funext fun a => Fin.ext ?_)
      fin_cases a <;> simp [Rect.emb, Rect.unit] <;> first | rfl | exact Nat.add_comm _ _

theorem put_in {α : Type} (y : S1024x1024.Idx → α) (o : ℕ) (w : S512x1024.Idx → α) (r n : Fin 1024) (h : o ≤ r.val ∧ r.val < o + 512) :
    VecWindow.put y ![o, 0] S512x1024.size w (ix2 r n) = w (ix2 ⟨r.val - o, by omega⟩ n) := by
  unfold VecWindow.put
  have hh : ∀ a : Fin 2, (![o, 0] : Fin 2 → ℕ) a ≤ ((ix2 r n : S1024x1024.Idx) a).val ∧ ((ix2 r n : S1024x1024.Idx) a).val < (![o, 0] : Fin 2 → ℕ) a + S512x1024.size a := fun a => by
    fin_cases a
    · exact h
    · exact ⟨Nat.zero_le _, by show n.val < 0 + 1024; omega⟩
  rw [dif_pos hh]
  refine congrArg w (funext fun a => Fin.ext ?_)
  fin_cases a <;> rfl

theorem put_out {α : Type} (y : S1024x1024.Idx → α) (o : ℕ) (w : S512x1024.Idx → α) (r n : Fin 1024) (h : ¬(o ≤ r.val ∧ r.val < o + 512)) :
    VecWindow.put y ![o, 0] S512x1024.size w (ix2 r n) = y (ix2 r n) := by
  unfold VecWindow.put
  rw [dif_neg (fun hh => h (hh 0))]

theorem lo_apply {α : Type} (y : S1024x1024.Idx → α) (r : Fin 512) (n : Fin 1024) :
    VecWindow.window y ![0, 0] S512x1024.size inb_S1024x1024_S512x1024_0_0 (ix2 r n : S512x1024.Idx) = y (ix2 ⟨r.val, by omega⟩ n) := by
  refine congrArg y (funext fun a => Fin.ext ?_)
  fin_cases a <;> simp [Rect.emb, Rect.unit] <;> first | rfl | exact Nat.add_comm _ _

theorem hi_apply {α : Type} (y : S1024x1024.Idx → α) (r : Fin 512) (n : Fin 1024) :
    VecWindow.window y ![512, 0] S512x1024.size inb_S1024x1024_S512x1024_512_0 (ix2 r n : S512x1024.Idx) = y (ix2 ⟨512 + r.val, by omega⟩ n) := by
  refine congrArg y (funext fun a => Fin.ext ?_)
  fin_cases a <;> simp [Rect.emb, Rect.unit] <;> first | rfl | exact Nat.add_comm _ _

/-- Whether a tile's word has the body work on a row. -/
def works (w : BitVec 32) (r : ℕ) : Prop := k0_cond2 w = 1#1 ∧ r < 512 ∨ k0_cond3 w = 1#1

instance (w : BitVec 32) (r : ℕ) : Decidable (works w r) := by unfold works; infer_instance

theorem bit_ne : ∀ b : BitVec 1, Scalar.cmpi .ne (Scalar.extui b : BitVec 32) 0#32 = 1#1 ↔ b = 1#1 := by decide
theorem bit_and : ∀ a b : BitVec 1, Scalar.andi a b = 1#1 ↔ a = 1#1 ∧ b = 1#1 := by decide
theorem sgt_iff (a b : BitVec 32) : Scalar.cmpi .sgt a b = 1#1 ↔ b.toInt < a.toInt := by
  rw [← BitVec.slt_iff_toInt_lt]
  show BitVec.ofBool (b.slt a) = 1#1 ↔ _
  cases b.slt a <;> decide
theorem sle_iff (a b : BitVec 32) : Scalar.cmpi .sle a b = 1#1 ↔ a.toInt ≤ b.toInt := by
  rw [← BitVec.sle_iff_toInt_le]
  show BitVec.ofBool (a.sle b) = 1#1 ↔ _
  cases a.sle b <;> decide

theorem cond2_iff (w : BitVec 32) : k0_cond2 w = 1#1 ↔ 0 < w.toInt ∧ w.toInt ≤ 512 := by
  unfold k0_cond2
  rw [bit_ne, bit_and, sgt_iff, sle_iff]
  rfl
theorem cond3_iff (w : BitVec 32) : k0_cond3 w = 1#1 ↔ 512 < w.toInt ∧ w.toInt ≤ 1024 := by
  unfold k0_cond3
  rw [bit_ne, bit_and, sgt_iff, sle_iff]
  rfl

/-- The two ranges of the word are apart. -/
theorem cond_apart (w : BitVec 32) (h : k0_cond2 w = 1#1) : k0_cond3 w ≠ 1#1 := by
  rw [Ne, cond3_iff]
  rw [cond2_iff] at h
  omega

theorem works_iff (w : BitVec 32) (r : ℕ) : works w r ↔ (0 < w.toInt ∧ w.toInt ≤ 512 ∧ r < 512) ∨ (512 < w.toInt ∧ w.toInt ≤ 1024) := by
  unfold works
  rw [cond2_iff, cond3_iff]
  tauto

theorem step_apply (i : grid0.Coords) (w : BitVec 32) (x : Vec Ideal S1024x1024 .f32) (wg wu : Vec Ideal S1x1x1024x512 .f32) (wd : Vec Ideal S1x1x512x1024 .f32) (y : Vec Ideal S1024x1024 .f32) (r n : Fin 1024) :
    step i w x wg wu wd y (ix2 r n) = (if k0_cond1 i = 1#1 then (0 : EReal) else y (ix2 r n)) + if works w r.val then block512 (fun k => x (ix2 r k)) wg wu wd n else 0 := by
  unfold step
  have hy : (if k0_cond1 i = 1#1 then k0_pay1 (F := Ideal) else y) (ix2 r n) = if k0_cond1 i = 1#1 then (0 : EReal) else y (ix2 r n) := by
    split
    · pointwise [k0_pay1]
    · rfl
  rw [← hy]
  generalize (if k0_cond1 i = 1#1 then k0_pay1 (F := Ideal) else y) = y0
  have elo : ∀ (h : r.val < 512) (y0 : Vec Ideal S1024x1024 .f32), addLo x wg wu wd y0 (ix2 r n) = (y0 (ix2 r n) + block512 (fun k => x (ix2 r k)) wg wu wd n : EReal) := fun h y0 => by
    unfold addLo
    rw [put_in _ 0 _ _ _ ⟨Nat.zero_le _, by omega⟩]
    have e : ∀ a b : FVec Ideal S512x1024 .f32, ∀ j, addf a b j = (a j + b j : EReal) := fun _ _ _ => rfl
    rw [e, part_apply, shapeCast_id]
    exact congrArg₂ (fun a b : EReal => a + b) (lo_apply y0 _ n) (congrArg (fun f => block512 f wg wu wd n) (funext fun k => lo_apply x _ k))
  have elo' : ∀ (h : ¬ r.val < 512) (y0 : Vec Ideal S1024x1024 .f32), addLo x wg wu wd y0 (ix2 r n) = y0 (ix2 r n) := fun h y0 => by
    unfold addLo
    rw [put_out _ 0 _ _ _ (by omega)]
  have ehi : ∀ (h : ¬ r.val < 512) (y0 : Vec Ideal S1024x1024 .f32), addBoth x wg wu wd y0 (ix2 r n) = (y0 (ix2 r n) + block512 (fun k => x (ix2 r k)) wg wu wd n : EReal) := fun h y0 => by
    unfold addBoth
    rw [put_in _ 512 _ _ _ ⟨by omega, by omega⟩]
    have e : ∀ a b : FVec Ideal S512x1024 .f32, ∀ j, addf a b j = (a j + b j : EReal) := fun _ _ _ => rfl
    have er : (⟨512 + (r.val - 512), by omega⟩ : Fin 1024) = r := Fin.ext (by show 512 + (r.val - 512) = r.val; omega)
    rw [e, part_apply, shapeCast_id]
    exact congrArg₂ (fun a b : EReal => a + b) ((hi_apply y0 _ n).trans (congrArg (fun q => y0 (ix2 q n)) er))
      (congrArg (fun f => block512 f wg wu wd n) (funext fun k => (hi_apply x _ k).trans (congrArg (fun q => x (ix2 q k)) er)))
  have ehi' : ∀ (h : r.val < 512) (y0 : Vec Ideal S1024x1024 .f32), addBoth x wg wu wd y0 (ix2 r n) = addLo x wg wu wd y0 (ix2 r n) := fun h y0 => by
    unfold addBoth
    rw [put_out _ 512 _ _ _ (by omega)]
  unfold works
  by_cases h2 : k0_cond2 w = 1#1
  · have h3 := cond_apart w h2
    by_cases hr : r.val < 512
    · simp [h2, h3, hr, elo hr]
    · simp [h2, h3, hr, elo' hr]
  · by_cases h3 : k0_cond3 w = 1#1
    · by_cases hr : r.val < 512
      · simp [h2, h3, hr, ehi' hr, elo hr]
      · simp [h2, h3, hr, ehi hr]
    · simp [h2, h3]

end Cert.Experts

end
-- ==== Proof.ExpRoute.lean ====
/-
  Which rows each expert's tokens take, as numbers: the tables the host code hands the launch, and the reference's test of a row, under the range of the counts.
-/
module

public import proofs.«01_k».proof.Proof.ExpPart
public import proofs.«01_k».proof.Proof.ExpTab
public import Idealize.ShloMosaic.Lib.Routing.Words
public import Idealize.ShloMosaic.Lib.Routing.OpsSearch
public import Idealize.ShloMosaic.Lib.Routing.OpsPair
public import Idealize.ShloMosaic.Lib.WordCmp

@[expose] public section

set_option maxRecDepth 16384

noncomputable section

open Idealize.ShloMosaic Idealize.ShloMosaic.TcCoe Idealize.ShloMosaic.StableHlo Idealize.ShloMosaic.Pointwise
open Cert.Kernel2Ideal Cert.Kernel2Ideal.Gen

namespace Cert.Experts

/-! ## Numbers -/

/-- The words of the counts are these numbers, none above 32768 and not together either. -/
structure Counts (n : IVec S8 32) (k : Fin 8 → ℕ) : Prop where
  word : ∀ e, n (ix1 e) = BitVec.ofNat 32 (k e)
  le : ∀ e, k e ≤ 32768
  sum : ∑ e, k e ≤ 32768

/-- The tiles of an expert. -/
def quo (k : Fin 8 → ℕ) (e : Fin 8) : ℕ := (k e + 1023) / 1024
/-- The tiles up to an expert's last. -/
def upto (k : Fin 8 → ℕ) (e : Fin 8) : ℕ := ∑ i, if i ≤ e then quo k i else 0
/-- The tiles before an expert's first. -/
def first (k : Fin 8 → ℕ) (e : Fin 8) : ℕ := upto k e - quo k e
/-- Whether a row holds a token of an expert. -/
def Token (k : Fin 8 → ℕ) (e : Fin 8) (p : ℕ) : Prop := 1024 * first k e ≤ p ∧ p < 1024 * first k e + k e

section Numbers
variable (k : Fin 8 → ℕ)

theorem quo_le (e : Fin 8) : quo k e ≤ upto k e := by
  unfold upto
  refine le_trans (le_of_eq ?_) (Finset.single_le_sum (f := fun i => if i ≤ e then quo k i else 0) (fun i _ => Nat.zero_le _) (Finset.mem_univ e))
  simp

theorem first_add (e : Fin 8) : first k e + quo k e = upto k e := Nat.sub_add_cancel (quo_le k e)

theorem upto_mono {i e : Fin 8} (h : i ≤ e) : upto k i ≤ upto k e :=
  Finset.sum_le_sum fun j _ => by
    split
    · next hj => rw [if_pos (le_trans hj h)]
    · exact Nat.zero_le _

theorem upto_before {i e : Fin 8} (h : i < e) : upto k i ≤ first k e := by
  refine Nat.le_sub_of_add_le ?_
  have e1 : quo k e = ∑ j, if j = e then quo k j else 0 := by simp
  rw [e1]
  unfold upto
  rw [← Finset.sum_add_distrib]
  refine Finset.sum_le_sum fun j _ => ?_
  by_cases h1 : j ≤ i
  · rw [if_pos h1, if_neg (fun q => absurd (lt_of_le_of_lt h1 h) (by rw [q]; exact lt_irrefl _)), if_pos (le_trans h1 (le_of_lt h))]
    omega
  · rw [if_neg h1]
    by_cases h2 : j = e
    · rw [if_pos h2, if_pos (le_of_eq h2)]; omega
    · rw [if_neg h2]; exact Nat.zero_le _

theorem upto_last (h : ∑ e, k e ≤ 32768) : upto k 7 ≤ 39 := by
  have e1 : upto k 7 = ∑ i, quo k i := Finset.sum_congr rfl fun i _ => if_pos (by have := i.isLt; exact Fin.le_def.mpr (by show i.val ≤ 7; omega))
  rw [e1]
  rw [Fin.sum_univ_eight] at h ⊢
  unfold quo
  omega

theorem upto_le (h : ∑ e, k e ≤ 32768) (e : Fin 8) : upto k e ≤ 39 :=
  le_trans (upto_mono k (by have := e.isLt; exact Fin.le_def.mpr (by show e.val ≤ 7; omega))) (upto_last k h)
end Numbers

/-! ## Words -/

theorem ofNat_sum8 (f : Fin 8 → ℕ) : ∑ i, BitVec.ofNat 32 (f i) = BitVec.ofNat 32 (∑ i, f i) := by
  rw [Fin.sum_univ_eight, Fin.sum_univ_eight]
  simp only [BitVec.ofNat_add]

theorem sub_word {a b : ℕ} (h : b ≤ a) (ha : a < 2 ^ 32) : BitVec.ofNat 32 a - BitVec.ofNat 32 b = BitVec.ofNat 32 (a - b) := by
  apply BitVec.eq_of_toNat_eq
  rw [BitVec.toNat_sub, BitVec.toNat_ofNat, BitVec.toNat_ofNat, BitVec.toNat_ofNat]
  omega

theorem tiles_of (v : IVec S8 32) (e : Fin 8) {a : ℕ} (h : v (ix1 e) = BitVec.ofNat 32 a) (ha : a < 2 ^ 31) : tiles v (ix1 e) = BitVec.ofNat 32 (a / 1024) :=
  Routing.pyDiv_ap (s := S8) bcast_S_S8 v (constantI S_ 32 1024#32) (ix1 e) h rfl ha (by norm_num) (by norm_num)

theorem ends_of (q : IVec S8 32) (f : Fin 8 → ℕ) (h : ∀ e, q (ix1 e) = BitVec.ofNat 32 (f e)) (e : Fin 8) : ends q (ix1 e) = BitVec.ofNat 32 (∑ i, if i ≤ e then f i else 0) := by
  rw [ends_sum, ← ofNat_sum8]
  refine Finset.sum_congr rfl fun i _ => ?_
  split
  · exact h i
  · rfl

/-- The rows in use of a tile. -/
theorem valid_at (u : IVec S_ 32) (l : IVec S40 32) (t : Fin 40) :
    valid u l (ix1 t) = Scalar.select (IntOp.cmpi .slt (BitVec.ofNat 32 t.val) (u ix0)) (IntOp.minsi 1024#32 (IntOp.maxsi 0#32 (l (ix1 t)))) 0#32 := by
  pointwise [valid]

theorem validOf_at (n : IVec S8 32) (t : Fin 40) :
    validOf n (ix1 t) = Scalar.select (IntOp.cmpi .slt (BitVec.ofNat 32 t.val) (usedOf n ix0)) (IntOp.minsi 1024#32 (IntOp.maxsi 0#32 (left n (ends (tilesOf n)) (tilesOf n) (expertOf n) (ix1 t)))) 0#32 :=
  valid_at _ _ t

/-- The body works only in a tile in use. -/
theorem works_used (n : IVec S8 32) (t : Fin 40) (r : ℕ) (hw : works (validOf n (ix1 t)) r) : (t.val : ℤ) < (usedOf n ix0).toInt := by
  rw [validOf_at, WordCmp.cmpi_slt_eq, WordCmp.select_ofBool] at hw
  by_contra hn
  rw [WordCmp.toInt_ofNat_of_lt (by have := t.isLt; omega), decide_eq_false hn] at hw
  have h0 : (0#32 : BitVec 32).toInt = 0 := by decide
  rw [if_neg Bool.false_ne_true, works_iff, h0] at hw
  omega

section Tables
variable {n : IVec S8 32} {k : Fin 8 → ℕ} (h : Counts n k)
include h

theorem tiles_word (e : Fin 8) : tilesOf n (ix1 e) = BitVec.ofNat 32 (quo k e) := by
  refine tiles_of _ e (a := k e + 1023) ?_ (by have := h.le e; omega)
  have e1 : raised n (ix1 e) = n (ix1 e) + 1024#32 - 1#32 := by
    pointwise [raised]
    rfl
  rw [e1, h.word e, ← BitVec.ofNat_add]
  exact sub_word (by omega) (by have := h.le e; omega)

theorem ends_word (e : Fin 8) : ends (tilesOf n) (ix1 e) = BitVec.ofNat 32 (upto k e) := ends_of _ _ (tiles_word h) e

theorem used_word : usedOf n ix0 = BitVec.ofNat 32 (upto k 7) := by
  refine Eq.trans ?_ (ends_word h 7)
  pointwise [used]

variable {t : Fin 40} {e : Fin 8} (h1 : first k e ≤ t.val) (h2 : t.val < upto k e)
include h1 h2

theorem place_word : place (ends (tilesOf n)) t = BitVec.ofNat 32 t.val := by
  have h3 := upto_mono k (show e ≤ 7 from by have := e.isLt; exact Fin.le_def.mpr (by show e.val ≤ 7; omega))
  have h4 := upto_last k h.sum
  unfold place
  rw [ends_word h, sub_word (by omega) (by omega)]
  unfold IntOp.minsi
  split
  · rfl
  · next hs =>
    have hs' : ¬ (BitVec.ofNat 32 t.val).toInt < (BitVec.ofNat 32 (upto k 7 - 1)).toInt := fun q => hs (BitVec.slt_iff_toInt_lt.mpr q)
    rw [WordCmp.toInt_ofNat_of_lt (by omega), WordCmp.toInt_ofNat_of_lt (by omega)] at hs'
    exact congrArg _ (by omega)

theorem expert_word : expertOf n (ix1 t) = BitVec.ofNat 32 e.val := by
  have h4 := upto_last k h.sum
  have hc : Nat.count (fun i => i < e.val) 8 = e.val := by
    have : ∀ e : Fin 8, Nat.count (fun i => i < e.val) 8 = e.val := by decide
    exact this e
  refine (expert_count (ends (tilesOf n)) t (fun i => i < e.val) fun q => ?_).trans (congrArg _ hc)
  rw [place_word h h1 h2, ends_word h, BitVec.sle_iff_toInt_le, WordCmp.toInt_ofNat_of_lt (by have := upto_le k h.sum q; omega), WordCmp.toInt_ofNat_of_lt (by omega)]
  constructor
  · intro hq
    by_contra hn
    have := upto_mono k (show e ≤ q from Fin.le_def.mpr (by omega))
    omega
  · intro hq
    have := upto_before k (show q < e from Fin.lt_def.mpr hq)
    omega

theorem pick_word : pick (expertOf n) (ix2 t (0 : Fin 1)) = BitVec.ofNat 32 e.val := by
  have e1 : pick (expertOf n) (ix2 t (0 : Fin 1)) = Scalar.select (IntOp.cmpi .slt (expertOf n (ix1 t)) 0#32) (expertOf n (ix1 t) + 8#32) (expertOf n (ix1 t)) := by
    generalize expertOf n = x
    pointwise [pick]
    rfl
  rw [e1, expert_word h h1 h2]
  refine Routing.wrap_of_lt _ _ ?_
  rw [BitVec.toNat_ofNat]
  have := e.isLt
  norm_num
  omega

theorem gather_word (x : IVec S8 32) : Host.gather gather_S8_S40x1_S40_n_0_n_n_0_1_1 x (pick (expertOf n)) (ix1 t) = x (ix1 e) :=
  Routing.take_ap (N := 8) (n := 40) gather_S8_S40x1_S40_n_0_n_n_0_1_1 rfl rfl rfl rfl x (pick (expertOf n)) t e.isLt (by have := e.isLt; omega) (pick_word h h1 h2)

theorem left_word (hk : 1024 * (t.val - first k e) ≤ k e) : left n (ends (tilesOf n)) (tilesOf n) (expertOf n) (ix1 t) = BitVec.ofNat 32 (k e - 1024 * (t.val - first k e)) := by
  have e1 : left n (ends (tilesOf n)) (tilesOf n) (expertOf n) (ix1 t)
      = Host.gather gather_S8_S40x1_S40_n_0_n_n_0_1_1 n (pick (expertOf n)) (ix1 t)
        - (BitVec.ofNat 32 t.val - Host.gather gather_S8_S40x1_S40_n_0_n_n_0_1_1 (subi (ends (tilesOf n)) (tilesOf n)) (pick (expertOf n)) (ix1 t)) * 1024#32 := rfl
  have e2 : subi (ends (tilesOf n)) (tilesOf n) (ix1 e) = BitVec.ofNat 32 (first k e) := by
    have : subi (ends (tilesOf n)) (tilesOf n) (ix1 e) = ends (tilesOf n) (ix1 e) - tilesOf n (ix1 e) := rfl
    rw [this, ends_word h, tiles_word h]
    exact sub_word (quo_le k e) (by have := upto_le k h.sum e; omega)
  rw [e1, gather_word h h1 h2, gather_word h h1 h2, e2, h.word, sub_word h1 (by omega)]
  have e3 : BitVec.ofNat 32 (t.val - first k e) * 1024#32 = BitVec.ofNat 32 (1024 * (t.val - first k e)) := by
    rw [Nat.mul_comm]; exact (BitVec.ofNat_mul ..).symm
  rw [e3]
  exact sub_word hk (by have := h.le e; omega)

theorem valid_word (hk : 1024 * (t.val - first k e) ≤ k e) : validOf n (ix1 t) = BitVec.ofNat 32 (min 1024 (k e - 1024 * (t.val - first k e))) := by
  have h3 := upto_mono k (show e ≤ 7 from by have := e.isLt; exact Fin.le_def.mpr (by show e.val ≤ 7; omega))
  have h4 := upto_last k h.sum
  have h5 := h.le e
  rw [validOf_at, left_word h h1 h2 hk, used_word h, WordCmp.cmpi_slt_ofNat (by omega) (by omega), WordCmp.select_ofBool, decide_eq_true (by omega : t.val < upto k 7)]
  generalize hl : k e - 1024 * (t.val - first k e) = l
  refine (Routing.clip_word (x := l) (lo := 0) (hi := 1024) (by omega) (by omega) (by omega)).trans (congrArg _ ?_)
  omega

end Tables

/-- A token's row lies in a tile of its expert, below the tile's number of rows. -/
theorem token_row {n : IVec S8 32} {k : Fin 8 → ℕ} (h : Counts n k) (t : Fin 40) (r : Fin 1024) (e : Fin 8) (hT : Token k e (1024 * t.val + r.val)) :
    expertOf n (ix1 t) = BitVec.ofNat 32 e.val ∧ works (validOf n (ix1 t)) r.val := by
  obtain ⟨h1, h2⟩ := hT
  have hr := r.isLt
  have hq : k e ≤ 1024 * quo k e := by unfold quo; omega
  have hf := first_add k e
  have h3 : first k e ≤ t.val := by omega
  have h4 : t.val < upto k e := by omega
  refine ⟨expert_word h h3 h4, ?_⟩
  rw [valid_word h h3 h4 (by omega), works_iff, WordCmp.toInt_ofNat_of_lt (by omega)]
  omega

/-- A row holds a token of one expert at most. -/
theorem token_one {n : IVec S8 32} {k : Fin 8 → ℕ} (h : Counts n k) (t : Fin 40) (r : Fin 1024) (e e' : Fin 8) (hT : Token k e (1024 * t.val + r.val)) (hT' : Token k e' (1024 * t.val + r.val)) :
    e = e' := by
  have h1 := (token_row h t r e hT).1.symm.trans (token_row h t r e' hT').1
  have := congrArg BitVec.toNat h1
  rw [BitVec.toNat_ofNat, BitVec.toNat_ofNat] at this
  have := e.isLt
  have := e'.isLt
  exact Fin.ext (by omega)

end Cert.Experts

end
-- ==== Proof.ExpRef.lean ====
/-
  The experts' reference at an index: each expert's result, added where the row holds one of its tokens.
-/
module

public import proofs.«01_k».proof.Proof.ExpRoute
public import proofs.«01_k».proof.Proof.Gen.Reference2Ideal.Run
public import Idealize.ShloMosaic.Lib.Pointwise
public import Idealize.ShloMosaic.Lib.IdealHost
public import Idealize.ShloMosaic.Lib.Tactic

@[expose] public section

set_option maxRecDepth 16384

noncomputable section

open Idealize.ShloMosaic Idealize.ShloMosaic.TcCoe Idealize.ShloMosaic.StableHlo Idealize.ShloMosaic.Pointwise
open Idealize.ShloMosaic.Tactic
open Cert.Reference2Ideal Cert.Reference2Ideal.Gen Cert.Reference2Ideal.Value

namespace Cert.Experts

/-! ## The rows of an expert -/

/-- The rows each expert's tokens are given. -/
def room (n : IVec S8 32) : IVec S8 32 :=
  muli (tiles (addi n (broadcastInDim S8 ![] bcast_S_S8 (constantI S_ 32 1023#32)))) (broadcastInDim S8 ![] bcast_S_S8 (constantI S_ 32 1024#32))
/-- The first row of each expert's. -/
def start (n : IVec S8 32) : IVec S8 32 := subi (ends (room n)) (room n)
/-- Whether a row holds a token of an expert. -/
def groupRows (n : IVec S8 32) : IVec S40960x8 1 :=
  andi (cmpi .sge (broadcastInDim S40960x8 ![0, 1] bcast_S40960x1_S40960x8_0_1 (broadcastInDim S40960x1 ![0] bcast_S40960_S40960x1_0 (iotaInDim S40960 32 0)))
      (broadcastInDim S40960x8 ![0, 1] bcast_S1x8_S40960x8_0_1 (broadcastInDim S1x8 ![1] bcast_S8_S1x8_1 (start n))))
    (cmpi .slt (broadcastInDim S40960x8 ![0, 1] bcast_S40960x1_S40960x8_0_1 (broadcastInDim S40960x1 ![0] bcast_S40960_S40960x1_0 (iotaInDim S40960 32 0)))
      (broadcastInDim S40960x8 ![0, 1] bcast_S1x8_S40960x8_0_1 (broadcastInDim S1x8 ![1] bcast_S8_S1x8_1 (addi (start n) n))))

theorem group_at (n : IVec S8 32) (p : Fin 40960) (e : Fin 8) :
    groupRows n (ix2 p e) = IntOp.andi (IntOp.cmpi .sge (BitVec.ofNat 32 p.val) (start n (ix1 e))) (IntOp.cmpi .slt (BitVec.ofNat 32 p.val) (start n (ix1 e) + n (ix1 e))) := by
  unfold groupRows
  generalize start n = s
  pointwise
  rfl

section Words
variable {n : IVec S8 32} {k : Fin 8 → ℕ} (h : Counts n k)
include h

theorem room_word (e : Fin 8) : room n (ix1 e) = BitVec.ofNat 32 (1024 * quo k e) := by
  have h1 : addi n (broadcastInDim S8 ![] bcast_S_S8 (constantI S_ 32 1023#32)) (ix1 e) = BitVec.ofNat 32 (k e + 1023) := by
    have : addi n (broadcastInDim S8 ![] bcast_S_S8 (constantI S_ 32 1023#32)) (ix1 e) = n (ix1 e) + 1023#32 := by
      pointwise
      try rfl
    rw [this, h.word e, ← BitVec.ofNat_add]
  have h2 := tiles_of _ e h1 (by have := h.le e; omega)
  have h3 : room n (ix1 e) = tiles (addi n (broadcastInDim S8 ![] bcast_S_S8 (constantI S_ 32 1023#32))) (ix1 e) * 1024#32 := by
    unfold room
    generalize tiles (addi n (broadcastInDim S8 ![] bcast_S_S8 (constantI S_ 32 1023#32))) = q
    pointwise
    try rfl
  rw [h3, h2, Nat.mul_comm]
  exact (BitVec.ofNat_mul ..).symm

theorem start_word (e : Fin 8) : start n (ix1 e) = BitVec.ofNat 32 (1024 * first k e) := by
  have h1 : start n (ix1 e) = ends (room n) (ix1 e) - room n (ix1 e) := rfl
  have h2 : ends (room n) (ix1 e) = BitVec.ofNat 32 (1024 * upto k e) := by
    rw [ends_of _ _ (room_word h)]
    unfold upto
    rw [Finset.mul_sum]
    exact congrArg _ (Finset.sum_congr rfl fun i _ => by split <;> rfl)
  have h3 := upto_le k h.sum e
  have h4 := first_add k e
  rw [h1, h2, room_word h, sub_word (by omega) (by omega)]
  exact congrArg _ (by omega)

theorem group_word (p : Fin 40960) (e : Fin 8) : groupRows n (ix2 p e) = 1#1 ↔ Token k e p.val := by
  have h3 := upto_le k h.sum e
  have h4 := first_add k e
  have h5 := h.le e
  have hp := p.isLt
  rw [group_at, start_word h, h.word, ← BitVec.ofNat_add, WordCmp.cmpi_sge_ofNat (by omega) (by omega), WordCmp.cmpi_slt_ofNat (by omega) (by omega), WordCmp.andi_ofBool,
    WordCmp.ofBool_eq_one_iff, Bool.and_eq_true, decide_eq_true_iff, decide_eq_true_iff]
  rfl
end Words

/-! ## One expert -/

/-- One expert's result as the reference adds it. -/
def piece (x : FVec Ideal S40960x1024 .f32) (w : FVec Ideal S40960x1 .f32) (wg wu : FVec Ideal S1x1x1024x3584 .f32) (wd : FVec Ideal S1x1x3584x1024 .f32) : FVec Ideal S40960x1024 .f32 :=
  mulf (broadcastInDim S40960x1024 ![0, 1] bcast_S40960x1_S40960x1024_0_1 w) (Host.dotGeneral dot_S40960x3584_S3584x1024_S40960x1024_1_0_0_1_n_n none
    (mulf (mulf (Host.dotGeneral dot_S40960x1024_S1024x3584_S40960x3584_1_0_0_1_n_n none x (shapeCast _ wg shapeCasts_S1x1x1024x3584_S1024x3584))
      (Host.divf (broadcastInDim S40960x3584 ![] bcast_S_S40960x3584 (constant S_ .f32 0x3F800000#32)) (addf (broadcastInDim S40960x3584 ![] bcast_S_S40960x3584 (constant S_ .f32 0x3F800000#32))
        (Host.exp (Host.negf (Host.dotGeneral dot_S40960x1024_S1024x3584_S40960x3584_1_0_0_1_n_n none x (shapeCast _ wg shapeCasts_S1x1x1024x3584_S1024x3584)))))))
      (Host.dotGeneral dot_S40960x1024_S1024x3584_S40960x3584_1_0_0_1_n_n none x (shapeCast _ wu shapeCasts_S1x1x1024x3584_S1024x3584)))
    (shapeCast _ wd shapeCasts_S1x1x3584x1024_S3584x1024))

/-- The reference's gate. -/
def silu (x : EReal) : EReal := x * Ideal.div 1 (1 + Ideal.exp (-x))

theorem piece_apply (x : FVec Ideal S40960x1024 .f32) (w : FVec Ideal S40960x1 .f32) (wg wu : FVec Ideal S1x1x1024x3584 .f32) (wd : FVec Ideal S1x1x3584x1024 .f32) (p : Fin 40960) (n : Fin 1024) :
    piece x w wg wu wd (ix2 p n) = (w (ix2 p 0) * ∑ f : Fin 3584, silu (∑ k : Fin 1024, x (ix2 p k) * wg (ix4 0 0 k f)) * (∑ k : Fin 1024, x (ix2 p k) * wu (ix4 0 0 k f)) * wd (ix4 0 0 f n) : EReal) := by
  pointwise [piece]
  rfl

/-- The reference's result: the eight experts' added up from zero. -/
def total (x : FVec Ideal S40960x1024 .f32) (n : IVec S8 32) (wg wu : FVec Ideal S2x8x1024x3584 .f32) (wd : FVec Ideal S2x8x3584x1024 .f32) : FVec Ideal S40960x1024 .f32 :=
  addf (addf (addf (addf (addf (addf (addf (addf (broadcastInDim S40960x1024 ![] bcast_S_S40960x1024 (constant S_ .f32 0x00000000#32))
    (piece x (extractStridedSlice S40960x1 ![0, 0] (uitofp .f32 (groupRows n)) slices_S40960x8_S40960x1_0_0) (extractStridedSlice S1x1x1024x3584 ![0, 0, 0, 0] wg slices_S2x8x1024x3584_S1x1x1024x3584_0_0_0_0)
    (extractStridedSlice S1x1x1024x3584 ![0, 0, 0, 0] wu slices_S2x8x1024x3584_S1x1x1024x3584_0_0_0_0) (extractStridedSlice S1x1x3584x1024 ![0, 0, 0, 0] wd slices_S2x8x3584x1024_S1x1x3584x1024_0_0_0_0)))
    (piece x (extractStridedSlice S40960x1 ![0, 1] (uitofp .f32 (groupRows n)) slices_S40960x8_S40960x1_0_1) (extractStridedSlice S1x1x1024x3584 ![0, 1, 0, 0] wg slices_S2x8x1024x3584_S1x1x1024x3584_0_1_0_0)
    (extractStridedSlice S1x1x1024x3584 ![0, 1, 0, 0] wu slices_S2x8x1024x3584_S1x1x1024x3584_0_1_0_0) (extractStridedSlice S1x1x3584x1024 ![0, 1, 0, 0] wd slices_S2x8x3584x1024_S1x1x3584x1024_0_1_0_0)))
    (piece x (extractStridedSlice S40960x1 ![0, 2] (uitofp .f32 (groupRows n)) slices_S40960x8_S40960x1_0_2) (extractStridedSlice S1x1x1024x3584 ![0, 2, 0, 0] wg slices_S2x8x1024x3584_S1x1x1024x3584_0_2_0_0)
    (extractStridedSlice S1x1x1024x3584 ![0, 2, 0, 0] wu slices_S2x8x1024x3584_S1x1x1024x3584_0_2_0_0) (extractStridedSlice S1x1x3584x1024 ![0, 2, 0, 0] wd slices_S2x8x3584x1024_S1x1x3584x1024_0_2_0_0)))
    (piece x (extractStridedSlice S40960x1 ![0, 3] (uitofp .f32 (groupRows n)) slices_S40960x8_S40960x1_0_3) (extractStridedSlice S1x1x1024x3584 ![0, 3, 0, 0] wg slices_S2x8x1024x3584_S1x1x1024x3584_0_3_0_0)
    (extractStridedSlice S1x1x1024x3584 ![0, 3, 0, 0] wu slices_S2x8x1024x3584_S1x1x1024x3584_0_3_0_0) (extractStridedSlice S1x1x3584x1024 ![0, 3, 0, 0] wd slices_S2x8x3584x1024_S1x1x3584x1024_0_3_0_0)))
    (piece x (extractStridedSlice S40960x1 ![0, 4] (uitofp .f32 (groupRows n)) slices_S40960x8_S40960x1_0_4) (extractStridedSlice S1x1x1024x3584 ![0, 4, 0, 0] wg slices_S2x8x1024x3584_S1x1x1024x3584_0_4_0_0)
    (extractStridedSlice S1x1x1024x3584 ![0, 4, 0, 0] wu slices_S2x8x1024x3584_S1x1x1024x3584_0_4_0_0) (extractStridedSlice S1x1x3584x1024 ![0, 4, 0, 0] wd slices_S2x8x3584x1024_S1x1x3584x1024_0_4_0_0)))
    (piece x (extractStridedSlice S40960x1 ![0, 5] (uitofp .f32 (groupRows n)) slices_S40960x8_S40960x1_0_5) (extractStridedSlice S1x1x1024x3584 ![0, 5, 0, 0] wg slices_S2x8x1024x3584_S1x1x1024x3584_0_5_0_0)
    (extractStridedSlice S1x1x1024x3584 ![0, 5, 0, 0] wu slices_S2x8x1024x3584_S1x1x1024x3584_0_5_0_0) (extractStridedSlice S1x1x3584x1024 ![0, 5, 0, 0] wd slices_S2x8x3584x1024_S1x1x3584x1024_0_5_0_0)))
    (piece x (extractStridedSlice S40960x1 ![0, 6] (uitofp .f32 (groupRows n)) slices_S40960x8_S40960x1_0_6) (extractStridedSlice S1x1x1024x3584 ![0, 6, 0, 0] wg slices_S2x8x1024x3584_S1x1x1024x3584_0_6_0_0)
    (extractStridedSlice S1x1x1024x3584 ![0, 6, 0, 0] wu slices_S2x8x1024x3584_S1x1x1024x3584_0_6_0_0) (extractStridedSlice S1x1x3584x1024 ![0, 6, 0, 0] wd slices_S2x8x3584x1024_S1x1x3584x1024_0_6_0_0)))
    (piece x (extractStridedSlice S40960x1 ![0, 7] (uitofp .f32 (groupRows n)) slices_S40960x8_S40960x1_0_7) (extractStridedSlice S1x1x1024x3584 ![0, 7, 0, 0] wg slices_S2x8x1024x3584_S1x1x1024x3584_0_7_0_0)
    (extractStridedSlice S1x1x1024x3584 ![0, 7, 0, 0] wu slices_S2x8x1024x3584_S1x1x1024x3584_0_7_0_0) (extractStridedSlice S1x1x3584x1024 ![0, 7, 0, 0] wd slices_S2x8x3584x1024_S1x1x3584x1024_0_7_0_0))

/-- The reference ends with its result over these parts, its arguments as they were. -/
theorem total_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v140) = total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by sl_kernel_rfl), (h c).2⟩) (Cert.Reference2Ideal.Value.run (F := Ideal) m ρ)

theorem slice_in (w : FVec Ideal S2x8x1024x3584 .f32) (E : ℕ) (hE : E < 8) (h : S2x8x1024x3584.Slices ![0, E, 0, 0] S1x1x1024x3584) (k : Fin 1024) (f : Fin 3584) :
    extractStridedSlice S1x1x1024x3584 ![0, E, 0, 0] w h (ix4 0 0 k f) = w (ix4 0 ⟨E, hE⟩ k f) := by
  refine congrArg w (funext fun a => Fin.ext ?_)
  fin_cases a
  · rfl
  · show E + 0 = E
    omega
  · show 0 + k.val = k.val
    omega
  · show 0 + f.val = f.val
    omega

theorem slice_out (w : FVec Ideal S2x8x3584x1024 .f32) (E : ℕ) (hE : E < 8) (h : S2x8x3584x1024.Slices ![0, E, 0, 0] S1x1x3584x1024) (f : Fin 3584) (n : Fin 1024) :
    extractStridedSlice S1x1x3584x1024 ![0, E, 0, 0] w h (ix4 0 0 f n) = w (ix4 0 ⟨E, hE⟩ f n) := by
  refine congrArg w (funext fun a => Fin.ext ?_)
  fin_cases a
  · rfl
  · show E + 0 = E
    omega
  · show 0 + f.val = f.val
    omega
  · show 0 + n.val = n.val
    omega

theorem slice_col (w : FVec Ideal S40960x8 .f32) (E : ℕ) (hE : E < 8) (h : S40960x8.Slices ![0, E] S40960x1) (p : Fin 40960) :
    extractStridedSlice S40960x1 ![0, E] w h (ix2 p 0) = w (ix2 p ⟨E, hE⟩) := by
  refine congrArg w (funext fun a => Fin.ext ?_)
  fin_cases a
  · show 0 + p.val = p.val
    omega
  · show E + 0 = E
    omega

/-- One expert's result for a row, as the reference computes it. -/
def plain (x : S40960x1024.Idx → EReal) (wg wu : S2x8x1024x3584.Idx → EReal) (wd : S2x8x3584x1024.Idx → EReal) (E : Fin 8) (p : Fin 40960) (n : Fin 1024) : EReal :=
  ∑ f : Fin 3584, silu (∑ k : Fin 1024, x (ix2 p k) * wg (ix4 0 E k f)) * (∑ k : Fin 1024, x (ix2 p k) * wu (ix4 0 E k f)) * wd (ix4 0 E f n)

theorem piece_at (x : FVec Ideal S40960x1024 .f32) (w : FVec Ideal S40960x8 .f32) (wg wu : FVec Ideal S2x8x1024x3584 .f32) (wd : FVec Ideal S2x8x3584x1024 .f32) (E : ℕ) (hE : E < 8)
    (h1 : S40960x8.Slices ![0, E] S40960x1) (h2 : S2x8x1024x3584.Slices ![0, E, 0, 0] S1x1x1024x3584) (h3 : S2x8x3584x1024.Slices ![0, E, 0, 0] S1x1x3584x1024) (p : Fin 40960) (n : Fin 1024) :
    piece x (extractStridedSlice S40960x1 ![0, E] w h1) (extractStridedSlice S1x1x1024x3584 ![0, E, 0, 0] wg h2) (extractStridedSlice S1x1x1024x3584 ![0, E, 0, 0] wu h2)
      (extractStridedSlice S1x1x3584x1024 ![0, E, 0, 0] wd h3) (ix2 p n) = (w (ix2 p ⟨E, hE⟩) * plain x wg wu wd ⟨E, hE⟩ p n : EReal) := by
  rw [piece_apply, slice_col w E hE]
  unfold plain
  simp only [slice_in _ E hE, slice_out _ E hE]

/-- A row of the reference's result: each expert's, where the row holds one of its tokens. -/
theorem total_apply (x : FVec Ideal S40960x1024 .f32) (n : IVec S8 32) (wg wu : FVec Ideal S2x8x1024x3584 .f32) (wd : FVec Ideal S2x8x3584x1024 .f32) (p : Fin 40960) (q : Fin 1024) :
    total x n wg wu wd (ix2 p q) = ∑ e : Fin 8, (if groupRows n (ix2 p e) = 1#1 then plain x wg wu wd e p q else (0 : EReal)) := by
  have hb : ∀ (e : Fin 8) (a : EReal), (uitofp (F := Ideal) .f32 (groupRows n) (ix2 p e) * a : EReal) = if groupRows n (ix2 p e) = 1#1 then a else 0 := fun e a => by
    have h1 : uitofp (F := Ideal) .f32 (groupRows n) (ix2 p e) = (((groupRows n (ix2 p e)).toNat : ℝ) : EReal) := rfl
    rw [h1]
    generalize groupRows n (ix2 p e) = b
    rcases (by revert b; decide : b = 1#1 ∨ b = 0#1) with hb | hb
    · subst hb; simp
    · subst hb; simp
  have hadd : ∀ (a b : FVec Ideal S40960x1024 .f32), addf a b (ix2 p q) = (a (ix2 p q) + b (ix2 p q) : EReal) := fun _ _ => rfl
  have h0 : broadcastInDim S40960x1024 ![] bcast_S_S40960x1024 (constant (F := Ideal) S_ .f32 0x00000000#32) (ix2 p q) = (0 : EReal) := by pointwise
  unfold total
  rw [hadd, hadd, hadd, hadd, hadd, hadd, hadd, hadd, h0,
    piece_at x _ wg wu wd 0 (by norm_num), piece_at x _ wg wu wd 1 (by norm_num), piece_at x _ wg wu wd 2 (by norm_num), piece_at x _ wg wu wd 3 (by norm_num), piece_at x _ wg wu wd 4 (by norm_num), piece_at x _ wg wu wd 5 (by norm_num), piece_at x _ wg wu wd 6 (by norm_num), piece_at x _ wg wu wd 7 (by norm_num),
    hb, hb, hb, hb, hb, hb, hb, hb, Fin.sum_univ_eight, zero_add]
  rfl

end Cert.Experts

end
-- ==== Proof.ExpPre.lean ====
/-
  What the experts' precondition gives: counts that fit, finite rows and gate weights, and rows of zeros where no
  expert's token lies.
-/
module

public import proofs.«01_k».proof.Proof.ExpRef
public import proofs.«01_k».proof.Proof.Core
public import proofs.«01_k».proof.Proof.Gen.Pre_dispatched
public import Idealize.ShloMosaic.Lib.ReduceAll

@[expose] public section

set_option maxRecDepth 16384

noncomputable section

open Idealize.ShloMosaic Idealize.ShloMosaic.TcCoe Idealize.ShloMosaic.StableHlo Idealize.ShloMosaic.Pointwise
open Idealize.ShloMosaic.Tactic
open Cert.Pre_dispatched Cert.Pre_dispatched.Gen
open Cert.Swa (IsFin)

namespace Cert.Experts

theorem fin_of_abs (x : EReal) (h : Ideal.cmp .olt (max x (-x)) (Ideal.ofBits .f32 0x7F800000#32) = 1#1) : IsFin x := by
  have e : Ideal.ofBits .f32 0x7F800000#32 = (⊤ : EReal) := by simp [Ideal.ofBits, Ideal.ieee]
  rw [e] at h
  induction x using EReal.rec with
  | bot => simp [Ideal.cmp] at h
  | top => simp [Ideal.cmp] at h
  | coe r => exact IsFin.coe r

theorem both_one (x y : BitVec 1) (h : IntOp.andi x y = 1#1) : x = 1#1 ∧ y = 1#1 := by
  revert h
  revert x y
  decide

theorem either_one (x y : BitVec 1) (h : IntOp.ori x y = 1#1) : x = 1#1 ∨ y = 1#1 := by
  revert h
  revert x y
  decide

theorem zero_of_oeq (x : EReal) (h : Ideal.cmp .oeq x (Ideal.ofBits .f32 0x00000000#32) = 1#1) : x = 0 := by
  have e : Ideal.ofBits .f32 0x00000000#32 = (0 : EReal) := by simp [Ideal.ofBits, Ideal.ieee]
  rw [e] at h
  by_contra hx
  simp [Ideal.cmp, hx] at h

/-- The counts' sum, as the precondition takes it. -/
def countSum (n : IVec S8 32) : IVec S_ 32 := Host.reduce IntOp.addi n (constantI S_ 32 0#32) reducesTo_S8_S_d0 h_S_
/-- The tokens of each row. -/
def rowTokens (n : IVec S8 32) : IVec S40960 32 :=
  Host.reduce IntOp.addi (extui 32 (groupRows n) natLt_1_32) (constantI S_ 32 0#32) reducesTo_S40960x8_S40960_d1 h_S_
/-- No count is negative. -/
def geZero (n : IVec S8 32) : IVec S_ 1 :=
  Host.reduce IntOp.andi (cmpi .sge n (broadcastInDim S8 ![] bcast_S_S8 (constantI S_ 32 0#32))) (constantI S_ 1 1#1) reducesTo_S8_S_d0 h_S_
/-- No count is above the tokens there are. -/
def leAll (n : IVec S8 32) : IVec S_ 1 :=
  Host.reduce IntOp.andi (cmpi .sle n (broadcastInDim S8 ![] bcast_S_S8 (constantI S_ 32 32768#32))) (constantI S_ 1 1#1) reducesTo_S8_S_d0 h_S_
/-- The layer's gate weights. -/
def gateOf (wg : FVec Ideal S2x8x1024x3584 .f32) : FVec Ideal S1x8x1024x3584 .f32 :=
  extractStridedSlice S1x8x1024x3584 ![0, 0, 0, 0] wg slices_S2x8x1024x3584_S1x8x1024x3584_0_0_0_0
/-- The layer's gate weights are finite. -/
def finGate (wg : FVec Ideal S2x8x1024x3584 .f32) : IVec S_ 1 :=
  Host.reduce IntOp.andi (cmpf .olt (Host.absf (gateOf wg)) (broadcastInDim S1x8x1024x3584 ![] bcast_S_S1x8x1024x3584 (constant S_ .f32 0x7F800000#32))) (constantI S_ 1 1#1)
    reducesTo_S1x8x1024x3584_S_d0_1_2_3 h_S_

theorem gate_at (wg : FVec Ideal S2x8x1024x3584 .f32) (E : Fin 8) (i : Fin 1024) (f : Fin 3584) : gateOf wg (ix4 0 E i f) = wg (ix4 0 E i f) := by
  refine congrArg wg (funext fun a => Fin.ext ?_)
  fin_cases a
  · rfl
  · show 0 + E.val = E.val
    omega
  · show 0 + i.val = i.val
    omega
  · show 0 + f.val = f.val
    omega

/-- The precondition's last operations: a row holds a token or zeros, and is finite. -/
def lastPart (x : FVec Ideal S40960x1024 .f32) (v : IVec S_ 1) (z : IVec S40960 32) : IVec S40960x1024 1 :=
  andi (andi (cmpf .olt (Host.absf x) (broadcastInDim S40960x1024 ![] bcast_S_S40960x1024 (constant S_ .f32 0x7F800000#32)))
      (ori (broadcastInDim S40960x1024 ![0, 1] bcast_S40960x1_S40960x1024_0_1 (broadcastInDim S40960x1 ![0] bcast_S40960_S40960x1_0
          (cmpi .sgt z (broadcastInDim S40960 ![] bcast_S_S40960 (constantI S_ 32 0#32)))))
        (cmpf .oeq x (broadcastInDim S40960x1024 ![] bcast_S_S40960x1024 (constant S_ .f32 0x00000000#32)))))
    (broadcastInDim S40960x1024 ![] bcast_S_S40960x1024 v)

theorem fn_parts (x : FVec Ideal S40960x1024 .f32) (n : IVec S8 32) (wg wu : FVec Ideal S2x8x1024x3584 .f32) (wd : FVec Ideal S2x8x3584x1024 .f32) :
    Cert.Pre_dispatched.fn (F := Ideal) x n wg wu wd
      = lastPart x (andi (andi (andi (geZero n) (leAll n)) (cmpi .sle (countSum n) (constantI S_ 32 32768#32))) (finGate wg)) (rowTokens n) := by
  sl_kernel_rfl

theorem last_apply (x : FVec Ideal S40960x1024 .f32) (v : IVec S_ 1) (z : IVec S40960 32) (p : Fin 40960) (q : Fin 1024) :
    lastPart x v z (ix2 p q)
      = IntOp.andi (IntOp.andi (Ideal.cmp .olt (max (x (ix2 p q)) (-(x (ix2 p q)))) (Ideal.ofBits .f32 0x7F800000#32))
          (IntOp.ori (IntOp.cmpi .sgt (z (ix1 p)) 0#32) (Ideal.cmp .oeq (x (ix2 p q)) (Ideal.ofBits .f32 0x00000000#32)))) (v ix0) := by
  pointwise [lastPart]
  try rfl

instance : Subsingleton S_.Idx := ⟨fun a b => funext fun i => i.elim0⟩

theorem counts_of (n : IVec S8 32) (h1 : ∀ e : Fin 8, IntOp.cmpi .sge (n (ix1 e)) 0#32 = 1#1) (h2 : ∀ e : Fin 8, IntOp.cmpi .sle (n (ix1 e)) 32768#32 = 1#1)
    (h3 : IntOp.cmpi .sle (countSum n ix0) 32768#32 = 1#1) : Counts n fun e => (n (ix1 e)).toNat := by
  have hle : ∀ e : Fin 8, (n (ix1 e)).toNat ≤ 32768 := fun e => by
    have a := h1 e
    have b := h2 e
    rw [WordCmp.cmpi_sge_eq, WordCmp.ofBool_eq_one_iff, decide_eq_true_iff] at a
    rw [WordCmp.cmpi_sle_eq, WordCmp.ofBool_eq_one_iff, decide_eq_true_iff] at b
    generalize n (ix1 e) = w at *
    have e0 : (0#32 : BitVec 32).toInt = 0 := by decide
    have e1 : (32768#32 : BitVec 32).toInt = 32768 := by decide
    rw [e0] at a
    rw [e1] at b
    rw [BitVec.toInt_eq_toNat_cond] at a b
    have := w.isLt
    split at a <;> split at b <;> omega
  have hs : countSum n ix0 = BitVec.ofNat 32 (∑ e : Fin 8, (n (ix1 e)).toNat) := by
    refine (Routing.reduce_sum (N := 8) n (fun i => if h : i < 8 then (n (ix1 ⟨i, h⟩)).toNat else 0) (fun i => ?_) reducesTo_S8_S_d0 h_S_).trans (congrArg _ ?_)
    · rw [dif_pos i.isLt, BitVec.ofNat_toNat, BitVec.setWidth_eq]
      rfl
    · rw [Fin.sum_univ_eight]
      simp [List.range_succ]
      omega
  refine ⟨fun e => (by rw [BitVec.ofNat_toNat, BitVec.setWidth_eq]), hle, ?_⟩
  have hb : ∑ e : Fin 8, (n (ix1 e)).toNat ≤ 262144 := by
    refine (Finset.sum_le_sum fun e _ => hle e).trans ?_
    simp
  rw [hs] at h3
  generalize (∑ e : Fin 8, (n (ix1 e)).toNat) = s at *
  rw [WordCmp.cmpi_sle_ofNat (by omega) (by omega), WordCmp.ofBool_eq_one_iff, decide_eq_true_iff] at h3
  exact h3

/-- A row of no expert holds no token. -/
theorem row_none (n : IVec S8 32) (k : Fin 8 → ℕ) (h : Counts n k) (p : Fin 40960) (hn : ∀ e, ¬ Token k e p.val) : rowTokens n (ix1 p) = 0#32 := by
  refine (Routing.reduce_count (n := 40960) (m := 8) (by norm_num) (groupRows n) natLt_1_32 reducesTo_S40960x8_S40960_d1 h_S_ p (fun _ => False) fun q => ?_).trans ?_
  · exact (group_word h p q).trans (iff_of_false (hn q) id)
  · simp

/-- What the precondition says of the arguments. -/
structure Good (x : S40960x1024.Idx → EReal) (n : IVec S8 32) (wg : S2x8x1024x3584.Idx → EReal) (k : Fin 8 → ℕ) : Prop where
  counts : Counts n k
  row : ∀ p q, IsFin (x (ix2 p q))
  gate : ∀ (E : Fin 8) (i : Fin 1024) (f : Fin 3584), IsFin (wg (ix4 0 E i f))
  none : ∀ p : Fin 40960, (∀ e, ¬ Token k e p.val) → ∀ q, x (ix2 p q) = 0

theorem good_of (x : FVec Ideal S40960x1024 .f32) (n : IVec S8 32) (wg wu : FVec Ideal S2x8x1024x3584 .f32) (wd : FVec Ideal S2x8x3584x1024 .f32)
    (h : Cert.Pre_dispatched.fn (F := Ideal) x n wg wu wd = fun _ => 1#1) : Good x n wg fun e => (n (ix1 e)).toNat := by
  rw [fn_parts] at h
  have hh := fun (p : Fin 40960) (q : Fin 1024) => both_one _ _ ((last_apply x _ _ p q).symm.trans (congrFun h (ix2 p q)))
  have hv := (hh 0 0).2
  obtain ⟨hv, h4⟩ := both_one _ _ hv
  obtain ⟨hv, h3⟩ := both_one _ _ hv
  obtain ⟨h1, h2⟩ := both_one _ _ hv
  have a1 : ∀ e : Fin 8, IntOp.cmpi .sge (n (ix1 e)) 0#32 = 1#1 := fun e => Host.reduce_andi_all _ _ _ _ _ h1 (ix1 e)
  have a2 : ∀ e : Fin 8, IntOp.cmpi .sle (n (ix1 e)) 32768#32 = 1#1 := fun e => Host.reduce_andi_all _ _ _ _ _ h2 (ix1 e)
  have hc := counts_of n a1 a2 h3
  refine ⟨hc, fun p q => fin_of_abs _ (both_one _ _ (hh p q).1).1, fun E i f => ?_, fun p hn q => ?_⟩
  · rw [← gate_at wg E i f]
    exact fin_of_abs _ (Host.reduce_andi_all _ _ _ _ _ h4 (ix4 0 E i f))
  have h5 := (both_one _ _ (hh p q).1).2
  rw [row_none n _ hc p hn] at h5
  rcases either_one _ _ h5 with h6 | h6
  · exact absurd h6 (by decide)
  · exact zero_of_oeq _ h6

end Cert.Experts

end
-- ==== Proof.ExpVal.lean ====
/-
  The experts' launch at the ideal instance: what one element of the output array ends at.
-/
module

public import proofs.«01_k».proof.Proof.ExpPart
public import proofs.«01_k».proof.Proof.ExpRun

@[expose] public section

set_option maxRecDepth 16384

noncomputable section

namespace Cert.Experts

open Idealize.ShloMosaic Idealize.ShloMosaic.TcCoe Idealize.ShloMosaic.Tactic
open Idealize.SL Idealize.SL.RA
open Idealize.ShloMosaic.Pipeline (Dat)
open Cert.Kernel2Ideal Cert.Kernel2Ideal.Gen

variable (m : (ℓ : Loc nD τ sig) → Buf (Elt Ideal) ℓ)

/-- The first coordinate is not looked at again after a tile's first point. -/
theorem cond1_iff (t : Fin grid0.N) : k0_cond1 (grid0.coords t) = 1#1 ↔ t.val % 7 = 0 := by
  have h : (grid0.coords t 1).val = t.val % 7 := (coords_val t).2
  have hl : t.val % 7 < 7 := Nat.mod_lt _ (by norm_num)
  unfold k0_cond1
  rw [h]
  generalize t.val % 7 = k at hl ⊢
  have := (by decide : ∀ k : Fin 7, (Scalar.cmpi .ne (Scalar.extui (Scalar.cmpi .eq (BitVec.ofNat 32 k.val) 0#32) : BitVec 32) 0#32 = 1#1) ↔ k.val = 0)
  exact this ⟨k, hl⟩

/-- The word of the table of rows in use at a tile. -/
abbrev validAt (pf : pre0.Contents (Elt Ideal)) (t : Fin 40) : BitVec 32 := pf 1 (ix1 t)

/-- A grid point's tile. -/
abbrev tileOf (t : Fin grid0.N) : Fin 40 := grid0.coords t 0

theorem rows_eq (t : Fin grid0.N) : rows m t = validAt (tables m) (tileOf t) := by
  refine congrArg (tables m 1) (funext fun a => Fin.ext ?_)
  fin_cases a
  have h : (grid0.coords t 0).val < 40 := (grid0.coords t 0).isLt
  simp [Rect.emb, LoadRect.idx, Rect.unit, Rect.toLoadRect, Shape.Idx.first, Scalar.indexCast]
  show (grid0.coords t 0).val % 4294967296 = (grid0.coords t 0).val
  omega

/-- A point of a tile. -/
def point (T : Fin 40) (j : ℕ) (hj : j < 7) : Fin grid0.N := ⟨7 * T.val + j, by rw [show grid0.N = 280 from N_0]; omega⟩

theorem point_tile (T : Fin 40) (j : ℕ) (hj : j < 7) : tileOf (point T j hj) = T :=
  Fin.ext ((coords_val _).1.trans (by show (7 * T.val + j) / 7 = T.val; omega))
theorem point_block (T : Fin 40) (j : ℕ) (hj : j < 7) : (grid0.coords (point T j hj) 1).val = j :=
  (coords_val _).2.trans (by show (7 * T.val + j) % 7 = j; omega)

/-- What a point of a tile adds to an element. -/
def addAt (c : Dev nD) (T : Fin 40) (r n : Fin 1024) (j : ℕ) : EReal :=
  if hj : j < 7 then block512 (fun k => xAt m c (point T j hj) (ix2 r k)) (wgAt m c (point T j hj)) (wuAt m c (point T j hj)) (wdAt m c (point T j hj)) n else 0

theorem stepAt_apply (c : Dev nD) (T : Fin 40) (j : ℕ) (hj : j < 7) (y : Vec Ideal S1024x1024 .f32) (r n : Fin 1024) :
    stepAt m c (point T j hj) y (ix2 r n) = (if j = 0 then (0 : EReal) else y (ix2 r n)) + if works (validAt (tables m) T) r.val then addAt m c T r n j else 0 := by
  unfold stepAt
  rw [step_apply, rows_eq, point_tile, addAt, dif_pos hj]
  have e := cond1_iff (point T j hj)
  rw [show (point T j hj).val % 7 = j from by show (7 * T.val + j) % 7 = j; omega] at e
  simp only [e]

/-- Every point makes its tile from some tile. -/
theorem outsAt_from (c : Dev nD) (t : Fin grid0.N) : ∃ y, outsAt m c t.val t.isLt = stepAt m c t y := by
  obtain ⟨n, hn⟩ := t
  cases n with
  | zero => exact ⟨_, rfl⟩
  | succ n => exact ⟨_, rfl⟩

/-- A tile's element after its first points. -/
theorem outs_sum (c : Dev nD) (T : Fin 40) (r n : Fin 1024) : ∀ (j : ℕ) (hj : j < 7),
    outsAt m c (point T j hj).val (point T j hj).isLt (ix2 r n) = if works (validAt (tables m) T) r.val then ∑ i ∈ Finset.range (j + 1), addAt m c T r n i else (0 : EReal)
  | 0, hj => by
    obtain ⟨y, hy⟩ := outsAt_from m c (point T 0 hj)
    rw [hy, stepAt_apply, if_pos rfl, zero_add]
    simp
  | j + 1, hj => by
    rw [outsAt_pos m c (point T (j + 1) hj) (by show 7 * T.val + (j + 1) ≠ 0; omega) (lt_of_le_of_lt (Nat.sub_le _ _) (point T (j + 1) hj).isLt), stepAt_apply,
      if_neg (Nat.succ_ne_zero j)]
    have ih := outs_sum c T r n j (by omega)
    have e : outsAt m c ((point T (j + 1) hj).val - 1) (lt_of_le_of_lt (Nat.sub_le _ _) (point T (j + 1) hj).isLt) (ix2 r n) = _ := ih
    rw [e, Finset.sum_range_succ _ (j + 1)]
    split <;> simp

/-! ## The blocks -/

theorem lin {x a b r : ℕ} (h : x = a) : x * b + 1 * r = b * a + r := by rw [h, Nat.one_mul, Nat.mul_comm]
theorem lin_one {x a : ℕ} (h : x = a) : x * 1 + 1 * 0 = a := by omega
theorem lin_zero {x b r : ℕ} (h : x = 0) : x * b + 1 * r = r := by rw [h]; omega

theorem index0 (pf : pre0.Contents (Elt Ideal)) (i : grid0.Coords) (a : ℕ) (ha : (held (usedAt pf) (BitVec.ofNat 32 (i 0).val)).toNat = a) :
    cc0_transform_0 inb_S1_S1_0 numel1_S1 pf i 0 = a ∧ cc0_transform_0 inb_S1_S1_0 numel1_S1 pf i 1 = 0 := by
  rw [map0]; exact ⟨ha, rfl⟩
theorem index1 (pf : pre0.Contents (Elt Ideal)) (i : grid0.Coords) (E b : ℕ) (hE : (expertAt pf (i 0)).toNat = E)
    (hb : (block (usedAt pf) (BitVec.ofNat 32 (i 0).val) (BitVec.ofNat 32 (i 1).val)).toNat = b) :
    cc0_transform_1 k0_off1_inb numel1_S1 inb_S1_S1_0 pf i 0 = 0 ∧ cc0_transform_1 k0_off1_inb numel1_S1 inb_S1_S1_0 pf i 1 = E ∧ cc0_transform_1 k0_off1_inb numel1_S1 inb_S1_S1_0 pf i 2 = 0 ∧ cc0_transform_1 k0_off1_inb numel1_S1 inb_S1_S1_0 pf i 3 = b := by
  rw [map1]; exact ⟨rfl, hE, rfl, hb⟩
theorem index2 (pf : pre0.Contents (Elt Ideal)) (i : grid0.Coords) (E b : ℕ) (hE : (expertAt pf (i 0)).toNat = E)
    (hb : (block (usedAt pf) (BitVec.ofNat 32 (i 0).val) (BitVec.ofNat 32 (i 1).val)).toNat = b) :
    cc0_transform_2 k0_off1_inb numel1_S1 inb_S1_S1_0 pf i 0 = 0 ∧ cc0_transform_2 k0_off1_inb numel1_S1 inb_S1_S1_0 pf i 1 = E ∧ cc0_transform_2 k0_off1_inb numel1_S1 inb_S1_S1_0 pf i 2 = 0 ∧ cc0_transform_2 k0_off1_inb numel1_S1 inb_S1_S1_0 pf i 3 = b := by
  rw [map2]; exact ⟨rfl, hE, rfl, hb⟩
theorem index3 (pf : pre0.Contents (Elt Ideal)) (i : grid0.Coords) (E b : ℕ) (hE : (expertAt pf (i 0)).toNat = E)
    (hb : (block (usedAt pf) (BitVec.ofNat 32 (i 0).val) (BitVec.ofNat 32 (i 1).val)).toNat = b) :
    cc0_transform_3 k0_off1_inb numel1_S1 inb_S1_S1_0 pf i 0 = 0 ∧ cc0_transform_3 k0_off1_inb numel1_S1 inb_S1_S1_0 pf i 1 = E ∧ cc0_transform_3 k0_off1_inb numel1_S1 inb_S1_S1_0 pf i 2 = b ∧ cc0_transform_3 k0_off1_inb numel1_S1 inb_S1_S1_0 pf i 3 = 0 := by
  rw [map3]; exact ⟨rfl, hE, hb, rfl⟩

theorem emb0 (d : (pcfg0 (F := Ideal)).Adm) (t : Fin (cfg0 d).N) (a : Fin 40) (r k : Fin 1024) (ha : (held (usedAt d.1) (BitVec.ofNat 32 (grid0.coords t 0).val)).toNat = a.val) :
    (((cfg0 d).win 0).blk t).view.emb (ix2 r k : S1024x1024.Idx) = (ix2 ⟨1024 * a.val + r.val, by omega⟩ k : S40960x1024.Idx) := by
  obtain ⟨e0, e1⟩ := index0 d.1 (grid0.coords t) a.val ha
  refine funext fun x => Fin.ext ?_
  fin_cases x
  · exact lin (b := 1024) (r := r.val) e0
  · exact lin_zero (b := 1024) (r := k.val) e1

theorem xAt_apply (c : Dev nD) (t : Fin grid0.N) (a : Fin 40) (ha : (held (usedAt (tables m)) (BitVec.ofNat 32 (tileOf t).val)).toNat = a.val) (r k : Fin 1024) :
    xAt m c t (ix2 r k) = m ((c : Thread nD τ).loc main_arg0) (ix2 ⟨1024 * a.val + r.val, by omega⟩ k) := by
  have e := emb0 (adm m 0) t a r k ha
  exact (congrArg (V m c main_arg0) e).trans (congrFun (V_arg0 m c) _)

theorem emb1 (d : (pcfg0 (F := Ideal)).Adm) (t : Fin (cfg0 d).N) (E : Fin 8) (b : Fin 7) (hE : (expertAt d.1 (grid0.coords t 0)).toNat = E.val)
    (hb : (block (usedAt d.1) (BitVec.ofNat 32 (grid0.coords t 0).val) (BitVec.ofNat 32 (grid0.coords t 1).val)).toNat = b.val) (k : Fin 1024) (j : Fin 512) :
    (((cfg0 d).win 1).blk t).view.emb (ix4 0 0 k j : S1x1x1024x512.Idx) = (ix4 0 E k ⟨512 * b.val + j.val, by omega⟩ : S2x8x1024x3584.Idx) := by
  obtain ⟨e0, e1, e2, e3⟩ := index1 d.1 (grid0.coords t) E.val b.val hE hb
  refine funext fun x => Fin.ext ?_
  fin_cases x
  · exact lin_one e0
  · exact lin_one e1
  · exact lin_zero (b := 1024) (r := k.val) e2
  · exact lin (b := 512) (r := j.val) e3

theorem wgAt_apply (c : Dev nD) (t : Fin grid0.N) (E : Fin 8) (b : Fin 7) (hE : (expertAt (tables m) (tileOf t)).toNat = E.val)
    (hb : (block (usedAt (tables m)) (BitVec.ofNat 32 (grid0.coords t 0).val) (BitVec.ofNat 32 (grid0.coords t 1).val)).toNat = b.val) (k : Fin 1024) (j : Fin 512) :
    wgAt m c t (ix4 0 0 k j) = m ((c : Thread nD τ).loc main_arg2) (ix4 0 E k ⟨512 * b.val + j.val, by omega⟩) := by
  have e := emb1 (adm m 0) t E b hE hb k j
  refine Eq.trans (Eq.trans ?_ (congrArg (V m c main_arg2) e)) (congrFun (V_arg2 m c) _)
  sl_kernel_rfl

theorem emb2 (d : (pcfg0 (F := Ideal)).Adm) (t : Fin (cfg0 d).N) (E : Fin 8) (b : Fin 7) (hE : (expertAt d.1 (grid0.coords t 0)).toNat = E.val)
    (hb : (block (usedAt d.1) (BitVec.ofNat 32 (grid0.coords t 0).val) (BitVec.ofNat 32 (grid0.coords t 1).val)).toNat = b.val) (k : Fin 1024) (j : Fin 512) :
    (((cfg0 d).win 2).blk t).view.emb (ix4 0 0 k j : S1x1x1024x512.Idx) = (ix4 0 E k ⟨512 * b.val + j.val, by omega⟩ : S2x8x1024x3584.Idx) := by
  obtain ⟨e0, e1, e2, e3⟩ := index2 d.1 (grid0.coords t) E.val b.val hE hb
  refine funext fun x => Fin.ext ?_
  fin_cases x
  · exact lin_one e0
  · exact lin_one e1
  · exact lin_zero (b := 1024) (r := k.val) e2
  · exact lin (b := 512) (r := j.val) e3

theorem wuAt_apply (c : Dev nD) (t : Fin grid0.N) (E : Fin 8) (b : Fin 7) (hE : (expertAt (tables m) (tileOf t)).toNat = E.val)
    (hb : (block (usedAt (tables m)) (BitVec.ofNat 32 (grid0.coords t 0).val) (BitVec.ofNat 32 (grid0.coords t 1).val)).toNat = b.val) (k : Fin 1024) (j : Fin 512) :
    wuAt m c t (ix4 0 0 k j) = m ((c : Thread nD τ).loc main_arg3) (ix4 0 E k ⟨512 * b.val + j.val, by omega⟩) := by
  have e := emb2 (adm m 0) t E b hE hb k j
  refine Eq.trans (Eq.trans ?_ (congrArg (V m c main_arg3) e)) (congrFun (V_arg3 m c) _)
  sl_kernel_rfl

theorem emb3 (d : (pcfg0 (F := Ideal)).Adm) (t : Fin (cfg0 d).N) (E : Fin 8) (b : Fin 7) (hE : (expertAt d.1 (grid0.coords t 0)).toNat = E.val)
    (hb : (block (usedAt d.1) (BitVec.ofNat 32 (grid0.coords t 0).val) (BitVec.ofNat 32 (grid0.coords t 1).val)).toNat = b.val) (j : Fin 512) (n : Fin 1024) :
    (((cfg0 d).win 3).blk t).view.emb (ix4 0 0 j n : S1x1x512x1024.Idx) = (ix4 0 E ⟨512 * b.val + j.val, by omega⟩ n : S2x8x3584x1024.Idx) := by
  obtain ⟨e0, e1, e2, e3⟩ := index3 d.1 (grid0.coords t) E.val b.val hE hb
  refine funext fun x => Fin.ext ?_
  fin_cases x
  · exact lin_one e0
  · exact lin_one e1
  · exact lin (b := 512) (r := j.val) e2
  · exact lin_zero (b := 1024) (r := n.val) e3

theorem wdAt_apply (c : Dev nD) (t : Fin grid0.N) (E : Fin 8) (b : Fin 7) (hE : (expertAt (tables m) (tileOf t)).toNat = E.val)
    (hb : (block (usedAt (tables m)) (BitVec.ofNat 32 (grid0.coords t 0).val) (BitVec.ofNat 32 (grid0.coords t 1).val)).toNat = b.val) (j : Fin 512) (n : Fin 1024) :
    wdAt m c t (ix4 0 0 j n) = m ((c : Thread nD τ).loc main_arg4) (ix4 0 E ⟨512 * b.val + j.val, by omega⟩ n) := by
  have e := emb3 (adm m 0) t E b hE hb j n
  refine Eq.trans (Eq.trans ?_ (congrArg (V m c main_arg4) e)) (congrFun (V_arg4 m c) _)
  sl_kernel_rfl

/-! ## The array -/

theorem index_out (t : Fin (cfgT m).N) : ((cfgT m).win 4).index t (0 : Fin 2) = t.val / 7 := by
  show cc0_transform_4 (grid0.coords t) 0 = t.val / 7
  unfold cc0_transform_4
  exact (by
    have h := (coords_val t).1
    have hl : (grid0.coords t 0).val < 40 := (grid0.coords t 0).isLt
    show (BitVec.ofNat 32 (grid0.coords t 0).val).toNat = t.val / 7
    rw [BitVec.toNat_ofNat, Nat.mod_eq_of_lt (by omega), h])

theorem flush_last (t : Fin (cfgT m).N) (h : t.val % 7 = 6) : ((cfgT m).win 4).flush t = true := by
  have ht : t.val < 280 := lt_of_lt_of_eq t.isLt N_0
  unfold Pipeline.Window.flush
  rw [Bool.and_eq_true]
  refine ⟨rfl, ?_⟩
  rw [Bool.or_eq_true]
  by_cases h1 : t.val + 1 < (cfgT m).N
  · refine .inr (decide_eq_true ⟨h1, fun e => ?_⟩)
    have e0 := congrFun e (0 : Fin 2)
    have e1 := (index_out m ⟨t.val + 1, h1⟩).symm.trans (e0.trans (index_out m t))
    simp only at e1
    omega
  · exact .inl (decide_eq_true (show t.val + 1 = (cfgT m).N from le_antisymm t.isLt (not_lt.mp h1)))

theorem out_apart (t t' : Fin (cfgT m).N) (hf : ((cfgT m).win 4).flush t = true) (hf' : ((cfgT m).win 4).flush t' = true) (hne : t ≠ t') :
    Disjoint (((cfgT m).win 4).blk t).view.set (((cfgT m).win 4).blk t').view.set := by
  refine ((cfgT m).win 4).disjoint_blk fun e => hne (Fin.ext ?_)
  have e0 := (index_out m t).symm.trans ((congrFun e (0 : Fin 2)).trans (index_out m t'))
  have h : t.val % 7 = 6 := by
    by_contra h; rw [flush_out m t h] at hf; exact absurd hf (by decide)
  have h' : t'.val % 7 = 6 := by
    by_contra h; rw [flush_out m t' h] at hf'; exact absurd hf' (by decide)
  omega

/-- The output array at the end, at a row of a tile. -/
theorem out_apply (c : Dev nD) (T : Fin 40) (r n : Fin 1024) :
    (dats m 0 c).arrAt 4 (cfgT m).N (ix2 ⟨1024 * T.val + r.val, by omega⟩ n : S40960x1024.Idx)
      = if works (validAt (tables m) T) r.val then ∑ i ∈ Finset.range 7, addAt m c T r n i else (0 : EReal) := by
  have h6 : 6 < 7 := by norm_num
  have h := (dats m 0 c).arrAt_emb_eq_flushed 4 (out_apart m) (point T 6 h6) (flush_last m _ (by show (7 * T.val + 6) % 7 = 6; omega)) (ix2 r n)
  have e : (((cfgT m).win 4).blk (point T 6 h6)).view.emb (ix2 r n) = (ix2 ⟨1024 * T.val + r.val, by omega⟩ n : S40960x1024.Idx) := by
    refine funext fun d => Fin.ext ?_
    fin_cases d
    · have e0 := index_out m (point T 6 h6)
      show ((cfgT m).win 4).index (point T 6 h6) (0 : Fin 2) * 1024 + 1 * r.val = 1024 * T.val + r.val
      rw [e0]
      show (7 * T.val + 6) / 7 * 1024 + 1 * r.val = 1024 * T.val + r.val
      omega
    · show 0 * 1024 + 1 * n.val = n.val
      omega
  rw [e] at h
  rw [h]
  have h2 : (dats m 0 c).flushed 4 (point T 6 h6) (ix2 r n) = outsAt m c (point T 6 h6).val (point T 6 h6).isLt (ix2 r n) := by
    unfold Dat.flushed
    rw [after_4]
    rfl
  exact h2.trans (outs_sum m c T r n 6 (by norm_num))

end Cert.Experts

end
-- ==== Proof.ExpSum.lean ====
/-
  A row of a tile in use, added up over the tile's seven blocks of columns: the whole inner axis of the tile's expert.
-/
module

public import proofs.«01_k».proof.Proof.ExpVal

@[expose] public section

set_option maxRecDepth 16384

noncomputable section

namespace Cert.Experts

open Idealize.ShloMosaic Idealize.ShloMosaic.TcCoe Idealize.ShloMosaic.Tactic
open Cert.Kernel2Ideal Cert.Kernel2Ideal.Gen

variable (m : (ℓ : Loc nD τ sig) → Buf (Elt Ideal) ℓ)

theorem small_toInt (T : Fin 40) : (BitVec.ofNat 32 T.val).toInt = T.val := by
  rw [BitVec.toInt_eq_toNat_cond, BitVec.toNat_ofNat]
  have := T.isLt
  omega

/-- A tile in use is held at its own number. -/
theorem held_eq (u : BitVec 32) (T : Fin 40) (h : (T.val : ℤ) < u.toInt) : held u (BitVec.ofNat 32 T.val) = BitVec.ofNat 32 T.val := by
  have e1 : (u - 1#32).toInt = u.toInt - 1 := by
    rw [BitVec.toInt_sub, Int.bmod_def]
    have h1 : (1#32 : BitVec 32).toInt = 1 := by decide
    have h2 := BitVec.toInt_lt (x := u)
    rw [h1]
    norm_num at h2 ⊢
    omega
  have h0 : (0#32 : BitVec 32).toInt = 0 := by decide
  have hm : Scalar.maxsi (Scalar.subi u 1#32) 0#32 = u - 1#32 := by
    show IntOp.maxsi (u - 1#32) 0#32 = u - 1#32
    unfold IntOp.maxsi
    split
    · rfl
    · next hs =>
      have hs' : ¬ (0#32 : BitVec 32).toInt < (u - 1#32).toInt := fun q => hs (BitVec.slt_iff_toInt_lt.mpr q)
      rw [e1, h0] at hs'
      exact BitVec.eq_of_toInt_eq (by rw [e1, h0]; omega)
  unfold held
  rw [hm]
  show IntOp.minsi (BitVec.ofNat 32 T.val) (u - 1#32) = _
  unfold IntOp.minsi
  split
  · rfl
  · next hs =>
    rw [BitVec.slt_iff_toInt_lt, e1, small_toInt] at hs
    exact BitVec.eq_of_toInt_eq (by rw [e1, small_toInt]; omega)

/-- The block of columns of a tile in use at a point: onwards in even tiles, backwards in odd ones. -/
def blockOf (T : Fin 40) (j : Fin 7) : Fin 7 := if T.val % 2 = 0 then j else Fin.rev j

theorem block_eq (u : BitVec 32) (T : Fin 40) (j : Fin 7) (h : (T.val : ℤ) < u.toInt) :
    (block u (BitVec.ofNat 32 T.val) (BitVec.ofNat 32 j.val)).toNat = (blockOf T j).val := by
  have hs : Scalar.cmpi .slt (BitVec.ofNat 32 T.val) u = 1#1 := by
    show BitVec.ofBool ((BitVec.ofNat 32 T.val).slt u) = 1#1
    have : (BitVec.ofNat 32 T.val).slt u = true := BitVec.slt_iff_toInt_lt.mpr (by rw [small_toInt]; exact h)
    rw [this]; rfl
  unfold block
  rw [held_eq u T h, hs]
  show (turn (BitVec.ofNat 32 T.val) (BitVec.ofNat 32 j.val)).toNat = _
  have hj := j.isLt
  rw [turn_eq, BitVec.toNat_ofNat]
  unfold blockOf
  split
  · omega
  · rw [Fin.val_rev]; omega

theorem blocks_sum (T : Fin 40) (g : Fin 3584 → EReal) :
    ∑ i : Fin 7, ∑ j : Fin 512, g ⟨512 * (blockOf T i).val + j.val, by omega⟩ = ∑ f, g f := by
  have h : ∑ i : Fin 7, ∑ j : Fin 512, g ⟨512 * i.val + j.val, by omega⟩ = ∑ f, g f := by
    rw [← Fintype.sum_prod_type' (f := fun (i : Fin 7) (j : Fin 512) => g ⟨512 * i.val + j.val, by omega⟩)]
    refine Fintype.sum_equiv (finProdFinEquiv (m := 7) (n := 512)) _ _ fun x => congrArg g (Fin.ext ?_)
    show 512 * x.1.val + x.2.val = x.2.val + 512 * x.1.val
    omega
  by_cases hT : T.val % 2 = 0
  · simp only [blockOf, if_pos hT]; exact h
  · simp only [blockOf, if_neg hT]
    rw [← h]
    exact Fintype.sum_equiv Fin.revPerm _ _ fun x => rfl

/-- One expert's result for a row, of the weights as the launch holds them. -/
def ffn (x : S40960x1024.Idx → EReal) (wg wu : S2x8x1024x3584.Idx → EReal) (wd : S2x8x3584x1024.Idx → EReal) (E : Fin 8) (p : Fin 40960) (n : Fin 1024) : EReal :=
  ∑ f : Fin 3584, lane (fun k => x (ix2 p k)) (fun k => wg (ix4 0 E k f)) (fun k => wu (ix4 0 E k f)) (wd (ix4 0 E f n))

theorem tile_value (c : Dev nD) (T : Fin 40) (r n : Fin 1024) (E : Fin 8) (hE : (expertAt (tables m) T).toNat = E.val) (h : (T.val : ℤ) < (usedAt (tables m)).toInt) :
    ∑ i ∈ Finset.range 7, addAt m c T r n i
      = ffn (m ((c : Thread nD τ).loc main_arg0)) (m ((c : Thread nD τ).loc main_arg2)) (m ((c : Thread nD τ).loc main_arg3)) (m ((c : Thread nD τ).loc main_arg4)) E ⟨1024 * T.val + r.val, by omega⟩ n := by
  unfold ffn
  rw [← blocks_sum T, Finset.sum_range]
  refine Finset.sum_congr rfl fun i _ => ?_
  unfold addAt
  rw [dif_pos i.isLt]
  unfold block512
  refine Finset.sum_congr rfl fun j _ => ?_
  have ht : tileOf (point T i.val i.isLt) = T := point_tile T i.val i.isLt
  have hj : (grid0.coords (point T i.val i.isLt) 1).val = i.val := point_block T i.val i.isLt
  have hE' : (expertAt (tables m) (tileOf (point T i.val i.isLt))).toNat = E.val := by rw [ht]; exact hE
  have ha : (held (usedAt (tables m)) (BitVec.ofNat 32 (tileOf (point T i.val i.isLt)).val)).toNat = T.val := by
    rw [ht, held_eq _ T h, BitVec.toNat_ofNat]; have := T.isLt; omega
  have hb : (block (usedAt (tables m)) (BitVec.ofNat 32 (tileOf (point T i.val i.isLt)).val) (BitVec.ofNat 32 (grid0.coords (point T i.val i.isLt) 1).val)).toNat = (blockOf T i).val := by
    rw [ht, hj]; exact block_eq _ T i h
  have e1 : (fun k => xAt m c (point T i.val i.isLt) (ix2 r k)) = _ := funext fun k => xAt_apply m c _ T ha r k
  have e2 : (fun k => wgAt m c (point T i.val i.isLt) (ix4 0 0 k j)) = _ := funext fun k => wgAt_apply m c _ E (blockOf T i) hE' hb k j
  have e3 : (fun k => wuAt m c (point T i.val i.isLt) (ix4 0 0 k j)) = _ := funext fun k => wuAt_apply m c _ E (blockOf T i) hE' hb k j
  have e4 := wdAt_apply m c (point T i.val i.isLt) E (blockOf T i) hE' hb j n
  rw [e1, e2, e3, e4]

end Cert.Experts

end
-- ==== Proof.ExpFinal.lean ====
/-
  The experts' kernel ends with the reference's result: a row of an expert's token holds that expert's, every other row zero.
-/
module

public import proofs.«01_k».proof.Proof.ExpPre
public import proofs.«01_k».proof.Proof.ExpSum

@[expose] public section

set_option maxRecDepth 16384

noncomputable section

open Idealize.ShloMosaic Idealize.ShloMosaic.TcCoe Idealize.ShloMosaic.Tactic
open Cert.Kernel2Ideal Cert.Kernel2Ideal.Gen
open Cert.Swa (IsFin)

namespace Cert.Experts

section Values
variable {x : S40960x1024.Idx → EReal} {n : IVec S8 32} {wg wu : S2x8x1024x3584.Idx → EReal} {wd : S2x8x3584x1024.Idx → EReal} {k : Fin 8 → ℕ}

/-- With finite rows and gate weights the kernel's form of an expert's result is the reference's. -/
theorem ffn_plain (h : Good x n wg k) (E : Fin 8) (p : Fin 40960) (q : Fin 1024) : ffn x wg wu wd E p q = plain x wg wu wd E p q := by
  unfold ffn plain
  refine Finset.sum_congr rfl fun f _ => ?_
  obtain ⟨r, hr⟩ : IsFin (∑ i : Fin 1024, x (ix2 p i) * wg (ix4 0 E i f)) := IsFin.sum _ _ fun i => (h.row p i).mul (h.gate E i f)
  unfold lane silu
  rw [hr, gate_coe]

theorem ffn_none (E : Fin 8) (p : Fin 40960) (q : Fin 1024) (h : ∀ i, x (ix2 p i) = 0) : ffn x wg wu wd E p q = 0 := by
  unfold ffn
  refine Finset.sum_eq_zero fun f _ => ?_
  have e : (fun i => x (ix2 p i)) = fun _ => 0 := funext h
  rw [e, lane_zero]

theorem total_token (h : Good x n wg k) (T : Fin 40) (r q : Fin 1024) (E : Fin 8) (hT : Token k E (1024 * T.val + r.val)) :
    total x n wg wu wd (ix2 ⟨1024 * T.val + r.val, by omega⟩ q) = plain x wg wu wd E ⟨1024 * T.val + r.val, by omega⟩ q := by
  rw [total_apply, Finset.sum_eq_single E]
  · rw [if_pos ((group_word h.counts _ E).mpr hT)]
  · intro e _ he
    rw [if_neg]
    exact fun hh => he (token_one h.counts T r e E ((group_word h.counts _ e).mp hh) hT)
  · exact fun hh => absurd (Finset.mem_univ E) hh

theorem total_none (h : Good x n wg k) (p : Fin 40960) (q : Fin 1024) (hn : ∀ e, ¬ Token k e p.val) : total x n wg wu wd (ix2 p q) = (0 : EReal) := by
  rw [total_apply]
  exact Finset.sum_eq_zero fun e _ => if_neg fun hh => hn e ((group_word h.counts _ e).mp hh)
end Values

variable (m : (ℓ : Loc nD τ sig) → Buf (Elt Ideal) ℓ)

theorem expert_table (T : Fin 40) : expertAt (tables m) T = expertOf (counts m 0) (ix1 T) := congrFun (V_v19 m 0) (ix1 T)
theorem valid_table (T : Fin 40) : validAt (tables m) T = validOf (counts m 0) (ix1 T) := congrFun (V_v41 m 0) (ix1 T)
theorem used_table : usedAt (tables m) = usedOf (counts m 0) ix0 := by
  refine (congrFun (V_v42 m 0) (ix1 (0 : Fin 1))).trans ?_
  generalize usedOf (counts m 0) = u
  exact congrArg u (funext fun i => i.elim0)

theorem device (c : Dev nD) : c = 0 := Subsingleton.elim (α := Fin 1) c 0

theorem row_split (j : S40960x1024.Idx) : ∃ (T : Fin 40) (r q : Fin 1024), j = ix2 ⟨1024 * T.val + r.val, by omega⟩ q := by
  have h0 : (j 0).val < 40960 := (j 0).isLt
  refine ⟨⟨(j 0).val / 1024, by omega⟩, ⟨(j 0).val % 1024, by omega⟩, j 1, funext fun a => ?_⟩
  fin_cases a
  · exact Fin.ext (show (j 0).val = 1024 * ((j 0).val / 1024) + (j 0).val % 1024 by omega)
  · rfl

/-- Under the precondition the kernel's result is the reference's. -/
theorem result_eq (c : Dev nD) (k : Fin 8 → ℕ)
    (h : Good (m ((c : Thread nD τ).loc main_arg0)) (m ((c : Thread nD τ).loc main_arg1)) (m ((c : Thread nD τ).loc main_arg2)) k) :
    (dats m 0 c).arrAt 4 (cfgT m).N
      = total (m ((c : Thread nD τ).loc main_arg0)) (m ((c : Thread nD τ).loc main_arg1)) (m ((c : Thread nD τ).loc main_arg2)) (m ((c : Thread nD τ).loc main_arg3)) (m ((c : Thread nD τ).loc main_arg4)) := by
  have hc := device c
  subst hc
  funext j
  obtain ⟨T, r, q, rfl⟩ := row_split j
  refine (out_apply m 0 T r q).trans ?_
  by_cases hT : ∃ E, Token k E (1024 * T.val + r.val)
  · obtain ⟨E, hT⟩ := hT
    obtain ⟨h1, h2⟩ := token_row h.counts T r E hT
    have hE : (expertAt (tables m) T).toNat = E.val := by
      rw [expert_table, h1, BitVec.toNat_ofNat]
      exact Nat.mod_eq_of_lt (by omega)
    have hu : (T.val : ℤ) < (usedAt (tables m)).toInt := by
      rw [used_table]
      exact works_used _ T r.val h2
    rw [if_pos (by rw [valid_table]; exact h2), tile_value m 0 T r q E hE hu]
    exact (ffn_plain h E _ q).trans (total_token h T r q E hT).symm
  · have hn : ∀ e, ¬ Token k e (1024 * T.val + r.val) := fun e he => hT ⟨e, he⟩
    refine Eq.trans ?_ (total_none h ⟨1024 * T.val + r.val, by omega⟩ q hn).symm
    split
    · next hw =>
      rw [valid_table] at hw
      have hu : (T.val : ℤ) < (usedAt (tables m)).toInt := by
        rw [used_table]
        exact works_used _ T r.val hw
      have h7 : (expertAt (tables m) T).toNat ≤ 7 := by
        rw [expert_table]
        exact expert_le _ T
      rw [tile_value m 0 T r q ⟨(expertAt (tables m) T).toNat, by omega⟩ rfl hu]
      exact ffn_none _ _ q fun i => h.none _ hn i
    · rfl

end Cert.Experts

end
-- ==== Proof.FfnRef.lean ====
/-
  The reference's dense feed-forward part with its residual and layer norm, over named parts and at an index.
-/
module

public import proofs.«01_k».proof.Proof.ExpRef
public import proofs.«01_k».proof.Proof.Core
public import proofs.«01_k».proof.Proof.Gen.Reference3Ideal.Run
public import Idealize.ShloMosaic.Lib.IdealHost
public import Idealize.ShloMosaic.Lib.Pointwise
public import Idealize.ShloMosaic.Lib.Tactic

@[expose] public section

set_option maxRecDepth 65536

noncomputable section

open Idealize.ShloMosaic Idealize.ShloMosaic.TcCoe Idealize.ShloMosaic.Pointwise Idealize.ShloMosaic.Tactic
open Cert.Reference3Ideal Cert.Reference3Ideal.Gen Cert.Reference3Ideal.Value

namespace Cert.Ffn

/-- The sum of a row over the number of its entries. -/
def mean (y : Fin 1024 → EReal) : EReal := Ideal.div (∑ k, y k) (Ideal.ofBits .f32 0x44800000#32)

/-- The layer norm of a row. -/
def norm (y g b : Fin 1024 → EReal) (n : Fin 1024) : EReal :=
  (y n - mean y) * Ideal.rsqrt (mean (fun k => (y k - mean y) * (y k - mean y)) + Ideal.ofBits .f32 0x3727C5AC#32) * g n + b n

/-- One row's feed-forward values with the residual, as the reference computes them. -/
def resid (x : Fin 1024 → EReal) (wg wu : Fin 1024 → Fin 2816 → EReal) (wd : Fin 2816 → Fin 1024 → EReal) (n : Fin 1024) : EReal :=
  Ideal.ofBits .f32 0x3FD744FD#32 * x n + ∑ f : Fin 2816, Experts.silu (∑ k, x k * wg k f) * (∑ k, x k * wu k f) * wd f n

/-- The residual's array. -/
def sumArr (x : FVec Ideal S16384x1024 .f32) (wg wu : FVec Ideal S1024x2816 .f32) (wd : FVec Ideal S2816x1024 .f32) : FVec Ideal S16384x1024 .f32 :=
  addf (mulf (broadcastInDim S16384x1024 ![] bcast_S_S16384x1024 (constant S_ .f32 0x3FD744FD#32)) x)
    (Host.dotGeneral dot_S16384x2816_S2816x1024_S16384x1024_1_0_0_1_n_n none
      (mulf (mulf (Host.dotGeneral dot_S16384x1024_S1024x2816_S16384x2816_1_0_0_1_n_n none x wg)
        (Host.divf (broadcastInDim S16384x2816 ![] bcast_S_S16384x2816 (constant S_ .f32 0x3F800000#32)) (addf (broadcastInDim S16384x2816 ![] bcast_S_S16384x2816 (constant S_ .f32 0x3F800000#32))
          (Host.exp (Host.negf (Host.dotGeneral dot_S16384x1024_S1024x2816_S16384x2816_1_0_0_1_n_n none x wg))))))
        (Host.dotGeneral dot_S16384x1024_S1024x2816_S16384x2816_1_0_0_1_n_n none x wu)) wd)

/-- The mean of every row, as one column. -/
def meanArr (y : FVec Ideal S16384x1024 .f32) : FVec Ideal S16384x1 .f32 :=
  Host.divf (broadcastInDim S16384x1 ![0] bcast_S16384_S16384x1_0 (Host.reduceAdd y (constant S_ .f32 0x00000000#32) reducesTo_S16384x1024_S16384_d1 h_S_))
    (broadcastInDim S16384x1 ![] bcast_S_S16384x1 (constant S_ .f32 0x44800000#32))

/-- Every row less its mean. -/
def devArr (y : FVec Ideal S16384x1024 .f32) : FVec Ideal S16384x1024 .f32 :=
  subf y (broadcastInDim S16384x1024 ![0, 1] bcast_S16384x1_S16384x1024_0_1 (meanArr y))

/-- A row of a two-row table, spread over the rows. -/
def rowArr (g : FVec Ideal S2x1024 .f32) : FVec Ideal S16384x1024 .f32 :=
  broadcastInDim S16384x1024 ![0, 1] bcast_S1x1024_S16384x1024_0_1 (broadcastInDim S1x1024 ![1] bcast_S1024_S1x1024_1
    (shapeCast S1024 (extractStridedSlice S1x1024 ![1, 0] g slices_S2x1024_S1x1024_1_0) shapeCasts_S1x1024_S1024))

/-- The layer norm of every row. -/
def normArr (y : FVec Ideal S16384x1024 .f32) (g b : FVec Ideal S2x1024 .f32) : FVec Ideal S16384x1024 .f32 :=
  addf (mulf (mulf (devArr y) (broadcastInDim S16384x1024 ![0, 1] bcast_S16384x1_S16384x1024_0_1
    (Host.rsqrt (addf (meanArr (mulf (devArr y) (devArr y))) (broadcastInDim S16384x1 ![] bcast_S_S16384x1 (constant S_ .f32 0x3727C5AC#32)))))) (rowArr g)) (rowArr b)

/-- The activations as rows. -/
def rowsOf (x : FVec Ideal S2x8192x1024 .f32) : FVec Ideal S16384x1024 .f32 := shapeCast _ x shapeCasts_S2x8192x1024_S16384x1024

/-- The reference ends with its result over these parts, its arguments as they were. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v36) = normArr (sumArr (rowsOf (m ((c.tc : Thread nD τ).loc main_arg0))) (m ((c.tc : Thread nD τ).loc main_arg1)) (m ((c.tc : Thread nD τ).loc main_arg2)) (m ((c.tc : Thread nD τ).loc main_arg3)))
        (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (by sl_kernel_rfl), (h c).2⟩) (Cert.Reference3Ideal.Value.run (F := Ideal) m ρ)

theorem sumArr_apply (x : FVec Ideal S16384x1024 .f32) (wg wu : FVec Ideal S1024x2816 .f32) (wd : FVec Ideal S2816x1024 .f32) (p : Fin 16384) (n : Fin 1024) :
    sumArr x wg wu wd (ix2 p n) = resid (fun k => x (ix2 p k)) (fun k f => wg (ix2 k f)) (fun k f => wu (ix2 k f)) (fun f n => wd (ix2 f n)) n := by
  pointwise [sumArr]
  rfl

theorem meanArr_apply (y : FVec Ideal S16384x1024 .f32) (p : Fin 16384) : meanArr y (ix2 p 0) = mean fun k => y (ix2 p k) := by
  pointwise [meanArr]
  try rfl

theorem devArr_apply (y : FVec Ideal S16384x1024 .f32) (p : Fin 16384) (n : Fin 1024) : devArr y (ix2 p n) = (y (ix2 p n) - mean fun k => y (ix2 p k) : EReal) := by
  rw [← meanArr_apply]
  unfold devArr
  generalize meanArr y = u
  pointwise
  try rfl

theorem rowArr_apply (g : FVec Ideal S2x1024 .f32) (p : Fin 16384) (n : Fin 1024) : rowArr g (ix2 p n) = g (ix2 1 n) := by
  pointwise [rowArr]
  try rfl

/-- A row of the reference's result. -/
theorem normArr_apply (y : FVec Ideal S16384x1024 .f32) (g b : FVec Ideal S2x1024 .f32) (p : Fin 16384) (n : Fin 1024) :
    normArr y g b (ix2 p n) = norm (fun k => y (ix2 p k)) (fun n => g (ix2 1 n)) (fun n => b (ix2 1 n)) n := by
  have e : ∀ (d u v : FVec Ideal S16384x1024 .f32) (s : FVec Ideal S16384x1 .f32),
      addf (mulf (mulf d (broadcastInDim S16384x1024 ![0, 1] bcast_S16384x1_S16384x1024_0_1
        (Host.rsqrt (addf s (broadcastInDim S16384x1 ![] bcast_S_S16384x1 (constant S_ .f32 0x3727C5AC#32)))))) u) v (ix2 p n)
      = (d (ix2 p n) * Ideal.rsqrt (s (ix2 p 0) + Ideal.ofBits .f32 0x3727C5AC#32) * u (ix2 p n) + v (ix2 p n) : EReal) := by
    intro d u v s
    pointwise
    try rfl
  unfold normArr
  rw [e, rowArr_apply, rowArr_apply, devArr_apply, meanArr_apply]
  have e' : ∀ k : Fin 1024, mulf (devArr y) (devArr y) (ix2 p k) = (devArr y (ix2 p k) * devArr y (ix2 p k) : EReal) := fun _ => rfl
  simp only [e', devArr_apply]
  rfl

/-! ## A row with an infinite entry -/

/-- One of the two infinities. -/
def Inf (x : EReal) : Prop := x = ⊤ ∨ x = ⊥

theorem inf_add {x : EReal} (h : Inf x) (y : EReal) : Inf (x + y) := by
  rcases h with rfl | rfl
  · induction y using EReal.rec with
    | bot => right; rfl
    | top => left; rfl
    | coe r => left; exact EReal.top_add_coe r
  · right
    exact EReal.bot_add y

theorem add_inf (x : EReal) {y : EReal} (h : Inf y) : Inf (x + y) := by
  rw [add_comm]
  exact inf_add h x

theorem inf_neg {x : EReal} (h : Inf x) : Inf (-x) := by
  rcases h with rfl | rfl
  · right; rfl
  · left; rfl

theorem inf_scale {r : ℝ} (hr : 0 < r) {x : EReal} (h : Inf x) : Inf ((r : EReal) * x) := by
  rcases h with rfl | rfl
  · left; exact EReal.coe_mul_top_of_pos hr
  · right; exact EReal.coe_mul_bot_of_pos hr

theorem inf_square {x : EReal} (h : Inf x) : x * x = ⊤ := by
  rcases h with rfl | rfl
  · rfl
  · rfl

theorem fin_or_inf (x : EReal) : Swa.IsFin x ∨ Inf x := by
  induction x using EReal.rec with
  | bot => right; right; rfl
  | top => right; left; rfl
  | coe r => left; exact ⟨r, rfl⟩

theorem count_word : Ideal.ofBits .f32 0x44800000#32 = ((1024 : ℝ) : EReal) := by
  simp [Ideal.ofBits, Ideal.ieee, -EReal.coe_mul]; norm_num

theorem alpha_word : ∃ r : ℝ, 0 < r ∧ Ideal.ofBits .f32 0x3FD744FD#32 = (r : EReal) := by
  refine ⟨14107901 / 8388608, by norm_num, ?_⟩
  simp [Ideal.ofBits, Ideal.ieee, -EReal.coe_mul]; norm_num

theorem eps_word : ∃ r : ℝ, Ideal.ofBits .f32 0x3727C5AC#32 = (r : EReal) := by
  refine ⟨10995116 / 1099511627776, ?_⟩
  simp [Ideal.ofBits, Ideal.ieee, -EReal.coe_mul]; norm_num

theorem mean_inf {y : Fin 1024 → EReal} {k : Fin 1024} (h : Inf (y k)) : Inf (mean y) := by
  unfold mean
  rw [count_word, Ideal.div_coe (by norm_num), mul_comm]
  refine inf_scale (by norm_num) ?_
  rw [← Finset.add_sum_erase _ _ (Finset.mem_univ k)]
  exact inf_add h _

theorem mean_top : mean (fun _ => ⊤) = ⊤ := by
  unfold mean
  rw [count_word, Ideal.div_coe (by norm_num), mul_comm]
  have e : (∑ _k : Fin 1024, (⊤ : EReal)) = ⊤ := by
    rw [← Finset.add_sum_erase _ _ (Finset.mem_univ (0 : Fin 1024))]
    refine EReal.top_add_of_ne_bot fun hb => ?_
    have h0 : (0 : EReal) ≤ ∑ _k ∈ Finset.univ.erase (0 : Fin 1024), (⊤ : EReal) := Finset.sum_nonneg fun _ _ => le_top
    rw [hb] at h0
    exact absurd h0 (by simp)
  rw [e]
  exact EReal.coe_mul_top_of_pos (by norm_num)

/-- A row with an infinite entry is left with the shift alone. -/
theorem norm_inf {y : Fin 1024 → EReal} {k : Fin 1024} (h : Inf (y k)) (g b : Fin 1024 → EReal) (n : Fin 1024) : norm y g b n = b n := by
  have hm := mean_inf h
  have hd : (fun k => (y k - mean y) * (y k - mean y)) = fun _ => ⊤ := funext fun k => by
    rw [sub_eq_add_neg]
    exact inf_square (add_inf _ (inf_neg hm))
  obtain ⟨r, hr⟩ := eps_word
  unfold norm
  rw [hd, mean_top, hr, EReal.top_add_coe, Ideal.rsqrt_top, mul_zero, zero_mul, zero_add]

/-- Where a row has an infinite entry, so have its values with the residual, whatever is added. -/
theorem resid_inf {x : Fin 1024 → EReal} {k : Fin 1024} (h : Inf (x k)) (s : EReal) : Inf (Ideal.ofBits .f32 0x3FD744FD#32 * x k + s) := by
  obtain ⟨r, hr, e⟩ := alpha_word
  rw [e]
  exact inf_add (inf_scale hr h) s

end Cert.Ffn

end
-- ==== Proof.FfnBody.lean ====
/-
  The dense feed-forward kernel's body at an index: both halves of a block are the layer norm of the residual's rows.
-/
module

public import proofs.«01_k».proof.Proof.ExpPart
public import proofs.«01_k».proof.Proof.FfnRef
public import proofs.«01_k».proof.Proof.Gen.Kernel3Ideal.Value
public import Idealize.ShloMosaic.Lib.Pointwise
public import Idealize.ShloMosaic.Lib.Tactic

@[expose] public section

set_option maxRecDepth 65536

noncomputable section

open Idealize.ShloMosaic Idealize.ShloMosaic.TcCoe Idealize.ShloMosaic.Pointwise Idealize.ShloMosaic.Tactic
open Cert.Kernel3Ideal Cert.Kernel3Ideal.Gen

namespace Cert.Ffn

open Cert.Experts (lane gate)

section Halves
variable {F : FTy → Type} [FloatOps F]

/-- What 512 hidden columns add to a half block. -/
def part (x : Vec F S512x1024 .f32) (wg wu : Vec F S1024x512 .bf16) (wd : Vec F S512x1024 .bf16) : FVec F S512x1024 .f32 := k0_pay8 x wg wu wd

/-- What the last 256 hidden columns add to a half block. -/
def tail (x : Vec F S512x1024 .f32) (wg wu : Vec F S1024x256 .bf16) (wd : Vec F S256x1024 .bf16) : FVec F S512x1024 .f32 :=
  matmul dot_S512x256_S256x1024_S512x1024_1_0_0_1_n_n none
    (truncf .bf16 (mulf (k0_pay31 (k0_pay3 x) wg) (matmul dot_S512x1024_S1024x256_S512x256_1_0_0_1_n_n none (k0_pay3 x) (k0_pay29 wu) (constant S512x256 .f32 0x00000000#32))) bitsLt_bf16_f32)
    (k0_pay30 wd) (constant S512x1024 .f32 0x00000000#32)

/-- All of the hidden columns' parts of a half block. -/
def acc (x : Vec F S512x1024 .f32) (wg wu : Vec F S1024x2816 .bf16) (wd : Vec F S2816x1024 .bf16) : FVec F S512x1024 .f32 :=
  addf (addf (addf (addf (addf (part x (View.ld wg r0_2) (View.ld wu r0_2) (View.ld wd r0_3)) (part x (View.ld wg r0_4) (View.ld wu r0_4) (View.ld wd r0_5)))
    (part x (View.ld wg r0_6) (View.ld wu r0_6) (View.ld wd r0_7))) (part x (View.ld wg r0_8) (View.ld wu r0_8) (View.ld wd r0_9)))
    (part x (View.ld wg r0_10) (View.ld wu r0_10) (View.ld wd r0_11))) (tail x (View.ld wg r0_12) (View.ld wu r0_12) (View.ld wd r0_13))

/-- What a half block is stored as. -/
def half (x : Vec F S512x1024 .f32) (wg wu : Vec F S1024x2816 .bf16) (wd : Vec F S2816x1024 .bf16) (g b : Vec F S1x1024 .f32) : FVec F S512x1024 .f32 :=
  k0_pay2 (acc x wg wu wd) x (View.ld g r0_14) (View.ld b r0_14)

/-- The body's stores, last first. -/
theorem out_halves (x : Vec F S1024x1024 .f32) (wg wu : Vec F S1024x2816 .bf16) (wd : Vec F S2816x1024 .bf16) (g b : Vec F S1x1024 .f32) :
    out0_6 x wg wu wd g b = View.canon [⟨r0_1, half (View.ld x r0_1) wg wu wd g b⟩, ⟨r0_0, half (View.ld x r0_0) wg wu wd g b⟩] := by
  sl_kernel_rfl
end Halves

theorem part_apply (x : Vec Ideal S512x1024 .f32) (wg wu : Vec Ideal S1024x512 .bf16) (wd : Vec Ideal S512x1024 .bf16) (r : Fin 512) (n : Fin 1024) :
    part x wg wu wd (ix2 r n) = ∑ j : Fin 512, lane (fun k => x (ix2 r k)) (fun k => wg (ix2 k j)) (fun k => wu (ix2 k j)) (wd (ix2 j n)) := by
  pointwise [part, k0_pay8, k0_pay3, k0_pay5, k0_pay6, k0_pay7, lane, gate]

theorem tail_apply (x : Vec Ideal S512x1024 .f32) (wg wu : Vec Ideal S1024x256 .bf16) (wd : Vec Ideal S256x1024 .bf16) (r : Fin 512) (n : Fin 1024) :
    tail x wg wu wd (ix2 r n) = ∑ j : Fin 256, lane (fun k => x (ix2 r k)) (fun k => wg (ix2 k j)) (fun k => wu (ix2 k j)) (wd (ix2 j n)) := by
  pointwise [tail, k0_pay31, k0_pay3, k0_pay28, k0_pay29, k0_pay30, lane, gate]

/-- A sum over the hidden columns, by the kernel's chunks. -/
theorem sum_chunks (L : Fin 2816 → EReal) : ∑ f, L f =
    (∑ j : Fin 512, L ⟨0 + j.val, by omega⟩) + (∑ j : Fin 512, L ⟨512 + j.val, by omega⟩) + (∑ j : Fin 512, L ⟨1024 + j.val, by omega⟩)
      + (∑ j : Fin 512, L ⟨1536 + j.val, by omega⟩) + (∑ j : Fin 512, L ⟨2048 + j.val, by omega⟩) + (∑ j : Fin 256, L ⟨2560 + j.val, by omega⟩) := by
  have e5 := Fin.sum_univ_add (a := 2560) (b := 256) L
  have e4 := Fin.sum_univ_add (a := 2048) (b := 512) fun i : Fin 2560 => L ⟨i.val, by omega⟩
  have e3 := Fin.sum_univ_add (a := 1536) (b := 512) fun i : Fin 2048 => L ⟨i.val, by omega⟩
  have e2 := Fin.sum_univ_add (a := 1024) (b := 512) fun i : Fin 1536 => L ⟨i.val, by omega⟩
  have e1 := Fin.sum_univ_add (a := 512) (b := 512) fun i : Fin 1024 => L ⟨i.val, by omega⟩
  have e0 : (∑ j : Fin 512, L ⟨0 + j.val, by omega⟩) = ∑ j : Fin 512, L ⟨j.val, by omega⟩ := Finset.sum_congr rfl fun j _ => congrArg L (Fin.ext (Nat.zero_add _))
  rw [e0]
  refine e5.trans (congrArg (· + _) (e4.trans (congrArg (· + _) (e3.trans (congrArg (· + _) (e2.trans (congrArg (· + _) e1)))))))

section Loads
variable {α : EltTy}

theorem ld_in (w : Vec Ideal S1024x2816 α) (o : ℕ) (ho : o + 512 ≤ 2816) (h : ∀ a, (![0, o] : Fin 2 → Nat) a + S1024x512.size a ≤ S1024x2816.size a) (k : Fin 1024) (j : Fin 512) :
    View.ld w (Rect.unit (s := S1024x2816) ![0, o] S1024x512.size h) (ix2 k j) = w (ix2 k ⟨o + j.val, by omega⟩) := by
  refine congrArg w (funext fun a => Fin.ext ?_)
  fin_cases a
  · show 0 + 1 * k.val = k.val
    omega
  · show o + 1 * j.val = o + j.val
    omega

theorem ld_in_tail (w : Vec Ideal S1024x2816 α) (h : ∀ a, (![0, 2560] : Fin 2 → Nat) a + S1024x256.size a ≤ S1024x2816.size a) (k : Fin 1024) (j : Fin 256) :
    View.ld w (Rect.unit (s := S1024x2816) ![0, 2560] S1024x256.size h) (ix2 k j) = w (ix2 k ⟨2560 + j.val, by omega⟩) := by
  refine congrArg w (funext fun a => Fin.ext ?_)
  fin_cases a
  · show 0 + 1 * k.val = k.val
    omega
  · show 2560 + 1 * j.val = 2560 + j.val
    omega

theorem ld_out (w : Vec Ideal S2816x1024 α) (o : ℕ) (ho : o + 512 ≤ 2816) (h : ∀ a, (![o, 0] : Fin 2 → Nat) a + S512x1024.size a ≤ S2816x1024.size a) (j : Fin 512) (n : Fin 1024) :
    View.ld w (Rect.unit (s := S2816x1024) ![o, 0] S512x1024.size h) (ix2 j n) = w (ix2 ⟨o + j.val, by omega⟩ n) := by
  refine congrArg w (funext fun a => Fin.ext ?_)
  fin_cases a
  · show o + 1 * j.val = o + j.val
    omega
  · show 0 + 1 * n.val = n.val
    omega

theorem ld_out_tail (w : Vec Ideal S2816x1024 α) (h : ∀ a, (![2560, 0] : Fin 2 → Nat) a + S256x1024.size a ≤ S2816x1024.size a) (j : Fin 256) (n : Fin 1024) :
    View.ld w (Rect.unit (s := S2816x1024) ![2560, 0] S256x1024.size h) (ix2 j n) = w (ix2 ⟨2560 + j.val, by omega⟩ n) := by
  refine congrArg w (funext fun a => Fin.ext ?_)
  fin_cases a
  · show 2560 + 1 * j.val = 2560 + j.val
    omega
  · show 0 + 1 * n.val = n.val
    omega

theorem ld_half (x : Vec Ideal S1024x1024 α) (o : ℕ) (ho : o + 512 ≤ 1024) (h : ∀ a, (![o, 0] : Fin 2 → Nat) a + S512x1024.size a ≤ S1024x1024.size a) (r : Fin 512) (n : Fin 1024) :
    View.ld x (Rect.unit (s := S1024x1024) ![o, 0] S512x1024.size h) (ix2 r n) = x (ix2 ⟨o + r.val, by omega⟩ n) := by
  refine congrArg x (funext fun a => Fin.ext ?_)
  fin_cases a
  · show o + 1 * r.val = o + r.val
    omega
  · show 0 + 1 * n.val = n.val
    omega

theorem ld_row (x : Vec Ideal S1x1024 α) (n : Fin 1024) : View.ld x r0_14 (ix2 0 n) = x (ix2 0 n) := by
  refine congrArg x (funext fun a => Fin.ext ?_)
  fin_cases a
  · rfl
  · show 0 + 1 * n.val = n.val
    omega
end Loads

/-- One row's feed-forward values with the residual, as the kernel computes them. -/
def kept (x : Fin 1024 → EReal) (wg wu : Fin 1024 → Fin 2816 → EReal) (wd : Fin 2816 → Fin 1024 → EReal) (n : Fin 1024) : EReal :=
  Ideal.ofBits .f32 0x3FD744FD#32 * x n + ∑ f : Fin 2816, lane x (fun k => wg k f) (fun k => wu k f) (wd f n)

theorem lane_eq (x : Fin 1024 → EReal) {a a' b b' : Fin 1024 → EReal} {c c' : EReal} (ha : ∀ k, a k = a' k) (hb : ∀ k, b k = b' k) (hc : c = c') : lane x a b c = lane x a' b' c' := by
  rw [funext ha, funext hb, hc]

theorem acc_apply (x : Vec Ideal S512x1024 .f32) (wg wu : Vec Ideal S1024x2816 .bf16) (wd : Vec Ideal S2816x1024 .bf16) (r : Fin 512) (n : Fin 1024) :
    acc x wg wu wd (ix2 r n) = ∑ f : Fin 2816, lane (fun k => x (ix2 r k)) (fun k => wg (ix2 k f)) (fun k => wu (ix2 k f)) (wd (ix2 f n)) := by
  have e : ∀ a b : FVec Ideal S512x1024 .f32, addf a b (ix2 r n) = (a (ix2 r n) + b (ix2 r n) : EReal) := fun _ _ => rfl
  unfold acc
  rw [e, e, e, e, e, part_apply, part_apply, part_apply, part_apply, part_apply, tail_apply, sum_chunks]
  exact congrArg₂ (· + ·) (congrArg₂ (· + ·) (congrArg₂ (· + ·) (congrArg₂ (· + ·) (congrArg₂ (· + ·) (Finset.sum_congr rfl fun j _ => lane_eq _ (fun k => ld_in wg 0 (by omega) _ k j) (fun k => ld_in wu 0 (by omega) _ k j) (ld_out wd 0 (by omega) _ j n))
    (Finset.sum_congr rfl fun j _ => lane_eq _ (fun k => ld_in wg 512 (by omega) _ k j) (fun k => ld_in wu 512 (by omega) _ k j) (ld_out wd 512 (by omega) _ j n)))
    (Finset.sum_congr rfl fun j _ => lane_eq _ (fun k => ld_in wg 1024 (by omega) _ k j) (fun k => ld_in wu 1024 (by omega) _ k j) (ld_out wd 1024 (by omega) _ j n)))
    (Finset.sum_congr rfl fun j _ => lane_eq _ (fun k => ld_in wg 1536 (by omega) _ k j) (fun k => ld_in wu 1536 (by omega) _ k j) (ld_out wd 1536 (by omega) _ j n)))
    (Finset.sum_congr rfl fun j _ => lane_eq _ (fun k => ld_in wg 2048 (by omega) _ k j) (fun k => ld_in wu 2048 (by omega) _ k j) (ld_out wd 2048 (by omega) _ j n)))
    (Finset.sum_congr rfl fun j _ => lane_eq _ (fun k => ld_in_tail wg _ k j) (fun k => ld_in_tail wu _ k j) (ld_out_tail wd _ j n))

theorem norm_apply (a x : Vec Ideal S512x1024 .f32) (g b : Vec Ideal S1x1024 .f32) (r : Fin 512) (n : Fin 1024) :
    k0_pay2 a x g b (ix2 r n) = norm (fun k => Ideal.ofBits .f32 0x3FD744FD#32 * x (ix2 r k) + a (ix2 r k)) (fun n => g (ix2 0 n)) (fun n => b (ix2 0 n)) n := by
  pointwise [k0_pay2]
  try rfl

theorem half_apply (x : Vec Ideal S512x1024 .f32) (wg wu : Vec Ideal S1024x2816 .bf16) (wd : Vec Ideal S2816x1024 .bf16) (g b : Vec Ideal S1x1024 .f32) (r : Fin 512) (n : Fin 1024) :
    half x wg wu wd g b (ix2 r n) = norm (kept (fun k => x (ix2 r k)) (fun k f => wg (ix2 k f)) (fun k f => wu (ix2 k f)) (fun f n => wd (ix2 f n))) (fun n => g (ix2 0 n)) (fun n => b (ix2 0 n)) n := by
  unfold half
  rw [norm_apply]
  have eg : (fun n => View.ld g r0_14 (ix2 0 n)) = fun n => g (ix2 0 n) := funext fun n => ld_row g n
  have eb : (fun n => View.ld b r0_14 (ix2 0 n)) = fun n => b (ix2 0 n) := funext fun n => ld_row b n
  simp only [acc_apply]
  exact congrArg₂ (fun u v => norm (kept (fun k => x (ix2 r k)) (fun k f => wg (ix2 k f)) (fun k f => wu (ix2 k f)) (fun f n => wd (ix2 f n))) u v n) eg eb

/-- The body's block, a row at a time. -/
theorem out_apply (x : Vec Ideal S1024x1024 .f32) (wg wu : Vec Ideal S1024x2816 .bf16) (wd : Vec Ideal S2816x1024 .bf16) (g b : Vec Ideal S1x1024 .f32) (r n : Fin 1024) :
    out0_6 x wg wu wd g b (ix2 r n) = norm (kept (fun k => x (ix2 r k)) (fun k f => wg (ix2 k f)) (fun k f => wu (ix2 k f)) (fun f n => wd (ix2 f n))) (fun n => g (ix2 0 n)) (fun n => b (ix2 0 n)) n := by
  rw [out_halves]
  have hx : ∀ (o : ℕ) (ho : o + 512 ≤ 1024) (h : ∀ a, (![o, 0] : Fin 2 → Nat) a + S512x1024.size a ≤ S1024x1024.size a) (r : Fin 512) (n : Fin 1024),
      half (View.ld x (Rect.unit (s := S1024x1024) ![o, 0] S512x1024.size h)) wg wu wd g b (ix2 r n)
        = norm (kept (fun k => x (ix2 ⟨o + r.val, by omega⟩ k)) (fun k f => wg (ix2 k f)) (fun k f => wu (ix2 k f)) (fun f n => wd (ix2 f n))) (fun n => g (ix2 0 n)) (fun n => b (ix2 0 n)) n := by
    intro o ho h r n
    rw [half_apply]
    have e : (fun k => View.ld x (Rect.unit (s := S1024x1024) ![o, 0] S512x1024.size h) (ix2 r k)) = fun k => x (ix2 ⟨o + r.val, by omega⟩ k) := funext fun k => ld_half x o ho h r k
    exact congrArg (fun u => norm (kept u (fun k f => wg (ix2 k f)) (fun k f => wu (ix2 k f)) (fun f n => wd (ix2 f n))) (fun n => g (ix2 0 n)) (fun n => b (ix2 0 n)) n) e
  by_cases hr : r.val < 512
  · have e : (ix2 r n : S1024x1024.Idx) = r0_0.emb (ix2 (⟨r.val, hr⟩ : Fin 512) n) := by
      refine funext fun a => Fin.ext ?_
      fin_cases a
      · show r.val = 0 + 1 * r.val
        omega
      · show n.val = 0 + 1 * n.val
        omega
    rw [View.canon_cons_of_not_mem]
    · rw [e, View.canon_cons_emb]
      refine (hx 0 (by omega) _ ⟨r.val, hr⟩ n).trans ?_
      have e2 : (⟨0 + r.val, by omega⟩ : Fin 1024) = r := Fin.ext (Nat.zero_add _)
      rw [e2]
    · intro hm
      obtain ⟨j, -, hj⟩ := (LoadRect.mem_set (r := r0_1.toLoadRect)).mp hm 0
      have h1 : r.val = 512 + 1 * j := hj
      omega
  · have e : (ix2 r n : S1024x1024.Idx) = r0_1.emb (ix2 (⟨r.val - 512, by omega⟩ : Fin 512) n) := by
      refine funext fun a => Fin.ext ?_
      fin_cases a
      · show r.val = 512 + 1 * (r.val - 512)
        omega
      · show n.val = 0 + 1 * n.val
        omega
    rw [e, View.canon_cons_emb]
    refine (hx 512 (by omega) _ ⟨r.val - 512, by omega⟩ n).trans ?_
    have e2 : (⟨512 + (r.val - 512), by omega⟩ : Fin 1024) = r := Fin.ext (by show 512 + (r.val - 512) = r.val; omega)
    rw [e2]

end Cert.Ffn
-- ==== Proof.FfnFinal.lean ====
/-
  The dense feed-forward kernel's result is the reference's, for finite gate weights.
-/
module

public import proofs.«01_k».proof.Proof.FfnBody
public import proofs.«01_k».proof.Proof.ExpPre
public import proofs.«01_k».proof.Proof.Gen.Pre_finite_gate

@[expose] public section

set_option maxRecDepth 65536

noncomputable section

open Idealize.ShloMosaic Idealize.ShloMosaic.TcCoe Idealize.ShloMosaic.Pointwise Idealize.ShloMosaic.Tactic
open Cert.Kernel3Ideal Cert.Kernel3Ideal.Gen Cert.Kernel3Ideal.Value

namespace Cert.Ffn

open Cert.Swa (IsFin)
open Cert.Experts (lane gate silu gate_coe fin_of_abs)

/-! ## The kernel's result -/

theorem kept_eq {x x' : Fin 1024 → EReal} {wg wg' wu wu' : Fin 1024 → Fin 2816 → EReal} {wd wd' : Fin 2816 → Fin 1024 → EReal} (hx : ∀ k, x k = x' k) (hg : ∀ k f, wg k f = wg' k f)
    (hu : ∀ k f, wu k f = wu' k f) (hd : ∀ f n, wd f n = wd' f n) : kept x wg wu wd = kept x' wg' wu' wd' := by
  rw [funext hx, funext fun k => funext (hg k), funext fun k => funext (hu k), funext fun f => funext (hd f)]

section Points
variable (m : (ℓ : Loc nD τ sig) → Buf (Elt Ideal) ℓ) (c : Dev nD)

theorem V_rows : V m c main_v0 = rowsOf (m ((c : Thread nD τ).loc main_arg0)) := by
  show StableHlo.after hostOps0 _ (Proc.devRef .tc main_v0) = _
  after_results
  rfl
theorem V_gate : V m c main_v1 = (m ((c : Thread nD τ).loc main_arg1) : S1024x2816.Idx → EReal) := by
  show StableHlo.after hostOps0 _ (Proc.devRef .tc main_v1) = _
  after_results
  rfl
theorem V_up : V m c main_v2 = (m ((c : Thread nD τ).loc main_arg2) : S1024x2816.Idx → EReal) := by
  show StableHlo.after hostOps0 _ (Proc.devRef .tc main_v2) = _
  after_results
  rfl
theorem V_down : V m c main_v3 = (m ((c : Thread nD τ).loc main_arg3) : S2816x1024.Idx → EReal) := by
  show StableHlo.after hostOps0 _ (Proc.devRef .tc main_v3) = _
  after_results
  rfl
theorem V_scale : V m c main_v4 = extractStridedSlice S1x1024 ![1, 0] (m ((c : Thread nD τ).loc main_arg4)) slices_S2x1024_S1x1024_1_0 := by
  show StableHlo.after hostOps0 _ (Proc.devRef .tc main_v4) = _
  after_results
theorem V_shift : V m c main_v5 = extractStridedSlice S1x1024 ![1, 0] (m ((c : Thread nD τ).loc main_arg5)) slices_S2x1024_S1x1024_1_0 := by
  show StableHlo.after hostOps0 _ (Proc.devRef .tc main_v5) = _
  after_results

theorem second_row (g : FVec Ideal S2x1024 .f32) (n : Fin 1024) : extractStridedSlice S1x1024 ![1, 0] g slices_S2x1024_S1x1024_1_0 (ix2 0 n) = g (ix2 1 n) := by
  refine congrArg g (funext fun a => Fin.ext ?_)
  fin_cases a
  · rfl
  · show 0 + n.val = n.val
    omega

theorem at_rows : ∀ t : Fin cfg0.N, win0_0.index t 0 = t.val ∧ win0_0.index t 1 = 0 ∧ win0_6.index t 0 = t.val ∧ win0_6.index t 1 = 0 :=
  (by decide +kernel : ∀ t : Fin grid0.N, _)
theorem at_whole : ∀ t : Fin cfg0.N, (win0_1.index t 0 = 0 ∧ win0_1.index t 1 = 0) ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) :=
  (by decide +kernel : ∀ t : Fin grid0.N, _)
theorem at_flush : ∀ t : Fin cfg0.N, win0_6.flush t = true := (by decide +kernel : ∀ t : Fin grid0.N, _)

variable (t : Fin cfg0.N)

theorem lt16 : t.val < 16 := lt_of_lt_of_eq t.isLt N_0

theorem blk_rows (r n : Fin 1024) : iblk m c 0 t (ix2 r n) = rowsOf (m ((c : Thread nD τ).loc main_arg0)) (ix2 ⟨1024 * t.val + r.val, by have := lt16 t; omega⟩ n) := by
  show V m c main_v0 (((cfg0.win 0).blk t).view.emb _) = _
  rw [V_rows]
  refine congrArg _ (funext fun a => Fin.ext ?_)
  obtain ⟨e0, e1, -⟩ := at_rows t
  fin_cases a
  · show win0_0.index t 0 * 1024 + 1 * r.val = 1024 * t.val + r.val; rw [e0]; omega
  · show win0_0.index t 1 * 1024 + 1 * n.val = n.val; rw [e1]; omega

theorem blk_gate (k : Fin 1024) (f : Fin 2816) : iblk m c 1 t (ix2 k f) = (m ((c : Thread nD τ).loc main_arg1) : S1024x2816.Idx → EReal) (ix2 k f) := by
  show V m c main_v1 (((cfg0.win 1).blk t).view.emb _) = _
  rw [V_gate]
  refine congrArg _ (funext fun a => Fin.ext ?_)
  obtain ⟨⟨e0, e1⟩, -⟩ := at_whole t
  fin_cases a
  · show win0_1.index t 0 * 1024 + 1 * k.val = k.val; rw [e0]; omega
  · show win0_1.index t 1 * 2816 + 1 * f.val = f.val; rw [e1]; omega

theorem blk_up (k : Fin 1024) (f : Fin 2816) : iblk m c 2 t (ix2 k f) = (m ((c : Thread nD τ).loc main_arg2) : S1024x2816.Idx → EReal) (ix2 k f) := by
  show V m c main_v2 (((cfg0.win 2).blk t).view.emb _) = _
  rw [V_up]
  refine congrArg _ (funext fun a => Fin.ext ?_)
  obtain ⟨-, ⟨e0, e1⟩, -⟩ := at_whole t
  fin_cases a
  · show win0_2.index t 0 * 1024 + 1 * k.val = k.val; rw [e0]; omega
  · show win0_2.index t 1 * 2816 + 1 * f.val = f.val; rw [e1]; omega

theorem blk_down (f : Fin 2816) (n : Fin 1024) : iblk m c 3 t (ix2 f n) = (m ((c : Thread nD τ).loc main_arg3) : S2816x1024.Idx → EReal) (ix2 f n) := by
  show V m c main_v3 (((cfg0.win 3).blk t).view.emb _) = _
  rw [V_down]
  refine congrArg _ (funext fun a => Fin.ext ?_)
  obtain ⟨-, -, ⟨e0, e1⟩, -⟩ := at_whole t
  fin_cases a
  · show win0_3.index t 0 * 2816 + 1 * f.val = f.val; rw [e0]; omega
  · show win0_3.index t 1 * 1024 + 1 * n.val = n.val; rw [e1]; omega

theorem blk_scale (n : Fin 1024) : iblk m c 4 t (ix2 0 n) = (m ((c : Thread nD τ).loc main_arg4) : S2x1024.Idx → EReal) (ix2 1 n) := by
  show V m c main_v4 (((cfg0.win 4).blk t).view.emb _) = _
  rw [V_scale]
  refine Eq.trans (congrArg _ (funext fun a => Fin.ext ?_)) (second_row _ n)
  obtain ⟨-, -, -, ⟨e0, e1⟩, -⟩ := at_whole t
  fin_cases a
  · show win0_4.index t 0 * 1 + 1 * 0 = 0; rw [e0]
  · show win0_4.index t 1 * 1024 + 1 * n.val = n.val; rw [e1]; omega

theorem blk_shift (n : Fin 1024) : iblk m c 5 t (ix2 0 n) = (m ((c : Thread nD τ).loc main_arg5) : S2x1024.Idx → EReal) (ix2 1 n) := by
  show V m c main_v5 (((cfg0.win 5).blk t).view.emb _) = _
  rw [V_shift]
  refine Eq.trans (congrArg _ (funext fun a => Fin.ext ?_)) (second_row _ n)
  obtain ⟨-, -, -, -, ⟨e0, e1⟩⟩ := at_whole t
  fin_cases a
  · show win0_5.index t 0 * 1 + 1 * 0 = 0; rw [e0]
  · show win0_5.index t 1 * 1024 + 1 * n.val = n.val; rw [e1]; omega

theorem emb_out (r n : Fin 1024) : ((cfg0.win 6).blk t).view.emb (ix2 r n) = (ix2 ⟨1024 * t.val + r.val, by have := lt16 t; omega⟩ n : S16384x1024.Idx) := by
  obtain ⟨-, -, e0, e1⟩ := at_rows t
  refine funext fun a => Fin.ext ?_
  fin_cases a
  · show win0_6.index t 0 * 1024 + 1 * r.val = 1024 * t.val + r.val; rw [e0]; omega
  · show win0_6.index t 1 * 1024 + 1 * n.val = n.val; rw [e1]; omega

theorem cut_out (o : Vec Ideal S1024x1024 .f32) (r n : Fin 1024) : (cfg0.win 6).cut (grid0.coords t) o (ix2 r n) = o (ix2 r n) := rfl

theorem result_block (r n : Fin 1024) :
    (dats m 0 c).arrAt 6 cfg0.N (ix2 ⟨1024 * t.val + r.val, by have := lt16 t; omega⟩ n : S16384x1024.Idx)
      = out0_6 (F := Ideal) (iblk m c 0 t) (iblk m c 1 t) (iblk m c 2 t) (iblk m c 3 t) (iblk m c 4 t) (iblk m c 5 t) (ix2 r n) := by
  have h := (dats m 0 c).arrAt_emb_eq_flushed 6 disjoint6 t (at_flush t) (ix2 r n)
  rw [flushed6] at h
  generalize out0_6 (F := Ideal) (iblk m c 0 t) (iblk m c 1 t) (iblk m c 2 t) (iblk m c 3 t) (iblk m c 4 t) (iblk m c 5 t) = o at h ⊢
  rw [emb_out] at h
  exact h.trans (cut_out t o r n)

/-- The result array at a row of a point's block. -/
theorem result_at (r n : Fin 1024) :
    (dats m 0 c).arrAt 6 cfg0.N (ix2 ⟨1024 * t.val + r.val, by have := lt16 t; omega⟩ n : S16384x1024.Idx)
      = norm (kept (fun k => rowsOf (m ((c : Thread nD τ).loc main_arg0)) (ix2 ⟨1024 * t.val + r.val, by have := lt16 t; omega⟩ k))
          (fun k f => (m ((c : Thread nD τ).loc main_arg1) : S1024x2816.Idx → EReal) (ix2 k f)) (fun k f => (m ((c : Thread nD τ).loc main_arg2) : S1024x2816.Idx → EReal) (ix2 k f))
          (fun f n => (m ((c : Thread nD τ).loc main_arg3) : S2816x1024.Idx → EReal) (ix2 f n)))
        (fun n => (m ((c : Thread nD τ).loc main_arg4) : S2x1024.Idx → EReal) (ix2 1 n)) (fun n => (m ((c : Thread nD τ).loc main_arg5) : S2x1024.Idx → EReal) (ix2 1 n)) n := by
  refine (result_block m c t r n).trans ?_
  have h0 := blk_rows m c t r
  have h1 := blk_gate m c t
  have h2 := blk_up m c t
  have h3 := blk_down m c t
  have h4 := blk_scale m c t
  have h5 := blk_shift m c t
  generalize iblk m c 0 t = y0 at *
  generalize iblk m c 1 t = y1 at *
  generalize iblk m c 2 t = y2 at *
  generalize iblk m c 3 t = y3 at *
  generalize iblk m c 4 t = y4 at *
  generalize iblk m c 5 t = y5 at *
  refine (out_apply y0 y1 y2 y3 y4 y5 r n).trans ?_
  exact congr (congrArg₂ (fun u v => norm u v) (kept_eq (fun k => h0 k) (fun k f => h1 k f) (fun k f => h2 k f) fun f n => h3 f n) (funext fun n => h4 n)) (funext fun n => h5 n) |> fun e => congrFun e n

end Points

/-! ## The gate -/

/-- With finite rows and gate weights the kernel's values are the reference's. -/
theorem kept_resid (x : Fin 1024 → EReal) (wg wu : Fin 1024 → Fin 2816 → EReal) (wd : Fin 2816 → Fin 1024 → EReal) (hx : ∀ k, IsFin (x k)) (hw : ∀ k f, IsFin (wg k f)) :
    kept x wg wu wd = resid x wg wu wd := by
  funext n
  unfold kept resid
  refine congrArg _ (Finset.sum_congr rfl fun f _ => ?_)
  obtain ⟨r, hr⟩ : IsFin (∑ i : Fin 1024, x i * wg i f) := IsFin.sum _ _ fun i => (hx i).mul (hw i f)
  unfold lane silu
  rw [hr, gate_coe]

section Pre
open Cert.Pre_finite_gate Cert.Pre_finite_gate.Gen

/-- What the precondition gives: finite gate weights. -/
theorem fin_of_pre (x : FVec Ideal Cert.Pre_finite_gate.S2x8192x1024 .f32) (wg wu : FVec Ideal Cert.Pre_finite_gate.S1024x2816 .f32) (wd : FVec Ideal Cert.Pre_finite_gate.S2816x1024 .f32)
    (g b : FVec Ideal Cert.Pre_finite_gate.S2x1024 .f32) (h : Cert.Pre_finite_gate.fn (F := Ideal) x wg wu wd g b = fun _ => 1#1) (k : Fin 1024) (f : Fin 2816) : IsFin (wg (ix2 k f)) :=
  fin_of_abs _ (congrFun h (ix2 k f))

end Pre

theorem row_split (j : S16384x1024.Idx) : ∃ (t : Fin cfg0.N) (r n : Fin 1024), j = ix2 ⟨1024 * t.val + r.val, by have := lt16 t; omega⟩ n := by
  have h0 : (j 0).val < 16384 := (j 0).isLt
  refine ⟨⟨(j 0).val / 1024, lt_of_lt_of_eq (by omega : (j 0).val / 1024 < 16) N_0.symm⟩, ⟨(j 0).val % 1024, by omega⟩, j 1, funext fun a => ?_⟩
  fin_cases a
  · exact Fin.ext (show (j 0).val = 1024 * ((j 0).val / 1024) + (j 0).val % 1024 by omega)
  · rfl

/-- With finite gate weights a row's layer norm is one and the same over the kernel's values and over the reference's. -/
theorem norm_eq (x : Fin 1024 → EReal) (wg wu : Fin 1024 → Fin 2816 → EReal) (wd : Fin 2816 → Fin 1024 → EReal) (g b : Fin 1024 → EReal) (hw : ∀ k f, IsFin (wg k f)) (n : Fin 1024) :
    norm (kept x wg wu wd) g b n = norm (resid x wg wu wd) g b n := by
  by_cases hx : ∀ k, IsFin (x k)
  · rw [kept_resid x wg wu wd hx hw]
  · obtain ⟨k, hk⟩ := not_forall.mp hx
    have hi := (fin_or_inf (x k)).resolve_left hk
    rw [norm_inf (y := kept x wg wu wd) (k := k) (resid_inf hi _), norm_inf (y := resid x wg wu wd) (k := k) (resid_inf hi _)]

/-- Under the precondition the kernel's result is the reference's. -/
theorem result_eq (m : (ℓ : Loc nD τ sig) → Buf (Elt Ideal) ℓ) (c : Dev nD)
    (hw : ∀ (k : Fin 1024) (f : Fin 2816), IsFin ((m ((c : Thread nD τ).loc main_arg1) : S1024x2816.Idx → EReal) (ix2 k f))) :
    (dats m 0 c).arrAt 6 cfg0.N
      = normArr (sumArr (rowsOf (m ((c : Thread nD τ).loc main_arg0))) (m ((c : Thread nD τ).loc main_arg1)) (m ((c : Thread nD τ).loc main_arg2)) (m ((c : Thread nD τ).loc main_arg3)))
        (m ((c : Thread nD τ).loc main_arg4)) (m ((c : Thread nD τ).loc main_arg5)) := by
  funext j
  obtain ⟨t, r, n, rfl⟩ := row_split j
  refine (result_at m c t r n).trans ?_
  rw [norm_eq _ _ _ _ _ _ hw]
  refine Eq.trans ?_ (normArr_apply _ _ _ _ _).symm
  rw [funext fun k => sumArr_apply (rowsOf (m ((c : Thread nD τ).loc main_arg0))) (m ((c : Thread nD τ).loc main_arg1)) (m ((c : Thread nD τ).loc main_arg2)) (m ((c : Thread nD τ).loc main_arg3)) ⟨1024 * t.val + r.val, by have := lt16 t; omega⟩ k]

end Cert.Ffn

end
-- ==== Proof.lean ====
/-
  The certificate: the sliding-window attention with sinks of the even layers, the experts' gated layer, and the dense
  feed-forward layer with its residual and layer norm. Each program terminates without fault and leaves its arguments and
  its semaphores as they were, and over the extended reals each kernel and its reference end with one result: the
  attention's for finite queries, keys and sinks, the experts' for rows dispatched by counts that fit and a finite gate,
  the dense layer's for a finite gate.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2Ideal.Skeleton
public import proofs.«01_k».proof.Proof.Gen.Kernel2Ideal.Launch
public import proofs.«01_k».proof.Proof.Gen.Kernel2.Launch
public import proofs.«01_k».proof.Proof.Gen.Pre_dispatched
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Pre_finite_gate
public import Idealize.ShloMosaic.Adequacy
public import Idealize.ShloMosaic.Init
public import Idealize.ShloMosaic.Lib.Quiescent
public import proofs.«01_k».proof.Proof.Final
public import proofs.«01_k».proof.Proof.ExpRun
public import proofs.«01_k».proof.Proof.ExpBits
public import proofs.«01_k».proof.Proof.ExpFinal
public import proofs.«01_k».proof.Proof.FfnFinal

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree on the arguments, with finite queries, keys and sinks, the kernel and the reference end with
    one result. -/
theorem algebraic_pre : algebraic_KernelIdeal_ReferenceIdeal_pre_finite_scores (hKernelIdeal := Cert.KernelIdeal.Gen.facts)
    (hReferenceIdeal := Cert.ReferenceIdeal.Gen.facts) (hPre_finite_scores := Cert.Swa.preFacts) := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  refine Eq.trans ?_ (Cert.Swa.result_eq m c (Cert.Swa.finArgs m c (hpre c))).symm
  refine (Cert.SwaRef.res_eq (F := Ideal) m' c).trans ?_
  rw [(hagree c).1, (hagree c).2]

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- From memories that agree on the arguments, with dispatched rows, counts that fit and a finite gate, the experts'
    kernel and their reference end with one result. -/
theorem algebraic_experts : algebraic_Kernel2Ideal_Reference2Ideal_pre_dispatched (hKernel2Ideal := Cert.Kernel2Ideal.Gen.facts)
    (hReference2Ideal := Cert.Reference2Ideal.Gen.facts) (hPre_dispatched := Cert.Pre_dispatched.Gen.facts) := by
  intro m ρ m' ρ' hpre hagree
  refine ⟨_, Cert.Experts.run_out (F := Ideal) m ρ, ?_⟩
  refine (θ_run Cert.Reference2Ideal.defs _ _).mono (fun _ h c => ⟨?_, (h c).2⟩) (Cert.Experts.total_run m' ρ')
  rw [(h c).1]
  refine Eq.trans ?_ (Cert.Experts.result_eq m c _ (Cert.Experts.good_of _ _ _ _ _ (hpre c))).symm
  rw [(hagree c).1, (hagree c).2.1, (hagree c).2.2.1, (hagree c).2.2.2.1, (hagree c).2.2.2.2]

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- From memories that agree on the arguments, with a finite gate, the dense feed-forward kernel and its reference
    end with one result. -/
theorem algebraic_ffn : algebraic_Kernel3Ideal_Reference3Ideal_pre_finite_gate (hKernel3Ideal := Cert.Kernel3Ideal.Gen.facts)
    (hReference3Ideal := Cert.Reference3Ideal.Gen.facts) (hPre_finite_gate := Cert.Pre_finite_gate.Gen.facts) := by
  intro m ρ m' ρ' hpre hagree
  refine ⟨_, Cert.Kernel3Ideal.Value.run_blocks (F := Ideal) m ρ, ?_⟩
  refine (θ_run Cert.Reference3Ideal.defs _ _).mono (fun _ h c => ⟨?_, (h c).2⟩) (Cert.Ffn.ref_run m' ρ')
  rw [(h c).1]
  refine Eq.trans ?_ (Cert.Ffn.result_eq m c (Cert.Ffn.fin_of_pre _ _ _ _ _ _ (hpre c))).symm
  rw [(hagree c).1, (hagree c).2.1, (hagree c).2.2.1, (hagree c).2.2.2.1, (hagree c).2.2.2.2.1, (hagree c).2.2.2.2.2]

/-- The claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Swa.preFacts, Cert.Pre_dispatched.Gen.facts, Cert.Pre_finite_gate.Gen.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  Cert.Experts.frame_bits, fun m ρ _ => Cert.Experts.frame (F := Ideal) m ρ, fun m ρ _ => Cert.Experts.frame (F := Ideal) m ρ,
  quiescent_Reference2Ideal, fun m ρ _ => quiescent_Reference2Ideal m ρ trivial,
  fun m ρ _ => Cert.Kernel3.Gen.frame m ρ, fun m ρ _ => Cert.Kernel3Ideal.Gen.frame m ρ, fun m ρ _ => Cert.Kernel3Ideal.Gen.frame m ρ,
  quiescent_Reference3Ideal, fun m ρ _ => quiescent_Reference3Ideal m ρ trivial,
  (trivial : preserves_Kernel_KernelIdeal), algebraic_pre, (trivial : preserves_Kernel2_Kernel2Ideal), algebraic_experts,
  (trivial : preserves_Kernel3_Kernel3Ideal), algebraic_ffn⟩

end Cert.Proof

end
